-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2 = (fun _ => 1#1)

def Pre_Kernel3 [hPre_tiles : Cert.Pre_tiles.Facts] (m : (ℓ : Loc Cert.Kernel3.nD Cert.Kernel3.τ Cert.Kernel3.sig) → Buf (Elt Bits) ℓ) : Prop :=
  ∀ c : Dev Cert.Kernel3.nD,
    (Cert.Pre_tiles.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7))).1 = (fun _ => 1#1)
    ∧ (Cert.Pre_tiles.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7))).2.1 = (fun _ => 1#1)
    ∧ (Cert.Pre_tiles.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7))).2.2.1 = (fun _ => 1#1)
    ∧ (Cert.Pre_tiles.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7))).2.2.2.1 = (fun _ => 1#1)
    ∧ (Cert.Pre_tiles.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7))).2.2.2.2.1 = (fun _ => 1#1)
    ∧ (Cert.Pre_tiles.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7))).2.2.2.2.2 = (fun _ => 1#1)

def Pre_Kernel3Ideal [hPre_tiles : Cert.Pre_tiles.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_tiles.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).1 = (fun _ => 1#1)
    ∧ (Cert.Pre_tiles.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.1 = (fun _ => 1#1)
    ∧ (Cert.Pre_tiles.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.1 = (fun _ => 1#1)
    ∧ (Cert.Pre_tiles.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.1 = (fun _ => 1#1)
    ∧ (Cert.Pre_tiles.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.1 = (fun _ => 1#1)
    ∧ (Cert.Pre_tiles.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.2 = (fun _ => 1#1)

def Pre_Kernel3Ideal_routed [hPre_routed : Cert.Pre_routed.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_routed.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).1 = (fun _ => 1#1)
    ∧ (Cert.Pre_routed.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.1 = (fun _ => 1#1)
    ∧ (Cert.Pre_routed.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.1 = (fun _ => 1#1)
    ∧ (Cert.Pre_routed.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.1 = (fun _ => 1#1)
    ∧ (Cert.Pre_routed.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.1 = (fun _ => 1#1)
    ∧ (Cert.Pre_routed.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.2.1 = (fun _ => 1#1)
    ∧ (Cert.Pre_routed.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.2.2.1 = (fun _ => 1#1)
    ∧ (Cert.Pre_routed.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_routed [hPre_routed : Cert.Pre_routed.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_routed.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).1 = (fun _ => 1#1)
    ∧ (Cert.Pre_routed.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.1 = (fun _ => 1#1)
    ∧ (Cert.Pre_routed.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.1 = (fun _ => 1#1)
    ∧ (Cert.Pre_routed.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.1 = (fun _ => 1#1)
    ∧ (Cert.Pre_routed.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.1 = (fun _ => 1#1)
    ∧ (Cert.Pre_routed.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.2.1 = (fun _ => 1#1)
    ∧ (Cert.Pre_routed.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.2.2.1 = (fun _ => 1#1)
    ∧ (Cert.Pre_routed.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] [hPre_tiles : Cert.Pre_tiles.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] [hPre_tiles : Cert.Pre_tiles.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_routed [hKernel3Ideal : Cert.Kernel3Ideal.Facts] [hPre_routed : Cert.Pre_routed.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_routed m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_routed [hReference3Ideal : Cert.Reference3Ideal.Facts] [hPre_routed : Cert.Pre_routed.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_routed m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  IdealRules.named_const.Statement Cert.KernelIdeal.κ "qscale" .f32 0x3E16C740#32 (((3424635 / 33554432) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  IdealRules.named_const.Statement Cert.Kernel2Ideal.κ "qscale" .f32 0x3E38AA3B#32 (((1 / 8) * (Real.log 2)⁻¹ : ℝ) : EReal)

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v18)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_routed [hKernel3Ideal : Cert.Kernel3Ideal.Facts] [hReference3Ideal : Cert.Reference3Ideal.Facts] [hPre_routed : Cert.Pre_routed.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_routed m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v53) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_finite2 : Cert.Pre_finite2.Facts) (hPre_tiles : Cert.Pre_tiles.Facts) (hPre_routed : Cert.Pre_routed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3) (hPre_tiles := hPre_tiles)
    ∧ quiescent_Kernel3Ideal (hKernel3Ideal := hKernel3Ideal) (hPre_tiles := hPre_tiles)
    ∧ quiescent_Kernel3Ideal_pre_routed (hKernel3Ideal := hKernel3Ideal) (hPre_routed := hPre_routed)
    ∧ quiescent_Reference3Ideal (hReference3Ideal := hReference3Ideal)
    ∧ quiescent_Reference3Ideal_pre_routed (hReference3Ideal := hReference3Ideal) (hPre_routed := hPre_routed)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_routed (hKernel3Ideal := hKernel3Ideal) (hReference3Ideal := hReference3Ideal) (hPre_routed := hPre_routed)
-- ==== Pre_finite.lean ====
abbrev S8x4096x8x96 : Shape := ⟨4, ![8, 4096, 8, 96]⟩
abbrev S8x256x8x96 : Shape := ⟨4, ![8, 256, 8, 96]⟩
abbrev S8x4096x8x64 : Shape := ⟨4, ![8, 4096, 8, 64]⟩
abbrev S8x256x8x64 : Shape := ⟨4, ![8, 256, 8, 64]⟩
abbrev S_ : Shape := ⟨0, ![]⟩

class Facts : Prop where
  bcast_S_S8x4096x8x96 : S_.BroadcastsInDim S8x4096x8x96 (![] : Fin 0 → Fin S8x4096x8x96.rank)
  bcast_S_S8x256x8x96 : S_.BroadcastsInDim S8x256x8x96 (![] : Fin 0 → Fin S8x256x8x96.rank)

variable [Facts]

def fn {F : FTy → Type} [FloatOps F] (main_arg0 : FVec F S8x4096x8x96 .f32) (main_arg1 : FVec F S8x256x8x96 .f32) (main_arg2 : FVec F S8x4096x8x96 .f32) (main_arg3 : FVec F S8x256x8x96 .f32) (main_arg4 : FVec F S8x4096x8x64 .f32) (main_arg5 : FVec F S8x256x8x64 .f32) : IVec S8x4096x8x96 1 × IVec S8x256x8x96 1 × IVec S8x4096x8x96 1 × IVec S8x256x8x96 1 :=
  let main_v0 : FVec F S8x4096x8x96 .f32 := Host.absf main_arg0
  let main_cst : FVec F S_ .f32 := constant S_ .f32 0x7F800000#32
  let main_v1 : FVec F S8x4096x8x96 .f32 := broadcastInDim S8x4096x8x96 ![] bcast_S_S8x4096x8x96 main_cst
  let main_v2 : IVec S8x4096x8x96 1 := cmpf .olt main_v0 main_v1
  let main_v3 : FVec F S8x256x8x96 .f32 := Host.absf main_arg1
  let main_cst_0 : FVec F S_ .f32 := constant S_ .f32 0x7F800000#32
  let main_v4 : FVec F S8x256x8x96 .f32 := broadcastInDim S8x256x8x96 ![] bcast_S_S8x256x8x96 main_cst_0
  let main_v5 : IVec S8x256x8x96 1 := cmpf .olt main_v3 main_v4
  let main_v6 : FVec F S8x4096x8x96 .f32 := Host.absf main_arg2
  let main_cst_1 : FVec F S_ .f32 := constant S_ .f32 0x7F800000#32
  let main_v7 : FVec F S8x4096x8x96 .f32 := broadcastInDim S8x4096x8x96 ![] bcast_S_S8x4096x8x96 main_cst_1
  let main_v8 : IVec S8x4096x8x96 1 := cmpf .olt main_v6 main_v7
  let main_v9 : FVec F S8x256x8x96 .f32 := Host.absf main_arg3
  let main_cst_2 : FVec F S_ .f32 := constant S_ .f32 0x7F800000#32
  let main_v10 : FVec F S8x256x8x96 .f32 := broadcastInDim S8x256x8x96 ![] bcast_S_S8x256x8x96 main_cst_2
  let main_v11 : IVec S8x256x8x96 1 := cmpf .olt main_v9 main_v10
  (main_v2, main_v5, main_v8, main_v11)
-- ==== Pre_finite2.lean ====
abbrev S8x4096x16x64 : Shape := ⟨4, ![8, 4096, 16, 64]⟩
abbrev S8x256x16x64 : Shape := ⟨4, ![8, 256, 16, 64]⟩
abbrev S8x4096x4x64 : Shape := ⟨4, ![8, 4096, 4, 64]⟩
abbrev S8x256x4x64 : Shape := ⟨4, ![8, 256, 4, 64]⟩
abbrev S_ : Shape := ⟨0, ![]⟩

class Facts : Prop where
  bcast_S_S8x4096x16x64 : S_.BroadcastsInDim S8x4096x16x64 (![] : Fin 0 → Fin S8x4096x16x64.rank)
  bcast_S_S8x256x16x64 : S_.BroadcastsInDim S8x256x16x64 (![] : Fin 0 → Fin S8x256x16x64.rank)
  bcast_S_S8x4096x4x64 : S_.BroadcastsInDim S8x4096x4x64 (![] : Fin 0 → Fin S8x4096x4x64.rank)
  bcast_S_S8x256x4x64 : S_.BroadcastsInDim S8x256x4x64 (![] : Fin 0 → Fin S8x256x4x64.rank)

variable [Facts]

def fn {F : FTy → Type} [FloatOps F] (main_arg0 : FVec F S8x4096x16x64 .f32) (main_arg1 : FVec F S8x256x16x64 .f32) (main_arg2 : FVec F S8x4096x4x64 .f32) (main_arg3 : FVec F S8x256x4x64 .f32) (main_arg4 : FVec F S8x4096x4x64 .f32) (main_arg5 : FVec F S8x256x4x64 .f32) : IVec S8x4096x16x64 1 × IVec S8x256x16x64 1 × IVec S8x4096x4x64 1 × IVec S8x256x4x64 1 :=
  let main_v0 : FVec F S8x4096x16x64 .f32 := Host.absf main_arg0
  let main_cst : FVec F S_ .f32 := constant S_ .f32 0x7F800000#32
  let main_v1 : FVec F S8x4096x16x64 .f32 := broadcastInDim S8x4096x16x64 ![] bcast_S_S8x4096x16x64 main_cst
  let main_v2 : IVec S8x4096x16x64 1 := cmpf .olt main_v0 main_v1
  let main_v3 : FVec F S8x256x16x64 .f32 := Host.absf main_arg1
  let main_cst_0 : FVec F S_ .f32 := constant S_ .f32 0x7F800000#32
  let main_v4 : FVec F S8x256x16x64 .f32 := broadcastInDim S8x256x16x64 ![] bcast_S_S8x256x16x64 main_cst_0
  let main_v5 : IVec S8x256x16x64 1 := cmpf .olt main_v3 main_v4
  let main_v6 : FVec F S8x4096x4x64 .f32 := Host.absf main_arg2
  let main_cst_1 : FVec F S_ .f32 := constant S_ .f32 0x7F800000#32
  let main_v7 : FVec F S8x4096x4x64 .f32 := broadcastInDim S8x4096x4x64 ![] bcast_S_S8x4096x4x64 main_cst_1
  let main_v8 : IVec S8x4096x4x64 1 := cmpf .olt main_v6 main_v7
  let main_v9 : FVec F S8x256x4x64 .f32 := Host.absf main_arg3
  let main_cst_2 : FVec F S_ .f32 := constant S_ .f32 0x7F800000#32
  let main_v10 : FVec F S8x256x4x64 .f32 := broadcastInDim S8x256x4x64 ![] bcast_S_S8x256x4x64 main_cst_2
  let main_v11 : IVec S8x256x4x64 1 := cmpf .olt main_v9 main_v10
  (main_v2, main_v5, main_v8, main_v11)
-- ==== Pre_routed.lean ====
abbrev S40960x1024 : Shape := ⟨2, ![40960, 1024]⟩
abbrev S160 : Shape := ⟨1, ![160]⟩
abbrev S1 : Shape := ⟨1, ![1]⟩
abbrev S1024x16 : Shape := ⟨2, ![1024, 16]⟩
abbrev S16x1024x512 : Shape := ⟨3, ![16, 1024, 512]⟩
abbrev S16x512x1024 : Shape := ⟨3, ![16, 512, 1024]⟩
abbrev S_ : Shape := ⟨0, ![]⟩

class Facts : Prop where
  bcast_S_S160 : S_.BroadcastsInDim S160 (![] : Fin 0 → Fin S160.rank)
  bcast_S_S1 : S_.BroadcastsInDim S1 (![] : Fin 0 → Fin S1.rank)
  bcast_S_S40960x1024 : S_.BroadcastsInDim S40960x1024 (![] : Fin 0 → Fin S40960x1024.rank)
  bcast_S_S1024x16 : S_.BroadcastsInDim S1024x16 (![] : Fin 0 → Fin S1024x16.rank)

variable [Facts]

def fn_part1 {F : FTy → Type} [FloatOps F] (main_v1 : IVec S160 1) (main_v3 : IVec S160 1) (main_v5 : IVec S160 1) (main_v7 : IVec S160 1) (main_v9 : IVec S1 1) (main_v11 : IVec S1 1) (main_v14 : IVec S40960x1024 1) (main_v15 : FVec F S1024x16 .f32) (main_cst_5 : FVec F S_ .f32) : IVec S160 1 × IVec S160 1 × IVec S160 1 × IVec S160 1 × IVec S1 1 × IVec S1 1 × IVec S40960x1024 1 × IVec S1024x16 1 :=
  let main_v16 : FVec F S1024x16 .f32 := broadcastInDim S1024x16 ![] bcast_S_S1024x16 main_cst_5
  let main_v17 : IVec S1024x16 1 := cmpf .olt main_v15 main_v16
  (main_v1, main_v3, main_v5, main_v7, main_v9, main_v11, main_v14, main_v17)

def fn {F : FTy → Type} [FloatOps F] (main_arg0 : FVec F S40960x1024 .f32) (main_arg1 : IVec S160 32) (main_arg2 : IVec S160 32) (main_arg3 : IVec S1 32) (main_arg4 : FVec F S1024x16 .f32) (main_arg5 : FVec F S16x1024x512 .f32) (main_arg6 : FVec F S16x1024x512 .f32) (main_arg7 : FVec F S16x512x1024 .f32) : IVec S160 1 × IVec S160 1 × IVec S160 1 × IVec S160 1 × IVec S1 1 × IVec S1 1 × IVec S40960x1024 1 × IVec S1024x16 1 :=
  let main_c : IVec S_ 32 := constantI S_ 32 0#32
  let main_v0 : IVec S160 32 := broadcastInDim S160 ![] bcast_S_S160 main_c
  let main_v1 : IVec S160 1 := cmpi .sge main_arg1 main_v0
  let main_c_0 : IVec S_ 32 := constantI S_ 32 16#32
  let main_v2 : IVec S160 32 := broadcastInDim S160 ![] bcast_S_S160 main_c_0
  let main_v3 : IVec S160 1 := cmpi .slt main_arg1 main_v2
  let main_c_1 : IVec S_ 32 := constantI S_ 32 0#32
  let main_v4 : IVec S160 32 := broadcastInDim S160 ![] bcast_S_S160 main_c_1
  let main_v5 : IVec S160 1 := cmpi .sge main_arg2 main_v4
  let main_c_2 : IVec S_ 32 := constantI S_ 32 16#32
  let main_v6 : IVec S160 32 := broadcastInDim S160 ![] bcast_S_S160 main_c_2
  let main_v7 : IVec S160 1 := cmpi .slt main_arg2 main_v6
  let main_c_3 : IVec S_ 32 := constantI S_ 32 1#32
  let main_v8 : IVec S1 32 := broadcastInDim S1 ![] bcast_S_S1 main_c_3
  let main_v9 : IVec S1 1 := cmpi .sge main_arg3 main_v8
  let main_c_4 : IVec S_ 32 := constantI S_ 32 160#32
  let main_v10 : IVec S1 32 := broadcastInDim S1 ![] bcast_S_S1 main_c_4
  let main_v11 : IVec S1 1 := cmpi .sle main_arg3 main_v10
  let main_v12 : FVec F S40960x1024 .f32 := Host.absf main_arg0
  let main_cst : FVec F S_ .f32 := constant S_ .f32 0x7F800000#32
  let main_v13 : FVec F S40960x1024 .f32 := broadcastInDim S40960x1024 ![] bcast_S_S40960x1024 main_cst
  let main_v14 : IVec S40960x1024 1 := cmpf .olt main_v12 main_v13
  let main_v15 : FVec F S1024x16 .f32 := Host.absf main_arg4
  let main_cst_5 : FVec F S_ .f32 := constant S_ .f32 0x7F800000#32
  fn_part1 (F := F) main_v1 main_v3 main_v5 main_v7 main_v9 main_v11 main_v14 main_v15 main_cst_5
-- ==== Pre_tiles.lean ====
abbrev S40960x1024 : Shape := ⟨2, ![40960, 1024]⟩
abbrev S160 : Shape := ⟨1, ![160]⟩
abbrev S1 : Shape := ⟨1, ![1]⟩
abbrev S1024x16 : Shape := ⟨2, ![1024, 16]⟩
abbrev S16x1024x512 : Shape := ⟨3, ![16, 1024, 512]⟩
abbrev S16x512x1024 : Shape := ⟨3, ![16, 512, 1024]⟩
abbrev S_ : Shape := ⟨0, ![]⟩

class Facts : Prop where
  bcast_S_S160 : S_.BroadcastsInDim S160 (![] : Fin 0 → Fin S160.rank)
  bcast_S_S1 : S_.BroadcastsInDim S1 (![] : Fin 0 → Fin S1.rank)

variable [Facts]

def fn {F : FTy → Type} [FloatOps F] (main_arg0 : FVec F S40960x1024 .f32) (main_arg1 : IVec S160 32) (main_arg2 : IVec S160 32) (main_arg3 : IVec S1 32) (main_arg4 : FVec F S1024x16 .f32) (main_arg5 : FVec F S16x1024x512 .f32) (main_arg6 : FVec F S16x1024x512 .f32) (main_arg7 : FVec F S16x512x1024 .f32) : IVec S160 1 × IVec S160 1 × IVec S160 1 × IVec S160 1 × IVec S1 1 × IVec S1 1 :=
  let main_c : IVec S_ 32 := constantI S_ 32 0#32
  let main_v0 : IVec S160 32 := broadcastInDim S160 ![] bcast_S_S160 main_c
  let main_v1 : IVec S160 1 := cmpi .sge main_arg1 main_v0
  let main_c_0 : IVec S_ 32 := constantI S_ 32 16#32
  let main_v2 : IVec S160 32 := broadcastInDim S160 ![] bcast_S_S160 main_c_0
  let main_v3 : IVec S160 1 := cmpi .slt main_arg1 main_v2
  let main_c_1 : IVec S_ 32 := constantI S_ 32 0#32
  let main_v4 : IVec S160 32 := broadcastInDim S160 ![] bcast_S_S160 main_c_1
  let main_v5 : IVec S160 1 := cmpi .sge main_arg2 main_v4
  let main_c_2 : IVec S_ 32 := constantI S_ 32 16#32
  let main_v6 : IVec S160 32 := broadcastInDim S160 ![] bcast_S_S160 main_c_2
  let main_v7 : IVec S160 1 := cmpi .slt main_arg2 main_v6
  let main_c_3 : IVec S_ 32 := constantI S_ 32 1#32
  let main_v8 : IVec S1 32 := broadcastInDim S1 ![] bcast_S_S1 main_c_3
  let main_v9 : IVec S1 1 := cmpi .sge main_arg3 main_v8
  let main_c_4 : IVec S_ 32 := constantI S_ 32 160#32
  let main_v10 : IVec S1 32 := broadcastInDim S1 ![] bcast_S_S1 main_c_4
  let main_v11 : IVec S1 1 := cmpi .sle main_arg3 main_v10
  (main_v1, main_v3, main_v5, main_v7, main_v9, main_v11)
-- ==== Kernel.lean ====
abbrev S8x4096x8x96 : Shape := ⟨4, ![8, 4096, 8, 96]⟩
abbrev S8x256x8x96 : Shape := ⟨4, ![8, 256, 8, 96]⟩
abbrev S8x4096x8x64 : Shape := ⟨4, ![8, 4096, 8, 64]⟩
abbrev S8x256x8x64 : Shape := ⟨4, ![8, 256, 8, 64]⟩
abbrev S_ : Shape := ⟨0, ![]⟩
abbrev S34816x8x32 : Shape := ⟨3, ![34816, 8, 32]⟩
abbrev S32768x8x96 : Shape := ⟨3, ![32768, 8, 96]⟩
abbrev S2048x8x96 : Shape := ⟨3, ![2048, 8, 96]⟩
abbrev S34816x8x96 : Shape := ⟨3, ![34816, 8, 96]⟩
abbrev S34816x8x128 : Shape := ⟨3, ![34816, 8, 128]⟩
abbrev S34816x1024 : Shape := ⟨2, ![34816, 1024]⟩
abbrev S1024x34816 : Shape := ⟨2, ![1024, 34816]⟩
abbrev S8x34816x128 : Shape := ⟨3, ![8, 34816, 128]⟩
abbrev S32768x8x64 : Shape := ⟨3, ![32768, 8, 64]⟩
abbrev S2048x8x64 : Shape := ⟨3, ![2048, 8, 64]⟩
abbrev S34816x8x64 : Shape := ⟨3, ![34816, 8, 64]⟩
abbrev S34816x512 : Shape := ⟨2, ![34816, 512]⟩
abbrev S512x34816 : Shape := ⟨2, ![512, 34816]⟩
abbrev S1024x256 : Shape := ⟨2, ![1024, 256]⟩
abbrev S8x256x128 : Shape := ⟨3, ![8, 256, 128]⟩
abbrev S8x4096x128 : Shape := ⟨3, ![8, 4096, 128]⟩
abbrev S512x256 : Shape := ⟨2, ![512, 256]⟩
abbrev S512x4096 : Shape := ⟨2, ![512, 4096]⟩
abbrev S4352x256 : Shape := ⟨2, ![4352, 256]⟩
abbrev S128x256 : Shape := ⟨2, ![128, 256]⟩
abbrev S1x256x128 : Shape := ⟨3, ![1, 256, 128]⟩
abbrev S256x128 : Shape := ⟨2, ![256, 128]⟩
abbrev S256x256 : Shape := ⟨2, ![256, 256]⟩
abbrev S256 : Shape := ⟨1, ![256]⟩
abbrev S1x256 : Shape := ⟨2, ![1, 256]⟩
abbrev S64x256 : Shape := ⟨2, ![64, 256]⟩
abbrev S1x512x128 : Shape := ⟨3, ![1, 512, 128]⟩
abbrev S512x128 : Shape := ⟨2, ![512, 128]⟩
abbrev S64x512 : Shape := ⟨2, ![64, 512]⟩

abbrev nBuf : Space → Nat
  | .hbm => 27
  | .vmem => 14
  | .smem => 0
  | _ => 0

abbrev bufTy : (tb : Table) → Fin (tcTables nBuf tb) → BufTy
  | .hbm, ⟨0, _⟩ => ⟨S8x4096x8x96, .f32⟩
  | .hbm, ⟨1, _⟩ => ⟨S8x256x8x96, .f32⟩
  | .hbm, ⟨2, _⟩ => ⟨S8x4096x8x96, .f32⟩
  | .hbm, ⟨3, _⟩ => ⟨S8x256x8x96, .f32⟩
  | .hbm, ⟨4, _⟩ => ⟨S8x4096x8x64, .f32⟩
  | .hbm, ⟨5, _⟩ => ⟨S8x256x8x64, .f32⟩
  | .hbm, ⟨6, _⟩ => ⟨S_, .f32⟩
  | .hbm, ⟨7, _⟩ => ⟨S34816x8x32, .f32⟩
  | .hbm, ⟨8, _⟩ => ⟨S32768x8x96, .f32⟩
  | .hbm, ⟨9, _⟩ => ⟨S2048x8x96, .f32⟩
  | .hbm, ⟨10, _⟩ => ⟨S34816x8x96, .f32⟩
  | .hbm, ⟨11, _⟩ => ⟨S34816x8x128, .f32⟩
  | .hbm, ⟨12, _⟩ => ⟨S34816x1024, .f32⟩
  | .hbm, ⟨13, _⟩ => ⟨S1024x34816, .f32⟩
  | .hbm, ⟨14, _⟩ => ⟨S32768x8x96, .f32⟩
  | .hbm, ⟨15, _⟩ => ⟨S2048x8x96, .f32⟩
  | .hbm, ⟨16, _⟩ => ⟨S34816x8x96, .f32⟩
  | .hbm, ⟨17, _⟩ => ⟨S34816x8x128, .f32⟩
  | .hbm, ⟨18, _⟩ => ⟨S8x34816x128, .f32⟩
  | .hbm, ⟨19, _⟩ => ⟨S8x34816x128, .bf16⟩
  | .hbm, ⟨20, _⟩ => ⟨S32768x8x64, .f32⟩
  | .hbm, ⟨21, _⟩ => ⟨S2048x8x64, .f32⟩
  | .hbm, ⟨22, _⟩ => ⟨S34816x8x64, .f32⟩
  | .hbm, ⟨23, _⟩ => ⟨S34816x512, .f32⟩
  | .hbm, ⟨24, _⟩ => ⟨S512x34816, .f32⟩
  | .hbm, ⟨25, _⟩ => ⟨S512x34816, .bf16⟩
  | .hbm, ⟨26, _⟩ => ⟨S512x34816, .bf16⟩
  | .local _ .vmem, ⟨0, _⟩ => ⟨S1024x256, .f32⟩
  | .local _ .vmem, ⟨1, _⟩ => ⟨S1024x256, .f32⟩
  | .local _ .vmem, ⟨2, _⟩ => ⟨S8x256x128, .bf16⟩
  | .local _ .vmem, ⟨3, _⟩ => ⟨S8x256x128, .bf16⟩
  | .local _ .vmem, ⟨4, _⟩ => ⟨S8x4096x128, .bf16⟩
  | .local _ .vmem, ⟨5, _⟩ => ⟨S8x4096x128, .bf16⟩
  | .local _ .vmem, ⟨6, _⟩ => ⟨S512x256, .bf16⟩
  | .local _ .vmem, ⟨7, _⟩ => ⟨S512x256, .bf16⟩
  | .local _ .vmem, ⟨8, _⟩ => ⟨S512x4096, .bf16⟩
  | .local _ .vmem, ⟨9, _⟩ => ⟨S512x4096, .bf16⟩
  | .local _ .vmem, ⟨10, _⟩ => ⟨S512x256, .bf16⟩
  | .local _ .vmem, ⟨11, _⟩ => ⟨S512x256, .bf16⟩
  | .local _ .vmem, ⟨12, _⟩ => ⟨S4352x256, .f32⟩
  | .local _ .vmem, ⟨13, _⟩ => ⟨S4352x256, .f32⟩
  | _, _ => ⟨S8x4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 1, 17], ![false, false, false]⟩

def k0_cond1 (i : grid0.Coords) : BitVec 1 :=
  let arg2 : BitVec 32 := BitVec.ofNat 32 (i 2).val
  let c16_i32 : BitVec 32 := 16#32
  let v0 : BitVec 1 := Scalar.cmpi .eq arg2 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg2 : BitVec 32 := BitVec.ofNat 32 (i 2).val
  let c16_i32_0 : BitVec 32 := 16#32
  let v3 : BitVec 1 := Scalar.cmpi .slt arg2 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 1 := Scalar.cmpi .eq arg2 c16_i32
  let c128_i32 : BitVec 32 := 128#32
  let v1 : BitVec 32 := Scalar.addi c128_i32 arg0
  let c16_i32_0 : BitVec 32 := 16#32
  let v2 : BitVec 32 := Scalar.muli arg0 c16_i32_0
  let v3 : BitVec 32 := Scalar.addi v2 arg2
  let v4 : BitVec 32 := Scalar.select v0 v1 v3
  let c0_i32 : BitVec 32 := 0#32
  ![arg1.toNat, v4.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg0
  let c0_i32 : BitVec 32 := 0#32
  let c0_i32_0 : BitVec 32 := 0#32
  ![arg1.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 1 := Scalar.cmpi .eq arg2 c16_i32
  let c128_i32 : BitVec 32 := 128#32
  let v1 : BitVec 32 := Scalar.addi c128_i32 arg0
  let c16_i32_0 : BitVec 32 := 16#32
  let v2 : BitVec 32 := Scalar.muli arg0 c16_i32_0
  let v3 : BitVec 32 := Scalar.addi v2 arg2
  let v4 : BitVec 32 := Scalar.select v0 v1 v3
  let c0_i32 : BitVec 32 := 0#32
  ![arg1.toNat, v4.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "qscale" => some (((3424635 / 33554432) * (Real.log 2)⁻¹ : ℝ) : EReal)
  | _ => none
-- ==== ReferenceIdeal.lean ====
abbrev S8x4096x8x96 : Shape := ⟨4, ![8, 4096, 8, 96]⟩
abbrev S8x256x8x96 : Shape := ⟨4, ![8, 256, 8, 96]⟩
abbrev S8x4096x8x64 : Shape := ⟨4, ![8, 4096, 8, 64]⟩
abbrev S8x256x8x64 : Shape := ⟨4, ![8, 256, 8, 64]⟩
abbrev S_ : Shape := ⟨0, ![]⟩
abbrev S8x4096x8x1x96 : Shape := ⟨5, ![8, 4096, 8, 1, 96]⟩
abbrev S8x256x8x1x96 : Shape := ⟨5, ![8, 256, 8, 1, 96]⟩
abbrev S8x4352x8x96 : Shape := ⟨4, ![8, 4352, 8, 96]⟩
abbrev S8x4352x8x64 : Shape := ⟨4, ![8, 4352, 8, 64]⟩
abbrev S8x8x4352x4096x1 : Shape := ⟨5, ![8, 8, 4352, 4096, 1]⟩
abbrev S8x8x1x4096x4352 : Shape := ⟨5, ![8, 8, 1, 4096, 4352]⟩
abbrev S8x8x1x4096 : Shape := ⟨4, ![8, 8, 1, 4096]⟩
abbrev S8x8x1x4096x1 : Shape := ⟨5, ![8, 8, 1, 4096, 1]⟩
abbrev S8x8x64x1x4096 : Shape := ⟨5, ![8, 8, 64, 1, 4096]⟩
abbrev S8x4096x8x1x64 : Shape := ⟨5, ![8, 4096, 8, 1, 64]⟩
abbrev S32768x512 : Shape := ⟨2, ![32768, 512]⟩
abbrev S8x8x256x256x1 : Shape := ⟨5, ![8, 8, 256, 256, 1]⟩
abbrev S8x8x1x256x256 : Shape := ⟨5, ![8, 8, 1, 256, 256]⟩
abbrev S8x8x1x256 : Shape := ⟨4, ![8, 8, 1, 256]⟩
abbrev S8x8x1x256x1 : Shape := ⟨5, ![8, 8, 1, 256, 1]⟩
abbrev S8x8x64x1x256 : Shape := ⟨5, ![8, 8, 64, 1, 256]⟩
abbrev S8x256x8x1x64 : Shape := ⟨5, ![8, 256, 8, 1, 64]⟩
abbrev S2048x512 : Shape := ⟨2, ![2048, 512]⟩
abbrev S34816x512 : Shape := ⟨2, ![34816, 512]⟩
abbrev S512x34816 : Shape := ⟨2, ![512, 34816]⟩

abbrev nBuf : Space → Nat
  | .hbm => 57
  | .vmem => 0
  | .smem => 0
  | _ => 0

abbrev bufTy : (tb : Table) → Fin (tcTables nBuf tb) → BufTy
  | .hbm, ⟨0, _⟩ => ⟨S8x4096x8x96, .f32⟩
  | .hbm, ⟨1, _⟩ => ⟨S8x256x8x96, .f32⟩
  | .hbm, ⟨2, _⟩ => ⟨S8x4096x8x96, .f32⟩
  | .hbm, ⟨3, _⟩ => ⟨S8x256x8x96, .f32⟩
  | .hbm, ⟨4, _⟩ => ⟨S8x4096x8x64, .f32⟩
  | .hbm, ⟨5, _⟩ => ⟨S8x256x8x64, .f32⟩
  | .hbm, ⟨6, _⟩ => ⟨S_, .f32⟩
  | .hbm, ⟨7, _⟩ => ⟨S8x4096x8x96, .f32⟩
  | .hbm, ⟨8, _⟩ => ⟨S8x4096x8x96, .f32⟩
  | .hbm, ⟨9, _⟩ => ⟨S8x4096x8x1x96, .f32⟩
  | .hbm, ⟨10, _⟩ => ⟨S_, .f32⟩
  | .hbm, ⟨11, _⟩ => ⟨S8x256x8x96, .f32⟩
  | .hbm, ⟨12, _⟩ => ⟨S8x256x8x96, .f32⟩
  | .hbm, ⟨13, _⟩ => ⟨S8x256x8x1x96, .f32⟩
  | .hbm, ⟨14, _⟩ => ⟨S8x4352x8x96, .f32⟩
  | .hbm, ⟨15, _⟩ => ⟨S8x4352x8x64, .f32⟩
  | .hbm, ⟨16, _⟩ => ⟨S8x8x4352x4096x1, .f32⟩
  | .hbm, ⟨17, _⟩ => ⟨S8x8x1x4096x4352, .f32⟩
  | .hbm, ⟨18, _⟩ => ⟨S_, .f32⟩
  | .hbm, ⟨19, _⟩ => ⟨S8x8x1x4096, .f32⟩
  | .hbm, ⟨20, _⟩ => ⟨S_, .f32⟩
  | .hbm, ⟨21, _⟩ => ⟨S8x8x1x4096, .f32⟩
  | .hbm, ⟨22, _⟩ => ⟨S8x8x1x4096, .f32⟩
  | .hbm, ⟨23, _⟩ => ⟨S8x8x1x4096x1, .f32⟩
  | .hbm, ⟨24, _⟩ => ⟨S8x8x1x4096x4352, .f32⟩
  | .hbm, ⟨25, _⟩ => ⟨S8x8x1x4096x4352, .f32⟩
  | .hbm, ⟨26, _⟩ => ⟨S8x8x1x4096x4352, .f32⟩
  | .hbm, ⟨27, _⟩ => ⟨S_, .f32⟩
  | .hbm, ⟨28, _⟩ => ⟨S8x8x1x4096, .f32⟩
  | .hbm, ⟨29, _⟩ => ⟨S8x8x1x4096x1, .f32⟩
  | .hbm, ⟨30, _⟩ => ⟨S8x8x1x4096x4352, .f32⟩
  | .hbm, ⟨31, _⟩ => ⟨S8x8x1x4096x4352, .f32⟩
  | .hbm, ⟨32, _⟩ => ⟨S8x8x64x1x4096, .f32⟩
  | .hbm, ⟨33, _⟩ => ⟨S8x4096x8x1x64, .f32⟩
  | .hbm, ⟨34, _⟩ => ⟨S32768x512, .f32⟩
  | .hbm, ⟨35, _⟩ => ⟨S8x8x256x256x1, .f32⟩
  | .hbm, ⟨36, _⟩ => ⟨S8x8x1x256x256, .f32⟩
  | .hbm, ⟨37, _⟩ => ⟨S_, .f32⟩
  | .hbm, ⟨38, _⟩ => ⟨S8x8x1x256, .f32⟩
  | .hbm, ⟨39, _⟩ => ⟨S_, .f32⟩
  | .hbm, ⟨40, _⟩ => ⟨S8x8x1x256, .f32⟩
  | .hbm, ⟨41, _⟩ => ⟨S8x8x1x256, .f32⟩
  | .hbm, ⟨42, _⟩ => ⟨S8x8x1x256x1, .f32⟩
  | .hbm, ⟨43, _⟩ => ⟨S8x8x1x256x256, .f32⟩
  | .hbm, ⟨44, _⟩ => ⟨S8x8x1x256x256, .f32⟩
  | .hbm, ⟨45, _⟩ => ⟨S8x8x1x256x256, .f32⟩
  | .hbm, ⟨46, _⟩ => ⟨S_, .f32⟩
  | .hbm, ⟨47, _⟩ => ⟨S8x8x1x256, .f32⟩
  | .hbm, ⟨48, _⟩ => ⟨S8x8x1x256x1, .f32⟩
  | .hbm, ⟨49, _⟩ => ⟨S8x8x1x256x256, .f32⟩
  | .hbm, ⟨50, _⟩ => ⟨S8x8x1x256x256, .f32⟩
  | .hbm, ⟨51, _⟩ => ⟨S8x8x64x1x256, .f32⟩
  | .hbm, ⟨52, _⟩ => ⟨S8x256x8x1x64, .f32⟩
  | .hbm, ⟨53, _⟩ => ⟨S2048x512, .f32⟩
  | .hbm, ⟨54, _⟩ => ⟨S34816x512, .f32⟩
  | .hbm, ⟨55, _⟩ => ⟨S512x34816, .f32⟩
  | .hbm, ⟨56, _⟩ => ⟨S512x34816, .bf16⟩
  | _, _ => ⟨S8x4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel2.lean ====
abbrev S8x4096x16x64 : Shape := ⟨4, ![8, 4096, 16, 64]⟩
abbrev S8x256x16x64 : Shape := ⟨4, ![8, 256, 16, 64]⟩
abbrev S8x4096x4x64 : Shape := ⟨4, ![8, 4096, 4, 64]⟩
abbrev S8x256x4x64 : Shape := ⟨4, ![8, 256, 4, 64]⟩
abbrev S_ : Shape := ⟨0, ![]⟩
abbrev S34816x4x64 : Shape := ⟨3, ![34816, 4, 64]⟩
abbrev S32768x16x64 : Shape := ⟨3, ![32768, 16, 64]⟩
abbrev S2048x16x64 : Shape := ⟨3, ![2048, 16, 64]⟩
abbrev S34816x16x64 : Shape := ⟨3, ![34816, 16, 64]⟩
abbrev S34816x1024 : Shape := ⟨2, ![34816, 1024]⟩
abbrev S1024x34816 : Shape := ⟨2, ![1024, 34816]⟩
abbrev S32768x4x64 : Shape := ⟨3, ![32768, 4, 64]⟩
abbrev S2048x4x64 : Shape := ⟨3, ![2048, 4, 64]⟩
abbrev S34816x4x128 : Shape := ⟨3, ![34816, 4, 128]⟩
abbrev S4x34816x128 : Shape := ⟨3, ![4, 34816, 128]⟩
abbrev S34816x256 : Shape := ⟨2, ![34816, 256]⟩
abbrev S256x34816 : Shape := ⟨2, ![256, 34816]⟩
abbrev S1024x256 : Shape := ⟨2, ![1024, 256]⟩
abbrev S4x256x128 : Shape := ⟨3, ![4, 256, 128]⟩
abbrev S4x4096x128 : Shape := ⟨3, ![4, 4096, 128]⟩
abbrev S256x256 : Shape := ⟨2, ![256, 256]⟩
abbrev S256x4096 : Shape := ⟨2, ![256, 4096]⟩
abbrev S4352x256 : Shape := ⟨2, ![4352, 256]⟩
abbrev S64x256 : Shape := ⟨2, ![64, 256]⟩
abbrev S1x256x64 : Shape := ⟨3, ![1, 256, 64]⟩
abbrev S256x64 : Shape := ⟨2, ![256, 64]⟩
abbrev S256 : Shape := ⟨1, ![256]⟩
abbrev S1x256 : Shape := ⟨2, ![1, 256]⟩
abbrev S1x512x64 : Shape := ⟨3, ![1, 512, 64]⟩
abbrev S512x64 : Shape := ⟨2, ![512, 64]⟩
abbrev S512x256 : Shape := ⟨2, ![512, 256]⟩
abbrev S64x512 : Shape := ⟨2, ![64, 512]⟩

abbrev nBuf : Space → Nat
  | .hbm => 26
  | .vmem => 14
  | .smem => 0
  | _ => 0

abbrev bufTy : (tb : Table) → Fin (tcTables nBuf tb) → BufTy
  | .hbm, ⟨0, _⟩ => ⟨S8x4096x16x64, .f32⟩
  | .hbm, ⟨1, _⟩ => ⟨S8x256x16x64, .f32⟩
  | .hbm, ⟨2, _⟩ => ⟨S8x4096x4x64, .f32⟩
  | .hbm, ⟨3, _⟩ => ⟨S8x256x4x64, .f32⟩
  | .hbm, ⟨4, _⟩ => ⟨S8x4096x4x64, .f32⟩
  | .hbm, ⟨5, _⟩ => ⟨S8x256x4x64, .f32⟩
  | .hbm, ⟨6, _⟩ => ⟨S_, .f32⟩
  | .hbm, ⟨7, _⟩ => ⟨S34816x4x64, .f32⟩
  | .hbm, ⟨8, _⟩ => ⟨S32768x16x64, .f32⟩
  | .hbm, ⟨9, _⟩ => ⟨S2048x16x64, .f32⟩
  | .hbm, ⟨10, _⟩ => ⟨S34816x16x64, .f32⟩
  | .hbm, ⟨11, _⟩ => ⟨S34816x1024, .f32⟩
  | .hbm, ⟨12, _⟩ => ⟨S1024x34816, .f32⟩
  | .hbm, ⟨13, _⟩ => ⟨S32768x4x64, .f32⟩
  | .hbm, ⟨14, _⟩ => ⟨S2048x4x64, .f32⟩
  | .hbm, ⟨15, _⟩ => ⟨S34816x4x64, .f32⟩
  | .hbm, ⟨16, _⟩ => ⟨S34816x4x128, .f32⟩
  | .hbm, ⟨17, _⟩ => ⟨S4x34816x128, .f32⟩
  | .hbm, ⟨18, _⟩ => ⟨S4x34816x128, .bf16⟩
  | .hbm, ⟨19, _⟩ => ⟨S32768x4x64, .f32⟩
  | .hbm, ⟨20, _⟩ => ⟨S2048x4x64, .f32⟩
  | .hbm, ⟨21, _⟩ => ⟨S34816x4x64, .f32⟩
  | .hbm, ⟨22, _⟩ => ⟨S34816x256, .f32⟩
  | .hbm, ⟨23, _⟩ => ⟨S256x34816, .f32⟩
  | .hbm, ⟨24, _⟩ => ⟨S256x34816, .bf16⟩
  | .hbm, ⟨25, _⟩ => ⟨S1024x34816, .bf16⟩
  | .local _ .vmem, ⟨0, _⟩ => ⟨S1024x256, .f32⟩
  | .local _ .vmem, ⟨1, _⟩ => ⟨S1024x256, .f32⟩
  | .local _ .vmem, ⟨2, _⟩ => ⟨S4x256x128, .bf16⟩
  | .local _ .vmem, ⟨3, _⟩ => ⟨S4x256x128, .bf16⟩
  | .local _ .vmem, ⟨4, _⟩ => ⟨S4x4096x128, .bf16⟩
  | .local _ .vmem, ⟨5, _⟩ => ⟨S4x4096x128, .bf16⟩
  | .local _ .vmem, ⟨6, _⟩ => ⟨S256x256, .bf16⟩
  | .local _ .vmem, ⟨7, _⟩ => ⟨S256x256, .bf16⟩
  | .local _ .vmem, ⟨8, _⟩ => ⟨S256x4096, .bf16⟩
  | .local _ .vmem, ⟨9, _⟩ => ⟨S256x4096, .bf16⟩
  | .local _ .vmem, ⟨10, _⟩ => ⟨S1024x256, .bf16⟩
  | .local _ .vmem, ⟨11, _⟩ => ⟨S1024x256, .bf16⟩
  | .local _ .vmem, ⟨12, _⟩ => ⟨S4352x256, .f32⟩
  | .local _ .vmem, ⟨13, _⟩ => ⟨S4352x256, .f32⟩
  | _, _ => ⟨S8x4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 1, 17], ![false, false, false]⟩

def k0_cond1 (i : grid0.Coords) : BitVec 1 :=
  let arg2 : BitVec 32 := BitVec.ofNat 32 (i 2).val
  let c16_i32 : BitVec 32 := 16#32
  let v0 : BitVec 1 := Scalar.cmpi .eq arg2 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg2 : BitVec 32 := BitVec.ofNat 32 (i 2).val
  let c16_i32_0 : BitVec 32 := 16#32
  let v3 : BitVec 1 := Scalar.cmpi .slt arg2 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 1 := Scalar.cmpi .eq arg2 c16_i32
  let c128_i32 : BitVec 32 := 128#32
  let v1 : BitVec 32 := Scalar.addi c128_i32 arg0
  let c16_i32_0 : BitVec 32 := 16#32
  let v2 : BitVec 32 := Scalar.muli arg0 c16_i32_0
  let v3 : BitVec 32 := Scalar.addi v2 arg2
  let v4 : BitVec 32 := Scalar.select v0 v1 v3
  let c0_i32 : BitVec 32 := 0#32
  ![arg1.toNat, v4.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg0
  let c0_i32 : BitVec 32 := 0#32
  let c0_i32_0 : BitVec 32 := 0#32
  ![arg1.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 1 := Scalar.cmpi .eq arg2 c16_i32
  let c128_i32 : BitVec 32 := 128#32
  let v1 : BitVec 32 := Scalar.addi c128_i32 arg0
  let c16_i32_0 : BitVec 32 := 16#32
  let v2 : BitVec 32 := Scalar.muli arg0 c16_i32_0
  let v3 : BitVec 32 := Scalar.addi v2 arg2
  let v4 : BitVec 32 := Scalar.select v0 v1 v3
  let c0_i32 : BitVec 32 := 0#32
  ![arg1.toNat, v4.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Kernel2Ideal.lean ====
variable {F : FTy → Type} [FloatOps F] [Named F]
def κ : String → Option EReal := fun
  | "qscale" => some (((1 / 8) * (Real.log 2)⁻¹ : ℝ) : EReal)
  | _ => none
-- ==== Reference2Ideal.lean ====
abbrev S8x4096x16x64 : Shape := ⟨4, ![8, 4096, 16, 64]⟩
abbrev S8x256x16x64 : Shape := ⟨4, ![8, 256, 16, 64]⟩
abbrev S8x4096x4x64 : Shape := ⟨4, ![8, 4096, 4, 64]⟩
abbrev S8x256x4x64 : Shape := ⟨4, ![8, 256, 4, 64]⟩
abbrev S8x4352x4x64 : Shape := ⟨4, ![8, 4352, 4, 64]⟩
abbrev S_ : Shape := ⟨0, ![]⟩
abbrev S8x4096x4x4x64 : Shape := ⟨5, ![8, 4096, 4, 4, 64]⟩
abbrev S8x4x4352x4096x4 : Shape := ⟨5, ![8, 4, 4352, 4096, 4]⟩
abbrev S8x4x4x4096x4352 : Shape := ⟨5, ![8, 4, 4, 4096, 4352]⟩
abbrev S8x4x4x4096 : Shape := ⟨4, ![8, 4, 4, 4096]⟩
abbrev S8x4x4x4096x1 : Shape := ⟨5, ![8, 4, 4, 4096, 1]⟩
abbrev S8x4x64x4x4096 : Shape := ⟨5, ![8, 4, 64, 4, 4096]⟩
abbrev S32768x1024 : Shape := ⟨2, ![32768, 1024]⟩
abbrev S8x256x4x4x64 : Shape := ⟨5, ![8, 256, 4, 4, 64]⟩
abbrev S8x4x256x256x4 : Shape := ⟨5, ![8, 4, 256, 256, 4]⟩
abbrev S8x4x4x256x256 : Shape := ⟨5, ![8, 4, 4, 256, 256]⟩
abbrev S8x4x4x256 : Shape := ⟨4, ![8, 4, 4, 256]⟩
abbrev S8x4x4x256x1 : Shape := ⟨5, ![8, 4, 4, 256, 1]⟩
abbrev S8x4x64x4x256 : Shape := ⟨5, ![8, 4, 64, 4, 256]⟩
abbrev S2048x1024 : Shape := ⟨2, ![2048, 1024]⟩
abbrev S34816x1024 : Shape := ⟨2, ![34816, 1024]⟩
abbrev S1024x34816 : Shape := ⟨2, ![1024, 34816]⟩

abbrev nBuf : Space → Nat
  | .hbm => 57
  | .vmem => 0
  | .smem => 0
  | _ => 0

abbrev bufTy : (tb : Table) → Fin (tcTables nBuf tb) → BufTy
  | .hbm, ⟨0, _⟩ => ⟨S8x4096x16x64, .f32⟩
  | .hbm, ⟨1, _⟩ => ⟨S8x256x16x64, .f32⟩
  | .hbm, ⟨2, _⟩ => ⟨S8x4096x4x64, .f32⟩
  | .hbm, ⟨3, _⟩ => ⟨S8x256x4x64, .f32⟩
  | .hbm, ⟨4, _⟩ => ⟨S8x4096x4x64, .f32⟩
  | .hbm, ⟨5, _⟩ => ⟨S8x256x4x64, .f32⟩
  | .hbm, ⟨6, _⟩ => ⟨S8x4352x4x64, .f32⟩
  | .hbm, ⟨7, _⟩ => ⟨S8x4352x4x64, .f32⟩
  | .hbm, ⟨8, _⟩ => ⟨S_, .f32⟩
  | .hbm, ⟨9, _⟩ => ⟨S8x4096x16x64, .f32⟩
  | .hbm, ⟨10, _⟩ => ⟨S8x4096x16x64, .f32⟩
  | .hbm, ⟨11, _⟩ => ⟨S8x4096x4x4x64, .f32⟩
  | .hbm, ⟨12, _⟩ => ⟨S8x4x4352x4096x4, .f32⟩
  | .hbm, ⟨13, _⟩ => ⟨S8x4x4x4096x4352, .f32⟩
  | .hbm, ⟨14, _⟩ => ⟨S_, .f32⟩
  | .hbm, ⟨15, _⟩ => ⟨S8x4x4x4096, .f32⟩
  | .hbm, ⟨16, _⟩ => ⟨S_, .f32⟩
  | .hbm, ⟨17, _⟩ => ⟨S8x4x4x4096, .f32⟩
  | .hbm, ⟨18, _⟩ => ⟨S8x4x4x4096, .f32⟩
  | .hbm, ⟨19, _⟩ => ⟨S8x4x4x4096x1, .f32⟩
  | .hbm, ⟨20, _⟩ => ⟨S8x4x4x4096x4352, .f32⟩
  | .hbm, ⟨21, _⟩ => ⟨S8x4x4x4096x4352, .f32⟩
  | .hbm, ⟨22, _⟩ => ⟨S8x4x4x4096x4352, .f32⟩
  | .hbm, ⟨23, _⟩ => ⟨S_, .f32⟩
  | .hbm, ⟨24, _⟩ => ⟨S8x4x4x4096, .f32⟩
  | .hbm, ⟨25, _⟩ => ⟨S8x4x4x4096x1, .f32⟩
  | .hbm, ⟨26, _⟩ => ⟨S8x4x4x4096x4352, .f32⟩
  | .hbm, ⟨27, _⟩ => ⟨S8x4x4x4096x4352, .f32⟩
  | .hbm, ⟨28, _⟩ => ⟨S8x4x64x4x4096, .f32⟩
  | .hbm, ⟨29, _⟩ => ⟨S8x4096x4x4x64, .f32⟩
  | .hbm, ⟨30, _⟩ => ⟨S32768x1024, .f32⟩
  | .hbm, ⟨31, _⟩ => ⟨S_, .f32⟩
  | .hbm, ⟨32, _⟩ => ⟨S8x256x16x64, .f32⟩
  | .hbm, ⟨33, _⟩ => ⟨S8x256x16x64, .f32⟩
  | .hbm, ⟨34, _⟩ => ⟨S8x256x4x4x64, .f32⟩
  | .hbm, ⟨35, _⟩ => ⟨S8x4x256x256x4, .f32⟩
  | .hbm, ⟨36, _⟩ => ⟨S8x4x4x256x256, .f32⟩
  | .hbm, ⟨37, _⟩ => ⟨S_, .f32⟩
  | .hbm, ⟨38, _⟩ => ⟨S8x4x4x256, .f32⟩
  | .hbm, ⟨39, _⟩ => ⟨S_, .f32⟩
  | .hbm, ⟨40, _⟩ => ⟨S8x4x4x256, .f32⟩
  | .hbm, ⟨41, _⟩ => ⟨S8x4x4x256, .f32⟩
  | .hbm, ⟨42, _⟩ => ⟨S8x4x4x256x1, .f32⟩
  | .hbm, ⟨43, _⟩ => ⟨S8x4x4x256x256, .f32⟩
  | .hbm, ⟨44, _⟩ => ⟨S8x4x4x256x256, .f32⟩
  | .hbm, ⟨45, _⟩ => ⟨S8x4x4x256x256, .f32⟩
  | .hbm, ⟨46, _⟩ => ⟨S_, .f32⟩
  | .hbm, ⟨47, _⟩ => ⟨S8x4x4x256, .f32⟩
  | .hbm, ⟨48, _⟩ => ⟨S8x4x4x256x1, .f32⟩
  | .hbm, ⟨49, _⟩ => ⟨S8x4x4x256x256, .f32⟩
  | .hbm, ⟨50, _⟩ => ⟨S8x4x4x256x256, .f32⟩
  | .hbm, ⟨51, _⟩ => ⟨S8x4x64x4x256, .f32⟩
  | .hbm, ⟨52, _⟩ => ⟨S8x256x4x4x64, .f32⟩
  | .hbm, ⟨53, _⟩ => ⟨S2048x1024, .f32⟩
  | .hbm, ⟨54, _⟩ => ⟨S34816x1024, .f32⟩
  | .hbm, ⟨55, _⟩ => ⟨S1024x34816, .f32⟩
  | .hbm, ⟨56, _⟩ => ⟨S1024x34816, .bf16⟩
  | _, _ => ⟨S8x4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel3.lean ====
abbrev S40960x1024 : Shape := ⟨2, ![40960, 1024]⟩
abbrev S160 : Shape := ⟨1, ![160]⟩
abbrev S1 : Shape := ⟨1, ![1]⟩
abbrev S1024x16 : Shape := ⟨2, ![1024, 16]⟩
abbrev S16x1024x512 : Shape := ⟨3, ![16, 1024, 512]⟩
abbrev S16x512x1024 : Shape := ⟨3, ![16, 512, 1024]⟩
abbrev S_ : Shape := ⟨0, ![]⟩
abbrev S1024x112 : Shape := ⟨2, ![1024, 112]⟩
abbrev S1024x128 : Shape := ⟨2, ![1024, 128]⟩
abbrev S16x1024x1024 : Shape := ⟨3, ![16, 1024, 1024]⟩
abbrev S40960x8x128 : Shape := ⟨3, ![40960, 8, 128]⟩
abbrev S256x8x128 : Shape := ⟨3, ![256, 8, 128]⟩
abbrev S1x1024x1024 : Shape := ⟨3, ![1, 1024, 1024]⟩
abbrev S1x512x1024 : Shape := ⟨3, ![1, 512, 1024]⟩
abbrev S256x1x128 : Shape := ⟨3, ![256, 1, 128]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩
abbrev S256x512 : Shape := ⟨2, ![256, 512]⟩
abbrev S512x1024 : Shape := ⟨2, ![512, 1024]⟩

abbrev nBuf : Space → Nat
  | .hbm => 14
  | .vmem => 13
  | .smem => 3
  | _ => 0

abbrev bufTy : (tb : Table) → Fin (tcTables nBuf tb) → BufTy
  | .hbm, ⟨0, _⟩ => ⟨S40960x1024, .f32⟩
  | .hbm, ⟨1, _⟩ => ⟨S1024x16, .f32⟩
  | .hbm, ⟨2, _⟩ => ⟨S16x1024x512, .f32⟩
  | .hbm, ⟨3, _⟩ => ⟨S16x1024x512, .f32⟩
  | .hbm, ⟨4, _⟩ => ⟨S16x512x1024, .f32⟩
  | .hbm, ⟨5, _⟩ => ⟨S_, .f32⟩
  | .hbm, ⟨6, _⟩ => ⟨S1024x112, .f32⟩
  | .hbm, ⟨7, _⟩ => ⟨S1024x128, .f32⟩
  | .hbm, ⟨8, _⟩ => ⟨S1024x128, .bf16⟩
  | .hbm, ⟨9, _⟩ => ⟨S16x1024x1024, .f32⟩
  | .hbm, ⟨10, _⟩ => ⟨S16x1024x1024, .bf16⟩
  | .hbm, ⟨11, _⟩ => ⟨S40960x8x128, .f32⟩
  | .hbm, ⟨12, _⟩ => ⟨S16x512x1024, .bf16⟩
  | .hbm, ⟨13, _⟩ => ⟨S40960x8x128, .f32⟩
  | .local _ .vmem, ⟨0, _⟩ => ⟨S256x8x128, .f32⟩
  | .local _ .vmem, ⟨1, _⟩ => ⟨S256x8x128, .f32⟩
  | .local _ .vmem, ⟨2, _⟩ => ⟨S1024x128, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S256x8x128, .f32⟩
  | .local _ .vmem, ⟨12, _⟩ => ⟨S256x8x128, .f32⟩
  | .local _ .smem, ⟨0, _⟩ => ⟨S160, .i32⟩
  | .local _ .smem, ⟨1, _⟩ => ⟨S160, .i32⟩
  | .local _ .smem, ⟨2, _⟩ => ⟨S1, .i32⟩
  | _, _ => ⟨S40960x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![160], ![false]⟩

abbrev pre0 : Pipeline.Prefetch sig := ⟨3, ![main_arg1.idx, main_arg2.idx, main_arg3.idx], fun | 0 => main_arg1.names | 1 => main_arg2.names | 2 => main_arg3.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v31 : Index := Scalar.indexCast arg0
  ![v31.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  let c0_i32_1 : BitVec 32 := 0#32
  ![v2.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S40960x1024 : Shape := ⟨2, ![40960, 1024]⟩
abbrev S160 : Shape := ⟨1, ![160]⟩
abbrev S1 : Shape := ⟨1, ![1]⟩
abbrev S1024x16 : Shape := ⟨2, ![1024, 16]⟩
abbrev S16x1024x512 : Shape := ⟨3, ![16, 1024, 512]⟩
abbrev S16x512x1024 : Shape := ⟨3, ![16, 512, 1024]⟩
abbrev S40960 : Shape := ⟨1, ![40960]⟩
abbrev S_ : Shape := ⟨0, ![]⟩
abbrev S40960x1 : Shape := ⟨2, ![40960, 1]⟩
abbrev S40960x2 : Shape := ⟨2, ![40960, 2]⟩
abbrev S40960x16 : Shape := ⟨2, ![40960, 16]⟩
abbrev S40960x2x1 : Shape := ⟨3, ![40960, 2, 1]⟩
abbrev S1x1x1 : Shape := ⟨3, ![1, 1, 1]⟩
abbrev S1x1x16 : Shape := ⟨3, ![1, 1, 16]⟩
abbrev S40960x2x16 : Shape := ⟨3, ![40960, 2, 16]⟩
abbrev S16x512x40960 : Shape := ⟨3, ![16, 512, 40960]⟩
abbrev S16x40960x512 : Shape := ⟨3, ![16, 40960, 512]⟩
abbrev S16x40960 : Shape := ⟨2, ![16, 40960]⟩
abbrev S16x40960x1 : Shape := ⟨3, ![16, 40960, 1]⟩
abbrev S16x40960x1024 : Shape := ⟨3, ![16, 40960, 1024]⟩
abbrev S40960x8x128 : Shape := ⟨3, ![40960, 8, 128]⟩

abbrev nBuf : Space → Nat
  | .hbm => 126
  | .vmem => 0
  | .smem => 0
  | _ => 0

abbrev bufTy : (tb : Table) → Fin (tcTables nBuf tb) → BufTy
  | .hbm, ⟨0, _⟩ => ⟨S40960x1024, .f32⟩
  | .hbm, ⟨1, _⟩ => ⟨S160, .i32⟩
  | .hbm, ⟨2, _⟩ => ⟨S160, .i32⟩
  | .hbm, ⟨3, _⟩ => ⟨S1, .i32⟩
  | .hbm, ⟨4, _⟩ => ⟨S1024x16, .f32⟩
  | .hbm, ⟨5, _⟩ => ⟨S16x1024x512, .f32⟩
  | .hbm, ⟨6, _⟩ => ⟨S16x1024x512, .f32⟩
  | .hbm, ⟨7, _⟩ => ⟨S16x512x1024, .f32⟩
  | .hbm, ⟨8, _⟩ => ⟨S40960, .i32⟩
  | .hbm, ⟨9, _⟩ => ⟨S_, .i32⟩
  | .hbm, ⟨10, _⟩ => ⟨S_, .i32⟩
  | .hbm, ⟨11, _⟩ => ⟨S40960, .i32⟩
  | .hbm, ⟨12, _⟩ => ⟨S40960, .i32⟩
  | .hbm, ⟨13, _⟩ => ⟨S40960, .i32⟩
  | .hbm, ⟨14, _⟩ => ⟨S_, .i32⟩
  | .hbm, ⟨15, _⟩ => ⟨S40960, .i32⟩
  | .hbm, ⟨16, _⟩ => ⟨S40960, .i1⟩
  | .hbm, ⟨17, _⟩ => ⟨S40960, .i32⟩
  | .hbm, ⟨18, _⟩ => ⟨S40960, .i32⟩
  | .hbm, ⟨19, _⟩ => ⟨S_, .i32⟩
  | .hbm, ⟨20, _⟩ => ⟨S40960, .i32⟩
  | .hbm, ⟨21, _⟩ => ⟨S40960, .i1⟩
  | .hbm, ⟨22, _⟩ => ⟨S40960, .i1⟩
  | .hbm, ⟨23, _⟩ => ⟨S_, .i32⟩
  | .hbm, ⟨24, _⟩ => ⟨S40960, .i32⟩
  | .hbm, ⟨25, _⟩ => ⟨S40960, .i32⟩
  | .hbm, ⟨26, _⟩ => ⟨S40960, .i32⟩
  | .hbm, ⟨27, _⟩ => ⟨S_, .i32⟩
  | .hbm, ⟨28, _⟩ => ⟨S40960, .i32⟩
  | .hbm, ⟨29, _⟩ => ⟨S40960, .i1⟩
  | .hbm, ⟨30, _⟩ => ⟨S_, .i32⟩
  | .hbm, ⟨31, _⟩ => ⟨S40960, .i32⟩
  | .hbm, ⟨32, _⟩ => ⟨S40960, .i32⟩
  | .hbm, ⟨33, _⟩ => ⟨S40960, .i32⟩
  | .hbm, ⟨34, _⟩ => ⟨S40960x1, .i32⟩
  | .hbm, ⟨35, _⟩ => ⟨S40960, .i32⟩
  | .hbm, ⟨36, _⟩ => ⟨S_, .i32⟩
  | .hbm, ⟨37, _⟩ => ⟨S40960, .i32⟩
  | .hbm, ⟨38, _⟩ => ⟨S40960, .i1⟩
  | .hbm, ⟨39, _⟩ => ⟨S_, .i32⟩
  | .hbm, ⟨40, _⟩ => ⟨S40960, .i32⟩
  | .hbm, ⟨41, _⟩ => ⟨S40960, .i32⟩
  | .hbm, ⟨42, _⟩ => ⟨S40960, .i32⟩
  | .hbm, ⟨43, _⟩ => ⟨S40960x1, .i32⟩
  | .hbm, ⟨44, _⟩ => ⟨S40960, .i32⟩
  | .hbm, ⟨45, _⟩ => ⟨S40960x1, .i32⟩
  | .hbm, ⟨46, _⟩ => ⟨S40960x1, .i32⟩
  | .hbm, ⟨47, _⟩ => ⟨S40960x2, .i32⟩
  | .hbm, ⟨48, _⟩ => ⟨S40960x16, .f32⟩
  | .hbm, ⟨49, _⟩ => ⟨S40960x16, .f32⟩
  | .hbm, ⟨50, _⟩ => ⟨S40960x16, .f32⟩
  | .hbm, ⟨51, _⟩ => ⟨S_, .f32⟩
  | .hbm, ⟨52, _⟩ => ⟨S40960x16, .f32⟩
  | .hbm, ⟨53, _⟩ => ⟨S40960x16, .f32⟩
  | .hbm, ⟨54, _⟩ => ⟨S_, .f32⟩
  | .hbm, ⟨55, _⟩ => ⟨S40960x16, .f32⟩
  | .hbm, ⟨56, _⟩ => ⟨S40960x16, .f32⟩
  | .hbm, ⟨57, _⟩ => ⟨S_, .i32⟩
  | .hbm, ⟨58, _⟩ => ⟨S40960x2, .i32⟩
  | .hbm, ⟨59, _⟩ => ⟨S40960x2, .i1⟩
  | .hbm, ⟨60, _⟩ => ⟨S_, .i32⟩
  | .hbm, ⟨61, _⟩ => ⟨S40960x2, .i32⟩
  | .hbm, ⟨62, _⟩ => ⟨S40960x2, .i32⟩
  | .hbm, ⟨63, _⟩ => ⟨S40960x2, .i32⟩
  | .hbm, ⟨64, _⟩ => ⟨S40960x2x1, .i32⟩
  | .hbm, ⟨65, _⟩ => ⟨S1, .i32⟩
  | .hbm, ⟨66, _⟩ => ⟨S_, .i32⟩
  | .hbm, ⟨67, _⟩ => ⟨S40960x2x1, .i32⟩
  | .hbm, ⟨68, _⟩ => ⟨S40960x2x1, .i1⟩
  | .hbm, ⟨69, _⟩ => ⟨S1x1x1, .i32⟩
  | .hbm, ⟨70, _⟩ => ⟨S40960x2x1, .i32⟩
  | .hbm, ⟨71, _⟩ => ⟨S40960x2x1, .i1⟩
  | .hbm, ⟨72, _⟩ => ⟨S40960x2x1, .i1⟩
  | .hbm, ⟨73, _⟩ => ⟨S_, .i1⟩
  | .hbm, ⟨74, _⟩ => ⟨S40960x2, .i1⟩
  | .hbm, ⟨75, _⟩ => ⟨S40960x2, .f32⟩
  | .hbm, ⟨76, _⟩ => ⟨S_, .f32⟩
  | .hbm, ⟨77, _⟩ => ⟨S40960x2, .f32⟩
  | .hbm, ⟨78, _⟩ => ⟨S40960x2, .f32⟩
  | .hbm, ⟨79, _⟩ => ⟨S_, .f32⟩
  | .hbm, ⟨80, _⟩ => ⟨S40960, .f32⟩
  | .hbm, ⟨81, _⟩ => ⟨S40960x1, .f32⟩
  | .hbm, ⟨82, _⟩ => ⟨S40960x2, .f32⟩
  | .hbm, ⟨83, _⟩ => ⟨S40960x2, .f32⟩
  | .hbm, ⟨84, _⟩ => ⟨S40960x2x1, .i32⟩
  | .hbm, ⟨85, _⟩ => ⟨S1x1x16, .i32⟩
  | .hbm, ⟨86, _⟩ => ⟨S40960x2x16, .i32⟩
  | .hbm, ⟨87, _⟩ => ⟨S40960x2x16, .i32⟩
  | .hbm, ⟨88, _⟩ => ⟨S40960x2x16, .i1⟩
  | .hbm, ⟨89, _⟩ => ⟨S40960x2x16, .f32⟩
  | .hbm, ⟨90, _⟩ => ⟨S40960x2x1, .f32⟩
  | .hbm, ⟨91, _⟩ => ⟨S40960x2x16, .f32⟩
  | .hbm, ⟨92, _⟩ => ⟨S40960x2x16, .f32⟩
  | .hbm, ⟨93, _⟩ => ⟨S_, .f32⟩
  | .hbm, ⟨94, _⟩ => ⟨S40960x16, .f32⟩
  | .hbm, ⟨95, _⟩ => ⟨S16x512x40960, .f32⟩
  | .hbm, ⟨96, _⟩ => ⟨S16x40960x512, .f32⟩
  | .hbm, ⟨97, _⟩ => ⟨S16x40960x512, .f32⟩
  | .hbm, ⟨98, _⟩ => ⟨S16x40960x512, .f32⟩
  | .hbm, ⟨99, _⟩ => ⟨S_, .f32⟩
  | .hbm, ⟨100, _⟩ => ⟨S16x40960x512, .f32⟩
  | .hbm, ⟨101, _⟩ => ⟨S16x40960x512, .f32⟩
  | .hbm, ⟨102, _⟩ => ⟨S_, .f32⟩
  | .hbm, ⟨103, _⟩ => ⟨S16x40960x512, .f32⟩
  | .hbm, ⟨104, _⟩ => ⟨S16x40960x512, .f32⟩
  | .hbm, ⟨105, _⟩ => ⟨S16x40960x512, .f32⟩
  | .hbm, ⟨106, _⟩ => ⟨S16x512x40960, .f32⟩
  | .hbm, ⟨107, _⟩ => ⟨S16x40960x512, .f32⟩
  | .hbm, ⟨108, _⟩ => ⟨S16x40960x512, .f32⟩
  | .hbm, ⟨109, _⟩ => ⟨S16x40960, .f32⟩
  | .hbm, ⟨110, _⟩ => ⟨S16x40960x1, .f32⟩
  | .hbm, ⟨111, _⟩ => ⟨S16x40960x1024, .f32⟩
  | .hbm, ⟨112, _⟩ => ⟨S16x40960x1024, .f32⟩
  | .hbm, ⟨113, _⟩ => ⟨S16x40960x1024, .f32⟩
  | .hbm, ⟨114, _⟩ => ⟨S_, .f32⟩
  | .hbm, ⟨115, _⟩ => ⟨S40960x1024, .f32⟩
  | .hbm, ⟨116, _⟩ => ⟨S_, .i32⟩
  | .hbm, ⟨117, _⟩ => ⟨S40960, .i32⟩
  | .hbm, ⟨118, _⟩ => ⟨S40960, .i1⟩
  | .hbm, ⟨119, _⟩ => ⟨S40960x1, .i1⟩
  | .hbm, ⟨120, _⟩ => ⟨S_, .f32⟩
  | .hbm, ⟨121, _⟩ => ⟨S_, .f32⟩
  | .hbm, ⟨122, _⟩ => ⟨S40960x1024, .i1⟩
  | .hbm, ⟨123, _⟩ => ⟨S40960x1024, .f32⟩
  | .hbm, ⟨124, _⟩ => ⟨S40960x1024, .f32⟩
  | .hbm, ⟨125, _⟩ => ⟨S40960x8x128, .f32⟩
  | _, _ => ⟨S40960x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_c_1 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_c_2 : Ref sig .tc := ⟨.hbm, 36, rfl⟩
abbrev main_v9 : Ref sig .tc := ⟨.hbm, 37, rfl⟩
abbrev main_v10 : Ref sig .tc := ⟨.hbm, 38, rfl⟩
abbrev main_c_3 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst : Ref sig .tc := ⟨.hbm, 51, rfl⟩
abbrev main_v22 : Ref sig .tc := ⟨.hbm, 52, rfl⟩
abbrev main_v23 : Ref sig .tc := ⟨.hbm, 53, rfl⟩
abbrev main_cst_4 : Ref sig .tc := ⟨.hbm, 54, rfl⟩
abbrev main_v24 : Ref sig .tc := ⟨.hbm, 55, rfl⟩
abbrev main_v25 : Ref sig .tc := ⟨.hbm, 56, rfl⟩
abbrev main_call1_c : Ref sig .tc := ⟨.hbm, 57, rfl⟩
abbrev main_call1_v0 : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_c_1 : Ref sig .tc := ⟨.hbm, 65, rfl⟩
abbrev main_call1_c_2 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_c_3 : Ref sig .tc := ⟨.hbm, 73, rfl⟩
abbrev main_call1_v12 : Ref sig .tc := ⟨.hbm, 74, rfl⟩
abbrev main_call1_v13 : Ref sig .tc := ⟨.hbm, 75, rfl⟩
abbrev main_call1_cst : Ref sig .tc := ⟨.hbm, 76, rfl⟩
abbrev main_call1_v14 : Ref sig .tc := ⟨.hbm, 77, rfl⟩
abbrev main_v26 : Ref sig .tc := ⟨.hbm, 78, rfl⟩
abbrev main_cst_5 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_cst_6 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_call3_v0 : Ref sig .tc := ⟨.hbm, 97, rfl⟩
abbrev main_call3_v1 : Ref sig .tc := ⟨.hbm, 98, rfl⟩
abbrev main_call3_cst : Ref sig .tc := ⟨.hbm, 99, rfl⟩
abbrev main_call3_v2 : Ref sig .tc := ⟨.hbm, 100, rfl⟩
abbrev main_call3_v3 : Ref sig .tc := ⟨.hbm, 101, rfl⟩
abbrev main_call3_cst_0 : Ref sig .tc := ⟨.hbm, 102, rfl⟩
abbrev main_call3_v4 : Ref sig .tc := ⟨.hbm, 103, rfl⟩
abbrev main_call3_v5 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_cst_7 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_cst_8 : Ref sig .tc := ⟨.hbm, 120, rfl⟩
abbrev main_call4_v0 : Ref sig .tc := ⟨.hbm, 121, rfl⟩
abbrev main_call4_v1 : Ref sig .tc := ⟨.hbm, 122, rfl⟩
abbrev main_call4_v2 : Ref sig .tc := ⟨.hbm, 123, rfl⟩
abbrev main_v52 : Ref sig .tc := ⟨.hbm, 124, rfl⟩
abbrev main_v53 : Ref sig .tc := ⟨.hbm, 125, rfl⟩

abbrev nD : Nat := 1
abbrev τ : Topo := Topo.v7x

variable {F : FTy → Type} [FloatOps F]
-- ==== Proof.Softmax.lean ====
/- Softmax attention of one query over extended reals: the streamed form with base-two exponentials and a late
   normalisation against the plain form. No program is named here. -/
module

public import Idealize.ShloMosaic.PureOps.Ideal
public import Idealize.ShloMosaic.PureOps.Ideal.Laws

@[expose] public section

namespace Cert.Softmax

open Idealize.ShloMosaic

/-- The largest of finitely many numbers (minus infinity if there are none). -/
noncomputable def top {N : ℕ} (a : Fin N → EReal) : EReal := Finset.univ.sup a

/-- The plain attention: each exponential is divided by the sum before the values are weighted. -/
noncomputable def plain {N : ℕ} (a v : Fin N → EReal) : EReal :=
  ∑ n, v n * Ideal.div (Ideal.exp (a n - top a)) (∑ k, Ideal.exp (a k - top a))

/-- The late-normalised attention: base-two exponentials, one reciprocal at the end. -/
noncomputable def late {N : ℕ} (b v : Fin N → EReal) : EReal :=
  (∑ n, v n * Ideal.exp2 (b n - top b)) * Ideal.div 1 (∑ k, Ideal.exp2 (b k - top b))

/-- The pattern of minus infinity. -/
theorem ofBits_ninf : Ideal.ofBits .f32 0xFF800000#32 = ⊥ := by
  simp [Ideal.ofBits, Ideal.ieee]

/-- A fold of maxima from minus infinity is the largest. -/
theorem fold_max {N : ℕ} (a : Fin N → EReal) : Finset.fold max (Ideal.ofBits .f32 0xFF800000#32) a Finset.univ = top a := by
  rw [ofBits_ninf]; rfl

/-- The largest over two consecutive ranges. -/
theorem top_add {A B : ℕ} (f : Fin (A + B) → EReal) :
    top f = max (top fun i => f (Fin.castAdd B i)) (top fun i => f (Fin.natAdd A i)) := by
  refine le_antisymm (Finset.sup_le fun n _ => ?_) (max_le (Finset.sup_le fun n _ => ?_) (Finset.sup_le fun n _ => ?_))
  · refine Fin.addCases (fun i => ?_) (fun i => ?_) n
    · exact le_max_of_le_left (Finset.le_sup (f := fun i => f (Fin.castAdd B i)) (Finset.mem_univ i))
    · exact le_max_of_le_right (Finset.le_sup (f := fun i => f (Fin.natAdd A i)) (Finset.mem_univ i))
  · exact Finset.le_sup (f := f) (Finset.mem_univ _)
  · exact Finset.le_sup (f := f) (Finset.mem_univ _)

/-- Key `n` of the context. -/
def keyC (n : Fin 256) : Fin 4352 := ⟨n, by omega⟩

/-- Key `n` of latent chunk `c`. -/
def keyL (c : Fin 8) (n : Fin 512) : Fin 4352 := ⟨256 + 512 * c + n, by omega⟩

/-- The sum over all keys, chunk after chunk. -/
theorem sum_keys (f : Fin 4352 → EReal) : ∑ n, f n = (∑ n, f (keyC n)) + (∑ n, f (keyL 0 n)) + (∑ n, f (keyL 1 n))
    + (∑ n, f (keyL 2 n)) + (∑ n, f (keyL 3 n)) + (∑ n, f (keyL 4 n)) + (∑ n, f (keyL 5 n)) + (∑ n, f (keyL 6 n))
    + (∑ n, f (keyL 7 n)) := by
  have h : ∀ g : Fin (256 + 512 + 512 + 512 + 512 + 512 + 512 + 512 + 512) → EReal, ∑ n, g n = _ := fun g => by
    rw [Fin.sum_univ_add, Fin.sum_univ_add, Fin.sum_univ_add, Fin.sum_univ_add, Fin.sum_univ_add, Fin.sum_univ_add,
      Fin.sum_univ_add, Fin.sum_univ_add]
  exact h f

/-- The largest over all keys, chunk after chunk. -/
theorem top_keys (f : Fin 4352 → EReal) : top f = max (max (max (max (max (max (max (max (top fun n => f (keyC n))
    (top fun n => f (keyL 0 n))) (top fun n => f (keyL 1 n))) (top fun n => f (keyL 2 n))) (top fun n => f (keyL 3 n)))
    (top fun n => f (keyL 4 n))) (top fun n => f (keyL 5 n))) (top fun n => f (keyL 6 n))) (top fun n => f (keyL 7 n)) := by
  have h : ∀ g : Fin (256 + 512 + 512 + 512 + 512 + 512 + 512 + 512 + 512) → EReal, top g = _ := fun g => by
    rw [top_add, top_add, top_add, top_add, top_add, top_add, top_add, top_add]
  exact h f

/-- The largest of nonempty real numbers is one of them. -/
theorem top_coe {N : ℕ} [NeZero N] (a : Fin N → ℝ) : ∃ i, top (fun n => (a n : EReal)) = a i := by
  obtain ⟨i, _, h⟩ := Finset.exists_mem_eq_sup (Finset.univ : Finset (Fin N)) ⟨0, Finset.mem_univ _⟩
    (fun n => (a n : EReal))
  exact ⟨i, h⟩

/-- A real factor that is not negative goes through a sum of extended reals. -/
theorem sum_mul_coe {N : ℕ} (x : Fin N → EReal) {r : ℝ} (hr : 0 ≤ r) :
    (∑ n, x n) * (r : EReal) = ∑ n, x n * (r : EReal) := by
  have h : ∀ s : Finset (Fin N), (∑ n ∈ s, x n) * (r : EReal) = ∑ n ∈ s, x n * (r : EReal) := by
    intro s
    induction s using Finset.induction_on with
    | empty => simp
    | insert i s hi ih =>
      rw [Finset.sum_insert hi, Finset.sum_insert hi,
        EReal.right_distrib_of_nonneg_of_ne_top (by exact_mod_cast hr) (EReal.coe_ne_top r), ih]
  exact h _

/-- A sum of reals, read as an extended real. -/
theorem coe_sum {N : ℕ} (x : Fin N → ℝ) : ((∑ n, x n : ℝ) : EReal) = ∑ n, (x n : EReal) := by
  have h : ∀ s : Finset (Fin N), ((∑ n ∈ s, x n : ℝ) : EReal) = ∑ n ∈ s, (x n : EReal) := by
    intro s
    induction s using Finset.induction_on with
    | empty => simp
    | insert i s hi ih => rw [Finset.sum_insert hi, Finset.sum_insert hi, EReal.coe_add, ih]
  exact h _

/-- The largest of scaled reals is the scaled largest. -/
theorem top_scale {N : ℕ} [NeZero N] (a : Fin N → ℝ) {c : ℝ} (hc : 0 ≤ c) :
    ∃ i, top (fun n => (a n : EReal)) = a i ∧ top (fun n => ((a n * c : ℝ) : EReal)) = ((a i * c : ℝ) : EReal) := by
  obtain ⟨i, hi⟩ := top_coe a
  refine ⟨i, hi, le_antisymm (Finset.sup_le fun n _ => ?_) ?_⟩
  · have h : (a n : EReal) ≤ a i := hi ▸ Finset.le_sup (f := fun n => (a n : EReal)) (Finset.mem_univ n)
    have h' : a n ≤ a i := by exact_mod_cast h
    exact_mod_cast mul_le_mul_of_nonneg_right h' hc
  · exact Finset.le_sup (f := fun n => ((a n * c : ℝ) : EReal)) (Finset.mem_univ i)

/-- On real scores the two forms agree, whatever the values are, when the base-two scores are the plain ones divided by
    the logarithm of two. -/
theorem late_eq_plain {N : ℕ} [NeZero N] (a : Fin N → ℝ) (v : Fin N → EReal) :
    late (fun n => ((a n * (Real.log 2)⁻¹ : ℝ) : EReal)) v = plain (fun n => (a n : EReal)) v := by
  have h2 : (0 : ℝ) < Real.log 2 := Real.log_pos (by norm_num)
  obtain ⟨i, hi, hc⟩ := top_scale a (inv_nonneg.mpr h2.le)
  have he : ∀ n, Ideal.exp2 (((a n * (Real.log 2)⁻¹ : ℝ) : EReal) - ((a i * (Real.log 2)⁻¹ : ℝ) : EReal))
      = ((Real.exp (a n - a i) : ℝ) : EReal) := by
    intro n
    rw [← EReal.coe_sub, Ideal.exp2_coe]
    congr 1
    show (2 : ℝ) ^ (_ : ℝ) = _
    rw [Real.rpow_def_of_pos (by norm_num)]
    congr 1
    field_simp
  have hp : ∀ n, Ideal.exp ((a n : EReal) - (a i : EReal)) = ((Real.exp (a n - a i) : ℝ) : EReal) := by
    intro n
    rw [← EReal.coe_sub, Ideal.exp_coe]
  have hL : (0 : ℝ) < ∑ n, Real.exp (a n - a i) :=
    Finset.sum_pos (fun n _ => Real.exp_pos _) ⟨0, Finset.mem_univ _⟩
  unfold late plain
  rw [hi, hc]
  simp only [he, hp, ← coe_sum]
  rw [Ideal.div_coe hL.ne', one_mul, sum_mul_coe _ (by positivity)]
  refine Finset.sum_congr rfl fun n _ => ?_
  rw [Ideal.div_coe hL.ne', mul_assoc]

/-- One query against some keys, all of them real: base-two exponentials of scores scaled by `c` over the logarithm of two
    and a late normalisation give the plain attention of scores scaled by `c`. -/
theorem attention_eq {N D : ℕ} [NeZero N] (c : ℝ) (k : Fin N → Fin D → EReal) (q : Fin D → EReal) (v : Fin N → EReal)
    (hk : ∀ n d, ∃ a : ℝ, k n d = (a : EReal)) (hq : ∀ d, ∃ a : ℝ, q d = (a : EReal)) :
    late (fun n => ∑ d, k n d * (q d * ((c * (Real.log 2)⁻¹ : ℝ) : EReal))) v
      = plain (fun n => ∑ d, k n d * (q d * (c : EReal))) v := by
  choose k' hk using hk
  choose q' hq using hq
  have e1 : (fun n => ∑ d, k n d * (q d * ((c * (Real.log 2)⁻¹ : ℝ) : EReal)))
      = fun n => (((∑ d, k' n d * (q' d * c)) * (Real.log 2)⁻¹ : ℝ) : EReal) := by
    funext n
    rw [Finset.sum_mul, coe_sum]
    refine Finset.sum_congr rfl fun d _ => ?_
    rw [hk, hq, ← EReal.coe_mul, ← EReal.coe_mul]
    congr 1
    ring
  have e2 : (fun n => ∑ d, k n d * (q d * (c : EReal))) = fun n => ((∑ d, k' n d * (q' d * c) : ℝ) : EReal) := by
    funext n
    rw [coe_sum]
    refine Finset.sum_congr rfl fun d _ => ?_
    rw [hk, hq, ← EReal.coe_mul, ← EReal.coe_mul]
  rw [e1, e2]
  exact late_eq_plain _ v

end Cert.Softmax
-- ==== Proof.Head.lean ====
/- What one query head's attention stores in its tile of the block, as vector operations, and its value at an index. -/
module

public import proofs.«01_k».proof.Proof.Gen.KernelIdeal.Skeleton
public import proofs.«01_k».proof.Proof.Softmax
public import Idealize.ShloMosaic.Lib.Pointwise

@[expose] public section

set_option maxRecDepth 16384

noncomputable section

namespace Cert.KernelIdeal.Head

open Idealize.ShloMosaic Idealize.SL.Sem Cert.KernelIdeal Cert.KernelIdeal.Gen

section Vectors
variable {F : FTy → Type} [FloatOps F] [Named F]

/-- The head's queries, scaled and rounded. -/
def qs (q : Vec F S128x256 .f32) : FVec F S128x256 .bf16 :=
  truncf .bf16 (mulf (shapeCast S128x256 q shapeCasts_S128x256_S128x256)
    (broadcast S128x256 (Named.named κ "qscale" 0x3E16C740#32))) bitsLt_bf16_f32

/-- Scores of the context keys. -/
def sc (q : Vec F S128x256 .f32) (k : Vec F S1x256x128 .bf16) : FVec F S256x256 .f32 :=
  matmul dot_S256x128_S128x256_S256x256_1_0_0_1_n_n none (shapeCast S256x128 k shapeCasts_S1x256x128_S256x128) (qs q)
    (constant S256x256 .f32 0x00000000#32)

/-- Scores of one chunk of latent keys. -/
def sl (q : Vec F S128x256 .f32) (k : Vec F S1x512x128 .bf16) : FVec F S512x256 .f32 :=
  matmul dot_S512x128_S128x256_S512x256_1_0_0_1_n_n none (shapeCast S512x128 k shapeCasts_S1x512x128_S512x128) (qs q)
    (constant S512x256 .f32 0x00000000#32)

/-- Column maxima of the context scores. -/
def mc (s : FVec F S256x256 .f32) : FVec F S1x256 .f32 :=
  shapeCast S1x256 (multiReduction .maximumf [0] S256 s 0xFF800000#32 reduces_S256x256_S256 (.inl rfl) rfl) shapeCasts_S256_S1x256

/-- Column maxima of a chunk's scores. -/
def ml (s : FVec F S512x256 .f32) : FVec F S1x256 .f32 :=
  shapeCast S1x256 (multiReduction .maximumf [0] S256 s 0xFF800000#32 reduces_S512x256_S256 (.inl rfl) rfl) shapeCasts_S256_S1x256

/-- Exponentials of the context scores, as read back from the buffer. -/
def pc (m : FVec F S1x256 .f32) (s : FVec F S256x256 .f32) : FVec F S256x256 .f32 :=
  exp2 (subf (shapeCast S256x256 s shapeCasts_S256x256_S256x256) (broadcastTo S256x256 m broadcasts_S1x256_S256x256))

/-- Exponentials of a chunk's scores, as read back from the buffer. -/
def pl (m : FVec F S1x256 .f32) (s : FVec F S512x256 .f32) : FVec F S512x256 .f32 :=
  exp2 (subf (shapeCast S512x256 s shapeCasts_S512x256_S512x256) (broadcastTo S512x256 m broadcasts_S1x256_S512x256))

/-- Column sums of the context exponentials. -/
def lc (p : FVec F S256x256 .f32) : FVec F S1x256 .f32 :=
  shapeCast S1x256 (multiReduction .add [0] S256 p 0x00000000#32 reduces_S256x256_S256 (.inl rfl) rfl) shapeCasts_S256_S1x256

/-- Column sums of a chunk's exponentials. -/
def ll (p : FVec F S512x256 .f32) : FVec F S1x256 .f32 :=
  shapeCast S1x256 (multiReduction .add [0] S256 p 0x00000000#32 reduces_S512x256_S256 (.inl rfl) rfl) shapeCasts_S256_S1x256

/-- The context values weighted by their exponentials. -/
def oc (v : Vec F S64x256 .bf16) (p : FVec F S256x256 .f32) : FVec F S64x256 .f32 :=
  matmul dot_S64x256_S256x256_S64x256_1_0_0_1_n_n none (shapeCast S64x256 v shapeCasts_S64x256_S64x256)
    (truncf .bf16 p bitsLt_bf16_f32) (constant S64x256 .f32 0x00000000#32)

/-- A chunk's values weighted by their exponentials. -/
def ol (v : Vec F S64x512 .bf16) (p : FVec F S512x256 .f32) : FVec F S64x256 .f32 :=
  matmul dot_S64x512_S512x256_S64x256_1_0_0_1_n_n none (shapeCast S64x512 v shapeCasts_S64x512_S64x512)
    (truncf .bf16 p bitsLt_bf16_f32) (constant S64x256 .f32 0x00000000#32)

/-- The weighted values times the reciprocal of the sum, rounded. -/
def fin (l : FVec F S1x256 .f32) (o : FVec F S64x256 .f32) : FVec F S64x256 .bf16 :=
  truncf .bf16 (mulf o (broadcastTo S64x256 (divf (broadcast S1x256 (Scalar.ofBits .f32 0x3F800000#32)) l)
    broadcasts_S1x256_S64x256)) bitsLt_bf16_f32

/-- The running maximum over the context's scores and the eight chunks'. -/
def mAll (s : FVec F S256x256 .f32) (sl : Fin 8 → FVec F S512x256 .f32) : FVec F S1x256 .f32 :=
  maximumf (maximumf (maximumf (maximumf (maximumf (maximumf (maximumf (maximumf (mc s) (ml (sl 0))) (ml (sl 1))) (ml (sl 2)))
    (ml (sl 3))) (ml (sl 4))) (ml (sl 5))) (ml (sl 6))) (ml (sl 7))

/-- The running sum at a maximum `m`. -/
def lAll (m : FVec F S1x256 .f32) (s : FVec F S256x256 .f32) (sl : Fin 8 → FVec F S512x256 .f32) : FVec F S1x256 .f32 :=
  addf (addf (addf (addf (addf (addf (addf (addf (lc (pc m s)) (ll (pl m (sl 0)))) (ll (pl m (sl 1)))) (ll (pl m (sl 2))))
    (ll (pl m (sl 3)))) (ll (pl m (sl 4)))) (ll (pl m (sl 5)))) (ll (pl m (sl 6)))) (ll (pl m (sl 7)))

/-- The running weighted values at a maximum `m`. -/
def oAll (m : FVec F S1x256 .f32) (s : FVec F S256x256 .f32) (sl : Fin 8 → FVec F S512x256 .f32) (v : Vec F S64x256 .bf16)
    (vl : Fin 8 → Vec F S64x512 .bf16) : FVec F S64x256 .f32 :=
  addf (addf (addf (addf (addf (addf (addf (addf (oc v (pc m s)) (ol (vl 0) (pl m (sl 0)))) (ol (vl 1) (pl m (sl 1))))
    (ol (vl 2) (pl m (sl 2)))) (ol (vl 3) (pl m (sl 3)))) (ol (vl 4) (pl m (sl 4)))) (ol (vl 5) (pl m (sl 5))))
    (ol (vl 6) (pl m (sl 6)))) (ol (vl 7) (pl m (sl 7)))

/-- One head's tile where the queries are latent ones, from the scores of the context and of all latent keys. -/
def headA (s : FVec F S256x256 .f32) (sl : Fin 8 → FVec F S512x256 .f32) (v : Vec F S64x256 .bf16)
    (vl : Fin 8 → Vec F S64x512 .bf16) : FVec F S64x256 .bf16 :=
  fin (lAll (mAll s sl) s sl) (oAll (mAll s sl) s sl v vl)

/-- One head's tile where the queries are context ones, from the scores of the context keys. -/
def headB (s : FVec F S256x256 .f32) (v : Vec F S64x256 .bf16) : FVec F S64x256 .bf16 :=
  fin (lc (pc (mc s) s)) (oc v (pc (mc s) s))

end Vectors

/-- The name's value. -/
theorem qscale_eq : (Named.named (F := Ideal) κ "qscale" 0x3E16C740#32 : Ideal .f32)
    = (((3424635 / 33554432) * (Real.log 2)⁻¹ : ℝ) : EReal) :=
  IdealRules.named_const.ideal_named_scalar _ _ _ _ rfl

/-- The context scores at an index: the sum of the products of key and scaled query. -/
theorem sc_apply (q : Vec Ideal S128x256 .f32) (k : Vec Ideal S1x256x128 .bf16) (n : Fin 256) (j : Fin 256) :
    sc q k (ix2 n j) = ∑ d : Fin 128, k (ix3 0 n d) * (q (ix2 d j) * (((3424635 / 33554432) * (Real.log 2)⁻¹ : ℝ) : EReal)) := by
  pointwise [sc, qs, qscale_eq]

/-- A chunk's scores at an index: the sum of the products of key and scaled query. -/
theorem sl_apply (q : Vec Ideal S128x256 .f32) (k : Vec Ideal S1x512x128 .bf16) (n : Fin 512) (j : Fin 256) :
    sl q k (ix2 n j) = ∑ d : Fin 128, k (ix3 0 n d) * (q (ix2 d j) * (((3424635 / 33554432) * (Real.log 2)⁻¹ : ℝ) : EReal)) := by
  pointwise [sl, qs, qscale_eq]

/-- A column's maximum over the context scores is the largest of the column. -/
theorem mc_apply (s : FVec Ideal S256x256 .f32) (j : Fin 256) :
    mc s (ix2 0 j) = Softmax.top fun n => s (ix2 n j) := by
  pointwise [mc]
  exact Softmax.fold_max _

/-- A column's maximum over a chunk's scores is the largest of the column. -/
theorem ml_apply (s : FVec Ideal S512x256 .f32) (j : Fin 256) :
    ml s (ix2 0 j) = Softmax.top fun n => s (ix2 n j) := by
  pointwise [ml]
  exact Softmax.fold_max _

/-- A column's sum over the context. -/
theorem lc_apply (s : FVec Ideal S256x256 .f32) (j : Fin 256) :
    lc s (ix2 0 j) = ∑ n : Fin 256, s (ix2 n j) := by
  pointwise [lc]

/-- A column's sum over a chunk. -/
theorem ll_apply (s : FVec Ideal S512x256 .f32) (j : Fin 256) :
    ll s (ix2 0 j) = ∑ n : Fin 512, s (ix2 n j) := by
  pointwise [ll]

/-- The context exponentials at an index: two to the power of the score less the maximum. -/
theorem pc_apply (m : FVec Ideal S1x256 .f32) (s : FVec Ideal S256x256 .f32) (n j : Fin 256) :
    pc m s (ix2 n j) = Ideal.exp2 (s (ix2 n j) - m (ix2 0 j)) := by
  pointwise [pc]
  rfl

/-- A chunk's exponentials at an index: two to the power of the score less the maximum. -/
theorem pl_apply (m : FVec Ideal S1x256 .f32) (s : FVec Ideal S512x256 .f32) (n : Fin 512) (j : Fin 256) :
    pl m s (ix2 n j) = Ideal.exp2 (s (ix2 n j) - m (ix2 0 j)) := by
  pointwise [pl]
  rfl

/-- The weighted context values at an index. -/
theorem oc_apply (v : Vec Ideal S64x256 .bf16) (p : FVec Ideal S256x256 .f32) (r : Fin 64) (j : Fin 256) :
    oc v p (ix2 r j) = ∑ n : Fin 256, v (ix2 r n) * p (ix2 n j) := by
  pointwise [oc]

/-- A chunk's weighted values at an index. -/
theorem ol_apply (v : Vec Ideal S64x512 .bf16) (p : FVec Ideal S512x256 .f32) (r : Fin 64) (j : Fin 256) :
    ol v p (ix2 r j) = ∑ n : Fin 512, v (ix2 r n) * p (ix2 n j) := by
  pointwise [ol]

/-- The normalised result at an index: the weighted values times the reciprocal of the column's sum. -/
theorem fin_apply (l : FVec Ideal S1x256 .f32) (o : FVec Ideal S64x256 .f32) (r : Fin 64) (j : Fin 256) :
    fin l o (ix2 r j) = o (ix2 r j) * Ideal.div 1 (l (ix2 0 j)) := by
  pointwise [fin]

/-- The maximum of two vectors at an index. -/
theorem maximumf_at (x y : FVec Ideal S1x256 .f32) (i) : maximumf x y i = max (x i) (y i) := rfl

/-- The sum of two vectors at an index. -/
theorem addf_at {s : Shape} (x y : FVec Ideal s .f32) (i) : addf x y i = x i + y i := rfl

/-- A latent head's tile is the late-normalised attention over all keys. -/
theorem headA_apply (s : FVec Ideal S256x256 .f32) (sl : Fin 8 → FVec Ideal S512x256 .f32)
    (v : Vec Ideal S64x256 .bf16) (vl : Fin 8 → Vec Ideal S64x512 .bf16) (r : Fin 64) (j : Fin 256) (b w : Fin 4352 → EReal)
    (hb : ∀ n, s (ix2 n j) = b (Softmax.keyC n)) (hbl : ∀ c n, sl c (ix2 n j) = b (Softmax.keyL c n))
    (hw : ∀ n, v (ix2 r n) = w (Softmax.keyC n)) (hwl : ∀ c n, vl c (ix2 r n) = w (Softmax.keyL c n)) :
    headA s sl v vl (ix2 r j) = Softmax.late b w := by
  have hm : mAll s sl (ix2 0 j) = Softmax.top b := by
    simp only [mAll, maximumf_at, mc_apply, ml_apply, hb, hbl]
    exact (Softmax.top_keys b).symm
  unfold headA
  rw [fin_apply]
  simp only [lAll, oAll, addf_at, lc_apply, ll_apply, oc_apply, ol_apply, pc_apply, pl_apply, hm, hb, hbl, hw, hwl]
  rw [← Softmax.sum_keys fun n => Ideal.exp2 (b n - Softmax.top b),
    ← Softmax.sum_keys fun n => w n * Ideal.exp2 (b n - Softmax.top b)]
  rfl

/-- A context head's tile is the late-normalised attention over the context keys. -/
theorem headB_apply (s : FVec Ideal S256x256 .f32) (v : Vec Ideal S64x256 .bf16) (r : Fin 64) (j : Fin 256) :
    headB s v (ix2 r j) = Softmax.late (fun n => s (ix2 n j)) (fun n => v (ix2 r n)) := by
  unfold headB
  rw [fin_apply]
  simp only [lc_apply, oc_apply, pc_apply, mc_apply]
  rfl

end Cert.KernelIdeal.Head
-- ==== Proof.Tiles.lean ====
module

public import proofs.«01_k».proof.Proof.Gen.KernelIdeal.Frame
public import proofs.«01_k».proof.Proof.Head
public import Idealize.ShloMosaic.Lib.Pipeline.ValueKit
public import Idealize.ShloMosaic.Lib.Pipeline.ReadBack

/-! What one grid point leaves in its output block: the rows of each of the 8 heads hold that head's attention of the
point's blocks (`Head.headA`, with the latent keys; `Head.headB`, the context's own queries, which see the context's
keys alone). -/

@[expose] public section

set_option maxRecDepth 16384

noncomputable section

namespace Cert.KernelIdeal.Gen

open Idealize.ShloMosaic Idealize.ShloMosaic.TcCoe Idealize.ShloMosaic.Tactic Idealize.SL.Sem

variable {F : FTy → Type} [FloatOps F] [Named F]

/-- Head `h`'s queries (a column each) in the block of queries. -/
def qOf (x0 : Vec F S1024x256 .f32) (h : Fin 8) : Vec F S128x256 .f32 :=
  View.ld x0 (Rect.unit (s := S1024x256) ![128 * h.val, 0] ![128, 256] (by
    intro a; fin_cases a <;> simp <;> omega))

/-- Head `h`'s context keys in the block. -/
def kOf (x1 : Vec F S8x256x128 .bf16) (h : Fin 8) : Vec F S1x256x128 .bf16 :=
  View.ld x1 (Rect.unit (s := S8x256x128) ![h.val, 0, 0] ![1, 256, 128] (by
    intro a; fin_cases a <;> simp <;> omega))

/-- Chunk `c` of head `h`'s latent keys in the block. -/
def klOf (x2 : Vec F S8x4096x128 .bf16) (h c : Fin 8) : Vec F S1x512x128 .bf16 :=
  View.ld x2 (Rect.unit (s := S8x4096x128) ![h.val, 512 * c.val, 0] ![1, 512, 128] (by
    intro a; fin_cases a <;> simp <;> omega))

/-- Head `h`'s context values (a column each) in the block. -/
def vOf (x3 : Vec F S512x256 .bf16) (h : Fin 8) : Vec F S64x256 .bf16 :=
  View.ld x3 (Rect.unit (s := S512x256) ![64 * h.val, 0] ![64, 256] (by
    intro a; fin_cases a <;> simp <;> omega))

/-- Chunk `c` of head `h`'s latent values in the block. -/
def vlOf (x4 : Vec F S512x4096 .bf16) (h c : Fin 8) : Vec F S64x512 .bf16 :=
  View.ld x4 (Rect.unit (s := S512x4096) ![64 * h.val, 512 * c.val] ![64, 512] (by
    intro a; fin_cases a <;> simp <;> omega))

/-- At a point of latent queries, row `64 h + r` and column `j` of the output block is head `h`'s attention over all keys. -/
theorem tileA (c : Dev nD) (i : grid0.Coords) (arg3 : Memref sig .tc .vmem S1024x256 .f32) (harg3 : arg3.IsWhole) (arg4 : Memref sig .tc .vmem S8x256x128 .bf16) (harg4 : arg4.IsWhole) (arg5 : Memref sig .tc .vmem S8x4096x128 .bf16) (harg5 : arg5.IsWhole) (arg6 : Memref sig .tc .vmem S512x256 .bf16) (harg6 : arg6.IsWhole) (arg7 : Memref sig .tc .vmem S512x4096 .bf16) (harg7 : arg7.IsWhole) (arg8 : Memref sig .tc .vmem S512x256 .bf16) (harg8 : arg8.IsWhole) (arg9 : Memref sig .tc .vmem S4352x256 .f32) (harg9 : arg9.IsWhole) (arg10 : Memref sig .tc .vmem S4352x256 .f32) (harg10 : arg10.IsWhole) (hc0 : ¬cond0_0 i) (hc1 : cond0_1 i)
    (x0 : Vec F S1024x256 .f32) (x1 : Vec F S8x256x128 .bf16) (x2 : Vec F S8x4096x128 .bf16) (x3 : Vec F S512x256 .bf16) (x4 : Vec F S512x4096 .bf16)
    (h : Fin 8) (r : Fin 64) (j : Fin 256) (y : S512x256.Idx) (hy0 : (y 0).val = 64 * h.val + r.val) (hy1 : (y 1).val = j.val) :
    out0_A_5 c i arg3 harg3 arg4 harg4 arg5 harg5 arg6 harg6 arg7 harg7 arg8 harg8 arg9 harg9 arg10 harg10 hc0 hc1 x0 x1 x2 x3 x4 y
      = Head.headA (Head.sc (qOf x0 h) (kOf x1 h)) (fun k => Head.sl (qOf x0 h) (klOf x2 h k)) (vOf x3 h) (vlOf x4 h) (ix2 r j) := by
  frame_open
  simp (disch := decide) only [↓ View.readCov_skip, ↓ View.readCov_cons_toLoadRect, ↓ View.readCov_fill]
  frame_out
  canon_tiles x hx
  all_goals
    first
    | (by_cases hh : h = 0; swap; (exfalso; apply hh; apply Fin.ext; omega))
    | (by_cases hh : h = 1; swap; (exfalso; apply hh; apply Fin.ext; omega))
    | (by_cases hh : h = 2; swap; (exfalso; apply hh; apply Fin.ext; omega))
    | (by_cases hh : h = 3; swap; (exfalso; apply hh; apply Fin.ext; omega))
    | (by_cases hh : h = 4; swap; (exfalso; apply hh; apply Fin.ext; omega))
    | (by_cases hh : h = 5; swap; (exfalso; apply hh; apply Fin.ext; omega))
    | (by_cases hh : h = 6; swap; (exfalso; apply hh; apply Fin.ext; omega))
    | (by_cases hh : h = 7; swap; (exfalso; apply hh; apply Fin.ext; omega))
    subst hh
    obtain rfl : x = ix2 r j := (eq_ix2 x).trans (congrArg₂ ix2 (Fin.ext (by omega)) (Fin.ext (by omega)))
    rfl

/-- At a point of context queries, row `64 h + r` and column `j` of the output block is head `h`'s attention over the context. -/
theorem tileB (c : Dev nD) (i : grid0.Coords) (arg3 : Memref sig .tc .vmem S1024x256 .f32) (harg3 : arg3.IsWhole) (arg4 : Memref sig .tc .vmem S8x256x128 .bf16) (harg4 : arg4.IsWhole) (arg5 : Memref sig .tc .vmem S8x4096x128 .bf16) (harg5 : arg5.IsWhole) (arg6 : Memref sig .tc .vmem S512x256 .bf16) (harg6 : arg6.IsWhole) (arg7 : Memref sig .tc .vmem S512x4096 .bf16) (harg7 : arg7.IsWhole) (arg8 : Memref sig .tc .vmem S512x256 .bf16) (harg8 : arg8.IsWhole) (arg9 : Memref sig .tc .vmem S4352x256 .f32) (harg9 : arg9.IsWhole) (arg10 : Memref sig .tc .vmem S4352x256 .f32) (harg10 : arg10.IsWhole) (hc0 : cond0_0 i) (hc1 : ¬cond0_1 i)
    (x0 : Vec F S1024x256 .f32) (x1 : Vec F S8x256x128 .bf16) (x2 : Vec F S8x4096x128 .bf16) (x3 : Vec F S512x256 .bf16) (x4 : Vec F S512x4096 .bf16)
    (h : Fin 8) (r : Fin 64) (j : Fin 256) (y : S512x256.Idx) (hy0 : (y 0).val = 64 * h.val + r.val) (hy1 : (y 1).val = j.val) :
    out0_B_5 c i arg3 harg3 arg4 harg4 arg5 harg5 arg6 harg6 arg7 harg7 arg8 harg8 arg9 harg9 arg10 harg10 hc0 hc1 x0 x1 x2 x3 x4 y
      = Head.headB (Head.sc (qOf x0 h) (kOf x1 h)) (vOf x3 h) (ix2 r j) := by
  frame_open
  simp (disch := decide) only [↓ View.readCov_skip, ↓ View.readCov_cons_toLoadRect, ↓ View.readCov_fill]
  frame_out
  canon_tiles x hx
  all_goals
    first
    | (by_cases hh : h = 0; swap; (exfalso; apply hh; apply Fin.ext; omega))
    | (by_cases hh : h = 1; swap; (exfalso; apply hh; apply Fin.ext; omega))
    | (by_cases hh : h = 2; swap; (exfalso; apply hh; apply Fin.ext; omega))
    | (by_cases hh : h = 3; swap; (exfalso; apply hh; apply Fin.ext; omega))
    | (by_cases hh : h = 4; swap; (exfalso; apply hh; apply Fin.ext; omega))
    | (by_cases hh : h = 5; swap; (exfalso; apply hh; apply Fin.ext; omega))
    | (by_cases hh : h = 6; swap; (exfalso; apply hh; apply Fin.ext; omega))
    | (by_cases hh : h = 7; swap; (exfalso; apply hh; apply Fin.ext; omega))
    subst hh
    obtain rfl : x = ix2 r j := (eq_ix2 x).trans (congrArg₂ ix2 (Fin.ext (by omega)) (Fin.ext (by omega)))
    rfl

end Cert.KernelIdeal.Gen
-- ==== Proof.Tokens.lean ====
module

public import proofs.«01_k».proof.Proof.Softmax
public import Idealize.ShloMosaic.Lib.Pointwise

/-! How both attentions lay out their tokens: the columns of the kernels' arrays, the references' keys, and the host
operations that stack, pad and join them, read at an index, for any number of heads and any width of a head. -/

@[expose] public section

set_option maxRecDepth 16384

noncomputable section

namespace Cert.Tokens

open Idealize.ShloMosaic Idealize.ShloMosaic.Tactic

/-- The array holds real numbers only. -/
def AllReal {s : Shape} (x : Vec Ideal s .f32) : Prop := ∀ i, ∃ a : ℝ, (x i : EReal) = (a : EReal)

/-- The pattern of plus infinity. -/
theorem ofBits_inf : Ideal.ofBits .f32 0x7F800000#32 = ⊤ := by
  simp [Ideal.ofBits, Ideal.ieee]

/-- A number whose absolute value is below plus infinity is real. -/
theorem real_of_abs (x : EReal) (h : Ideal.cmp .olt (max x (-x)) (Ideal.ofBits .f32 0x7F800000#32) = 1#1) :
    ∃ a : ℝ, x = (a : EReal) := by
  rw [ofBits_inf] at h
  induction x using EReal.rec with
  | bot => simp [Ideal.cmp] at h
  | top => simp [Ideal.cmp] at h
  | coe a => exact ⟨a, rfl⟩

/-- The column of key `n` of batch entry `b`: its 256 context tokens first, then its 4096 latent tokens. -/
def colOf (b : Fin 8) (n : Fin 4352) : Fin 34816 :=
  if h : n.val < 256 then ⟨32768 + 256 * b.val + n.val, by omega⟩ else ⟨4096 * b.val + (n.val - 256), by omega⟩

/-- The block of columns that point `t` works on. -/
def cb (t : ℕ) : ℕ := if t % 17 = 16 then 128 + t / 17 else 16 * (t / 17) + t % 17

/-- The columns that a point's blocks start at hold its batch entry's keys. -/
theorem colOf_keyC (b : Fin 8) (n : Fin 256) : (colOf b (Softmax.keyC n)).val = 256 * (128 + b.val) + n.val := by
  unfold colOf Softmax.keyC
  rw [dif_pos n.isLt]
  show 32768 + 256 * b.val + n.val = _
  omega

/-- The column of key `n` of latent chunk `k` of batch entry `b`. -/
theorem colOf_keyL (b k : Fin 8) (n : Fin 512) : (colOf b (Softmax.keyL k n)).val = 4096 * b.val + 512 * k.val + n.val := by
  unfold colOf Softmax.keyL
  rw [dif_neg (by show ¬ (256 + 512 * k.val + n.val < 256); omega)]
  show 4096 * b.val + (256 + 512 * k.val + n.val - 256) = _
  omega

/-- Element `d` of head `h` of the token in column `x`: the latent tokens of all batch entries come first, then the
context tokens. -/
def token {H w : ℕ} (L : Vec Ideal ⟨4, ![8, 4096, H, w]⟩ .f32) (C : Vec Ideal ⟨4, ![8, 256, H, w]⟩ .f32)
    (h : Fin H) (d : Fin w) (x : Fin 34816) : EReal :=
  if _ : x.val < 32768 then L (ix4 ⟨x.val / 4096, by omega⟩ ⟨x.val % 4096, by omega⟩ h d)
  else C (ix4 ⟨(x.val - 32768) / 256, by omega⟩ ⟨(x.val - 32768) % 256, by omega⟩ h d)

/-- The tokens of both kinds stacked in one row of columns, read at an index. -/
theorem stack_at {H w : ℕ} (L : Vec Ideal ⟨4, ![8, 4096, H, w]⟩ .f32) (C : Vec Ideal ⟨4, ![8, 256, H, w]⟩ .f32)
    (hL : Shape.ShapeCasts ⟨4, ![8, 4096, H, w]⟩ ⟨3, ![32768, H, w]⟩)
    (hC : Shape.ShapeCasts ⟨4, ![8, 256, H, w]⟩ ⟨3, ![2048, H, w]⟩)
    (hcat : Shape.Concatenates [(⟨3, ![32768, H, w]⟩ : Shape), ⟨3, ![2048, H, w]⟩] ⟨3, ![34816, H, w]⟩ 0)
    (x : Fin 34816) (h : Fin H) (d : Fin w) :
    concatenate ⟨3, ![34816, H, w]⟩ 0 [⟨⟨3, ![32768, H, w]⟩, shapeCast _ L hL⟩, ⟨⟨3, ![2048, H, w]⟩, shapeCast _ C hC⟩]
      hcat (ix3 x h d) = token L C h d x := by
  unfold token
  by_cases hx : x.val < 32768
  · rw [dif_pos hx]
    refine Eq.trans (concatenate_pair_apply_left _ _ _ hcat _ rfl (ix3 ⟨x.val, hx⟩ h d) ?_) (shapeCast_apply L hL _ _ ?_)
    · intro b
      match b with
      | ⟨0, _⟩ => rfl
      | ⟨1, _⟩ => rfl
      | ⟨2, _⟩ => rfl
    rewrite [Shape.rowMajor_val_four, Shape.rowMajor_val_three]
    show ((x.val / 4096 * 4096 + x.val % 4096) * H + h.val) * w + d.val = (x.val * H + h.val) * w + d.val
    rw [Nat.div_add_mod']
  · rw [dif_neg hx]
    obtain ⟨y, hy⟩ : ∃ y : Fin 2048, x.val - 32768 = y.val := ⟨⟨x.val - 32768, by omega⟩, rfl⟩
    have hxy : y.val + 32768 = x.val := by omega
    simp only [hy]
    refine Eq.trans (concatenate_pair_apply_right _ _ _ hcat _ rfl rfl (ix3 y h d) ?_ ?_) (shapeCast_apply C hC _ _ ?_)
    · intro b
      match b with
      | ⟨0, _⟩ => exact fun hb => absurd rfl hb
      | ⟨1, _⟩ => exact fun _ => rfl
      | ⟨2, _⟩ => exact fun _ => rfl
    · exact hxy
    rewrite [Shape.rowMajor_val_four, Shape.rowMajor_val_three]
    show ((y.val / 256 * 256 + y.val % 256) * H + h.val) * w + d.val = (y.val * H + h.val) * w + d.val
    rw [Nat.div_add_mod']

/-- Element `d` of head `h` of the token the `n`-th key of batch entry `b` comes from: the context tokens first. -/
def keyAt {H w : ℕ} (L : Vec Ideal ⟨4, ![8, 4096, H, w]⟩ .f32) (C : Vec Ideal ⟨4, ![8, 256, H, w]⟩ .f32)
    (b : Fin 8) (n : Fin 4352) (h : Fin H) (d : Fin w) : EReal :=
  if hn : n.val < 256 then C (ix4 b ⟨n.val, hn⟩ h d) else L (ix4 b ⟨n.val - 256, by omega⟩ h d)

/-- The two kinds of tokens joined along the token axis, read at an index. -/
theorem join_at {H w : ℕ} (L : Vec Ideal ⟨4, ![8, 4096, H, w]⟩ .f32) (C : Vec Ideal ⟨4, ![8, 256, H, w]⟩ .f32)
    (hcat : Shape.Concatenates [(⟨4, ![8, 256, H, w]⟩ : Shape), ⟨4, ![8, 4096, H, w]⟩] ⟨4, ![8, 4352, H, w]⟩ 1)
    (b : Fin 8) (n : Fin 4352) (h : Fin H) (d : Fin w) :
    concatenate ⟨4, ![8, 4352, H, w]⟩ 1 [⟨⟨4, ![8, 256, H, w]⟩, C⟩, ⟨⟨4, ![8, 4096, H, w]⟩, L⟩] hcat (ix4 b n h d)
      = keyAt L C b n h d := by
  unfold keyAt
  by_cases hn : n.val < 256
  · rw [dif_pos hn]
    refine concatenate_pair_apply_left _ _ _ hcat _ rfl (ix4 b ⟨n.val, hn⟩ h d) ?_
    intro a
    match a with
    | ⟨0, _⟩ => rfl
    | ⟨1, _⟩ => rfl
    | ⟨2, _⟩ => rfl
    | ⟨3, _⟩ => rfl
  · rw [dif_neg hn]
    obtain ⟨y, hy⟩ : ∃ y : Fin 4096, n.val - 256 = y.val := ⟨⟨n.val - 256, by omega⟩, rfl⟩
    have hyn : y.val + 256 = n.val := by omega
    simp only [hy]
    refine concatenate_pair_apply_right _ _ _ hcat _ rfl rfl (ix4 b y h d) ?_ ?_
    · intro a
      match a with
      | ⟨0, _⟩ => exact fun _ => rfl
      | ⟨1, _⟩ => exact fun hb => absurd rfl hb
      | ⟨2, _⟩ => exact fun _ => rfl
      | ⟨3, _⟩ => exact fun _ => rfl
    · exact hyn

/-- The token in the column of key `n` of batch entry `b`. -/
theorem token_colOf {H w : ℕ} (L : Vec Ideal ⟨4, ![8, 4096, H, w]⟩ .f32) (C : Vec Ideal ⟨4, ![8, 256, H, w]⟩ .f32)
    (h : Fin H) (d : Fin w) (b : Fin 8) (n : Fin 4352) : token L C h d (colOf b n) = keyAt L C b n h d := by
  have hb := b.isLt
  have hn := n.isLt
  unfold keyAt
  by_cases hl : n.val < 256
  · have hv : (colOf b n).val = 32768 + 256 * b.val + n.val := by simp only [colOf, dif_pos hl]
    rw [dif_pos hl, token, dif_neg (by omega)]
    have e1 : (⟨((colOf b n).val - 32768) / 256, by omega⟩ : Fin 8) = b := Fin.ext (by simp only; omega)
    have e2 : (⟨((colOf b n).val - 32768) % 256, by omega⟩ : Fin 256) = ⟨n.val, hl⟩ := Fin.ext (by simp only; omega)
    rw [e1, e2]
  · have hv : (colOf b n).val = 4096 * b.val + (n.val - 256) := by simp only [colOf, dif_neg hl]
    rw [dif_neg hl, token, dif_pos (by omega)]
    have e1 : (⟨(colOf b n).val / 4096, by omega⟩ : Fin 8) = b := Fin.ext (by simp only; omega)
    have e2 : (⟨(colOf b n).val % 4096, by omega⟩ : Fin 4096) = ⟨n.val - 256, by omega⟩ := Fin.ext (by simp only; omega)
    rw [e1, e2]

/-- Tokens padded with zeros to 128 elements a head, read at an index. -/
theorem padded_at {H w p : ℕ} (hp : w + p = 128) (S : Vec Ideal ⟨3, ![34816, H, w]⟩ .f32)
    (hb : Shape.BroadcastsInDim ⟨0, ![]⟩ ⟨3, ![34816, H, p]⟩ ![])
    (hcat : Shape.Concatenates [(⟨3, ![34816, H, w]⟩ : Shape), ⟨3, ![34816, H, p]⟩] ⟨3, ![34816, H, 128]⟩ 2)
    (x : Fin 34816) (h : Fin H) (d : Fin 128) :
    concatenate ⟨3, ![34816, H, 128]⟩ 2 [⟨⟨3, ![34816, H, w]⟩, S⟩,
      ⟨⟨3, ![34816, H, p]⟩, broadcastInDim ⟨3, ![34816, H, p]⟩ ![] hb (constant (F := Ideal) ⟨0, ![]⟩ FTy.f32 0#32)⟩]
      hcat (ix3 x h d) =
    if hd : d.val < w then S (ix3 x h ⟨d.val, hd⟩) else 0 := by
  by_cases hd : d.val < w
  · rw [dif_pos hd]
    refine concatenate_pair_apply_left (t := ⟨3, ![34816, H, 128]⟩) (s₁ := ⟨3, ![34816, H, w]⟩) (s₂ := ⟨3, ![34816, H, p]⟩) _ _ _ _
      (ix3 x h d) rfl (ix3 x h ⟨d.val, hd⟩) ?_
    intro b
    match b with
    | ⟨0, _⟩ => rfl
    | ⟨1, _⟩ => rfl
    | ⟨2, _⟩ => rfl
  · rw [dif_neg hd]
    obtain ⟨y, hy⟩ : ∃ y : Fin p, y.val + w = d.val := ⟨⟨d.val - w, by omega⟩, by simp only; omega⟩
    refine Eq.trans (concatenate_pair_apply_right (t := ⟨3, ![34816, H, 128]⟩) (s₁ := ⟨3, ![34816, H, w]⟩)
      (s₂ := ⟨3, ![34816, H, p]⟩) _ _ _ _ (ix3 x h d) rfl rfl (ix3 x h y) ?_ ?_) ?_
    · intro b
      match b with
      | ⟨0, _⟩ => exact fun _ => rfl
      | ⟨1, _⟩ => exact fun _ => rfl
      | ⟨2, _⟩ => exact fun hb => absurd rfl hb
    · exact hy
    exact Ideal.ofBits_zero_f32

end Cert.Tokens
-- ==== Proof.Array.lean ====
module

public import proofs.«01_k».proof.Proof.Gen.KernelIdeal.Value
public import proofs.«01_k».proof.Proof.Tiles
public import proofs.«01_k».proof.Proof.Tokens
public import Idealize.ShloMosaic.Lib.Pipeline.ValueKit

/-! The whole array the attention leaves: column `x` of row `64 h + r` is the late-normalised attention of query `x` of
head `h` over the keys its batch entry sees. -/

@[expose] public section

set_option maxRecDepth 16384

noncomputable section

namespace Cert.KernelIdeal.Gen

open Idealize.ShloMosaic Idealize.ShloMosaic.TcCoe Idealize.ShloMosaic.Tactic Idealize.SL.Sem
open Cert.Tokens

/-- The kernel's score of the query in column `x` with the key in column `y`, for head `h`. -/
def score (Q : Vec Ideal S1024x34816 .f32) (K : Vec Ideal S8x34816x128 .bf16) (h : Fin 8) (x y : Fin 34816) : EReal :=
  ∑ d : Fin 128, K (ix3 h y d) * (Q (ix2 ⟨128 * h.val + d.val, by omega⟩ x) * ((3424635 / 33554432 * (Real.log 2)⁻¹ : ℝ) : EReal))

/-- The attention of a latent query. -/
def latent (Q : Vec Ideal S1024x34816 .f32) (K : Vec Ideal S8x34816x128 .bf16) (W : Vec Ideal S512x34816 .bf16)
    (a : Fin 512) (x : Fin 34816) (b : Fin 8) : EReal :=
  Softmax.late (fun n => score Q K ⟨a.val / 64, by omega⟩ x (colOf b n)) (fun n => W (ix2 a (colOf b n)))

/-- The attention of a context query. -/
def context (Q : Vec Ideal S1024x34816 .f32) (K : Vec Ideal S8x34816x128 .bf16) (W : Vec Ideal S512x34816 .bf16)
    (a : Fin 512) (x : Fin 34816) (b : Fin 8) : EReal :=
  Softmax.late (fun n => score Q K ⟨a.val / 64, by omega⟩ x (colOf b (Softmax.keyC n)))
    (fun n => W (ix2 a (colOf b (Softmax.keyC n))))

/-- The array of the attentions. -/
def result (Q : Vec Ideal S1024x34816 .f32) (K : Vec Ideal S8x34816x128 .bf16) (W : Vec Ideal S512x34816 .bf16) :
    Vec Ideal S512x34816 .bf16 := fun i =>
  if h : (i 1).val < 32768 then latent Q K W (i 0) (i 1) ⟨(i 1).val / 4096, by omega⟩
  else context Q K W (i 0) (i 1) ⟨((i 1).val - 32768) / 256, by
    have := (i 1).isLt; simp only [S512x34816, Matrix.cons_val_one, Matrix.cons_val_zero] at this; omega⟩

/-- The query block of a point. -/
theorem e0 : ∀ t : Fin cfg0.N, win0_0.index t = ![0, cb t.val] := (by decide +kernel : ∀ t : Fin grid0.N, _)
/-- The context key block of a point: its batch entry's. -/
theorem e1 : ∀ t : Fin cfg0.N, win0_1.index t = ![0, 128 + t.val / 17, 0] := (by decide +kernel : ∀ t : Fin grid0.N, _)
/-- The latent key block of a point: its batch entry's. -/
theorem e2 : ∀ t : Fin cfg0.N, win0_2.index t = ![0, t.val / 17, 0] := (by decide +kernel : ∀ t : Fin grid0.N, _)
/-- The context value block of a point: its batch entry's. -/
theorem e3 : ∀ t : Fin cfg0.N, win0_3.index t = ![0, 128 + t.val / 17] := (by decide +kernel : ∀ t : Fin grid0.N, _)
/-- The latent value block of a point: its batch entry's. -/
theorem e4 : ∀ t : Fin cfg0.N, win0_4.index t = ![0, t.val / 17] := (by decide +kernel : ∀ t : Fin grid0.N, _)
/-- The output block of a point: the columns of its queries. -/
theorem e5 : ∀ t : Fin cfg0.N, win0_5.index t = ![0, cb t.val] := (by decide +kernel : ∀ t : Fin grid0.N, _)

variable (m : (ℓ : Loc nD τ sig) → Buf (Elt Ideal) ℓ)

/-- An element of head `h`'s queries at a point is the query array's element in the point's column. -/
theorem q_at (c : Dev nD) (t : Fin cfg0.N) (h : Fin 8) (d : Fin 128) (j : Fin 256) (x : Fin 34816)
    (hx : x.val = 256 * cb t.val + j.val) :
    qOf (iblk m c 0 t) h (ix2 d j) = V m c main_v6 (ix2 ⟨128 * h.val + d.val, by omega⟩ x) := by
  unfold qOf
  rw [View.ld_unit_apply_of _ _ _ _ _ (ix2 ⟨128 * h.val + d.val, by omega⟩ j) (by intro a; fin_cases a <;> simp [ix2, ix3])]
  blk_simp [iblk]
  refine congrArg (V m c main_v6) ?_
  blk_ext [e0 t]

/-- An element of head `h`'s context keys at a point is the key array's element in its batch entry's column. -/
theorem k_at (c : Dev nD) (t : Fin cfg0.N) (h : Fin 8) (n : Fin 256) (d : Fin 128) (y : Fin 34816)
    (hy : y.val = 256 * (128 + t.val / 17) + n.val) :
    kOf (iblk m c 1 t) h (ix3 0 n d) = V m c main_v12 (ix3 h y d) := by
  unfold kOf
  rw [View.ld_unit_apply_of _ _ _ _ _ (ix3 h n d) (by intro a; fin_cases a <;> simp [ix2, ix3])]
  blk_simp [iblk]
  refine congrArg (V m c main_v12) ?_
  blk_ext [e1 t]

/-- An element of head `h`'s context values at a point is the value array's element in its batch entry's column. -/
theorem v_at (c : Dev nD) (t : Fin cfg0.N) (h : Fin 8) (r : Fin 64) (n : Fin 256) (y : Fin 34816)
    (hy : y.val = 256 * (128 + t.val / 17) + n.val) :
    vOf (iblk m c 3 t) h (ix2 r n) = V m c main_v18 (ix2 ⟨64 * h.val + r.val, by omega⟩ y) := by
  unfold vOf
  rw [View.ld_unit_apply_of _ _ _ _ _ (ix2 ⟨64 * h.val + r.val, by omega⟩ n) (by intro a; fin_cases a <;> simp [ix2, ix3])]
  blk_simp [iblk]
  refine congrArg (V m c main_v18) ?_
  blk_ext [e3 t]

/-- An element of chunk `k` of head `h`'s latent keys at a point is the key array's element in its batch entry's column. -/
theorem kl_at (c : Dev nD) (t : Fin cfg0.N) (h k : Fin 8) (n : Fin 512) (d : Fin 128) (y : Fin 34816)
    (hy : y.val = 4096 * (t.val / 17) + 512 * k.val + n.val) :
    klOf (X0_2 m c t) h k (ix3 0 n d) = V m c main_v12 (ix3 h y d) := by
  unfold klOf X0_2
  rw [View.ld_unit_apply_of _ _ _ _ _ (ix3 h ⟨512 * k.val + n.val, by omega⟩ d) (by intro a; fin_cases a <;> simp [ix2, ix3])]
  unfold Pipeline.Window.fill
  rw [dif_pos (moved0_2 t _)]
  blk_simp [iblk]
  refine congrArg (V m c main_v12) ?_
  blk_ext [e2 t]

/-- An element of chunk `k` of head `h`'s latent values at a point is the value array's element in its batch entry's column. -/
theorem vl_at (c : Dev nD) (t : Fin cfg0.N) (h k : Fin 8) (r : Fin 64) (n : Fin 512) (y : Fin 34816)
    (hy : y.val = 4096 * (t.val / 17) + 512 * k.val + n.val) :
    vlOf (X0_4 m c t) h k (ix2 r n) = V m c main_v18 (ix2 ⟨64 * h.val + r.val, by omega⟩ y) := by
  unfold vlOf X0_4
  rw [View.ld_unit_apply_of _ _ _ _ _ (ix2 ⟨64 * h.val + r.val, by omega⟩ ⟨512 * k.val + n.val, by omega⟩) (by intro a; fin_cases a <;> simp [ix2, ix3])]
  unfold Pipeline.Window.fill
  rw [dif_pos (moved0_4 t _)]
  blk_simp [iblk]
  refine congrArg (V m c main_v18) ?_
  blk_ext [e4 t]

/-- A latent point's tile. -/
theorem tile_latent (c : Dev nD) (t : Fin cfg0.N) (h : Fin 8) (r : Fin 64) (j : Fin 256) (a : Fin 512) (x : Fin 34816) (b : Fin 8)
    (hb : b.val = t.val / 17) (ha : a.val = 64 * h.val + r.val) (hx : x.val = 256 * cb t.val + j.val) :
    Head.headA (Head.sc (qOf (iblk m c 0 t) h) (kOf (iblk m c 1 t) h)) (fun k => Head.sl (qOf (iblk m c 0 t) h) (klOf (X0_2 m c t) h k)) (vOf (iblk m c 3 t) h) (vlOf (X0_4 m c t) h) (ix2 r j)
      = latent (V m c main_v6) (V m c main_v12) (V m c main_v18) a x b := by
  have hl : 64 * h.val + r.val < 512 := by omega
  obtain rfl : a = ⟨64 * h.val + r.val, hl⟩ := Fin.ext ha
  have hh : (⟨(64 * h.val + r.val) / 64, by omega⟩ : Fin 8) = h := Fin.ext (by show (64 * h.val + r.val) / 64 = h.val; omega)
  unfold latent
  rw [hh]
  refine Head.headA_apply _ _ _ _ r j _ _ (fun n => ?_) (fun k n => ?_) (fun n => ?_) (fun k n => ?_)
  · rw [Head.sc_apply]
    exact Finset.sum_congr rfl fun d _ => by
      rw [k_at m c t h n d (colOf b (Softmax.keyC n)) (by rw [colOf_keyC, hb]), q_at m c t h d j x hx]
  · rw [Head.sl_apply]
    exact Finset.sum_congr rfl fun d _ => by
      rw [kl_at m c t h k n d (colOf b (Softmax.keyL k n)) (by rw [colOf_keyL, hb]), q_at m c t h d j x hx]
  · exact v_at m c t h r n _ (by rw [colOf_keyC, hb])
  · exact vl_at m c t h k r n _ (by rw [colOf_keyL, hb])

/-- A context point's tile. -/
theorem tile_context (c : Dev nD) (t : Fin cfg0.N) (h : Fin 8) (r : Fin 64) (j : Fin 256) (a : Fin 512) (x : Fin 34816) (b : Fin 8)
    (hb : b.val = t.val / 17) (ha : a.val = 64 * h.val + r.val) (hx : x.val = 256 * cb t.val + j.val) :
    Head.headB (Head.sc (qOf (iblk m c 0 t) h) (kOf (iblk m c 1 t) h)) (vOf (iblk m c 3 t) h) (ix2 r j)
      = context (V m c main_v6) (V m c main_v12) (V m c main_v18) a x b := by
  have hl : 64 * h.val + r.val < 512 := by omega
  obtain rfl : a = ⟨64 * h.val + r.val, hl⟩ := Fin.ext ha
  have hh : (⟨(64 * h.val + r.val) / 64, by omega⟩ : Fin 8) = h := Fin.ext (by show (64 * h.val + r.val) / 64 = h.val; omega)
  unfold context
  rw [hh, Head.headB_apply]
  refine congrArg₂ Softmax.late (funext fun n => ?_) (funext fun n => v_at m c t h r n _ (by rw [colOf_keyC, hb]))
  rw [Head.sc_apply]
  exact Finset.sum_congr rfl fun d _ => by
    rw [k_at m c t h n d (colOf b (Softmax.keyC n)) (by rw [colOf_keyC, hb]), q_at m c t h d j x hx]

/-- The array the region leaves is `result` of the three arrays that enter it. -/
theorem arr_result (c : Dev nD) : (dats m 0 c).arrAt 5 cfg0.N = result (V m c main_v6) (V m c main_v12) (V m c main_v18) := by
  refine (dats m 0 c).arrAt_eq_of_covers 5 _ (by decide +kernel) fun t hf y => ?_
  blk_simp
  rw [after0_5]
  set i := (win0_5.blk t).view.emb y with hi
  have hy0 : (y 0).val < 512 := (y 0).isLt
  have hy1 : (y 1).val < 256 := (y 1).isLt
  have ht : t.val < 136 := t.isLt
  have hi0 : (i 0).val = (y 0).val := by rw [hi]; blk_simp [e5 t]
  have hi1 : (i 1).val = 256 * cb t.val + (y 1).val := by rw [hi]; blk_simp [e5 t]; omega
  have ha : (i 0).val = 64 * ((y 0).val / 64) + (y 0).val % 64 := by omega
  by_cases h0 : t.val % 17 = 16
  · rw [outsAt0_B m c t h0 (by omega)]
    refine (tileB _ _ _ _ _ _ _ _ _ _ _ _ _ _ _ _ _ _ _ _ _ _ _ _ _ ⟨(y 0).val / 64, by omega⟩ ⟨(y 0).val % 64, by omega⟩ ⟨(y 1).val, hy1⟩ y
      (by show (y 0).val = 64 * ((y 0).val / 64) + (y 0).val % 64; omega) rfl).trans ?_
    have hn : ¬ (i 1).val < 32768 := by rw [hi1]; unfold cb; rw [if_pos h0]; omega
    unfold result
    rw [dif_neg hn]
    refine tile_context m c t _ _ _ _ _ _ ?_ ha hi1
    show ((i 1).val - 32768) / 256 = _
    rw [hi1]; unfold cb; rw [if_pos h0]; omega
  · rw [outsAt0_A m c t h0 (by omega)]
    refine (tileA _ _ _ _ _ _ _ _ _ _ _ _ _ _ _ _ _ _ _ _ _ _ _ _ _ ⟨(y 0).val / 64, by omega⟩ ⟨(y 0).val % 64, by omega⟩ ⟨(y 1).val, hy1⟩ y
      (by show (y 0).val = 64 * ((y 0).val / 64) + (y 0).val % 64; omega) rfl).trans ?_
    have hn : (i 1).val < 32768 := by rw [hi1]; unfold cb; rw [if_neg h0]; omega
    unfold result
    rw [dif_pos hn]
    refine tile_latent m c t _ _ _ _ _ _ ?_ ha hi1
    show (i 1).val / 4096 = _
    rw [hi1]; unfold cb; rw [if_neg h0]; omega

end Cert.KernelIdeal.Gen
-- ==== Proof.Host.lean ====
module

public import proofs.«01_k».proof.Proof.Array

/-! The three arrays the host prepares for the attention, read at an index: the padded and transposed queries, keys and
values. -/

@[expose] public section

set_option maxRecDepth 16384

noncomputable section

namespace Cert.KernelIdeal.Gen

open Idealize.ShloMosaic Idealize.ShloMosaic.TcCoe Idealize.ShloMosaic.Tactic Idealize.SL.Sem
open Cert.Tokens

variable (m : (ℓ : Loc nD τ sig) → Buf (Elt Ideal) ℓ)

/-- The query array at an index: a query element, or zero in the padding. -/
theorem queries_at (c : Dev nD) (h : Fin 8) (d : Fin 128) (x : Fin 34816) :
    V m c main_v6 (ix2 ⟨128 * h.val + d.val, by omega⟩ x) =
      if hd : d.val < 96 then token (w := 96) (m ((c.tc : Thread nD τ).loc main_arg0)) (m ((c.tc : Thread nD τ).loc main_arg1)) h ⟨d.val, hd⟩ x
      else 0 := by
  entry_read
  refine Eq.trans (transpose_apply _ _ _ _ (ix2 x ⟨128 * h.val + d.val, by omega⟩) ?_) ?_
  · intro b
    match b with
    | ⟨0, _⟩ => rfl
    | ⟨1, _⟩ => rfl
  refine Eq.trans (shapeCast_apply _ _ _ (ix3 x h d) ?_) ?_
  · show _ = ((⟨2, ![34816, 1024]⟩ : Shape).rowMajor _).val
    rewrite [Shape.rowMajor_val_three, Shape.rowMajor_val_two]
    show (x.val * 8 + h.val) * 128 + d.val = x.val * 1024 + (128 * h.val + d.val)
    omega
  refine (padded_at (by decide) _ _ _ x h d).trans ?_
  refine dite_congr rfl (fun hd => ?_) fun _ => rfl
  exact stack_at (w := 96) _ _ _ _ _ x h ⟨d.val, hd⟩

/-- The key array at an index: a key element, or zero in the padding. -/
theorem keys_at (c : Dev nD) (h : Fin 8) (x : Fin 34816) (d : Fin 128) :
    V m c main_v12 (ix3 h x d) =
      if hd : d.val < 96 then token (w := 96) (m ((c.tc : Thread nD τ).loc main_arg2)) (m ((c.tc : Thread nD τ).loc main_arg3)) h ⟨d.val, hd⟩ x
      else 0 := by
  entry_read
  rw [truncf_apply]
  rw [Ideal.truncf_def]
  refine Eq.trans (transpose_apply _ _ _ _ (ix3 x h d) ?_) ?_
  · intro b
    match b with
    | ⟨0, _⟩ => rfl
    | ⟨1, _⟩ => rfl
    | ⟨2, _⟩ => rfl
  refine (padded_at (by decide) _ _ _ x h d).trans ?_
  refine dite_congr rfl (fun hd => ?_) fun _ => rfl
  exact stack_at (w := 96) _ _ _ _ _ x h ⟨d.val, hd⟩

/-- The value array at an index. -/
theorem values_at (c : Dev nD) (h : Fin 8) (r : Fin 64) (x : Fin 34816) :
    V m c main_v18 (ix2 ⟨64 * h.val + r.val, by omega⟩ x) =
      token (w := 64) (m ((c.tc : Thread nD τ).loc main_arg4)) (m ((c.tc : Thread nD τ).loc main_arg5)) h r x := by
  entry_read
  rw [truncf_apply]
  rw [Ideal.truncf_def]
  refine Eq.trans (transpose_apply _ _ _ _ (ix2 x ⟨64 * h.val + r.val, by omega⟩) ?_) ?_
  · intro b
    match b with
    | ⟨0, _⟩ => rfl
    | ⟨1, _⟩ => rfl
  refine Eq.trans (shapeCast_apply _ _ _ (ix3 x h r) ?_) ?_
  · show _ = ((⟨2, ![34816, 512]⟩ : Shape).rowMajor _).val
    rewrite [Shape.rowMajor_val_three, Shape.rowMajor_val_two]
    show (x.val * 8 + h.val) * 64 + r.val = x.val * 512 + (64 * h.val + r.val)
    omega
  exact stack_at (w := 64) _ _ _ _ _ x h r

end Cert.KernelIdeal.Gen
-- ==== Proof.Ref.lean ====
module

public import proofs.«01_k».proof.Proof.Gen.ReferenceIdeal.Read
public import proofs.«01_k».proof.Proof.Tokens
public import Idealize.ShloMosaic.Lib.Pointwise

/-! The reference's result read at an index: the plain attention of one query over the keys its batch entry sees. -/

@[expose] public section

set_option maxRecDepth 16384

noncomputable section

namespace Cert.ReferenceIdeal.Rows

open Idealize.ShloMosaic Idealize.ShloMosaic.Tactic Cert.ReferenceIdeal Cert.ReferenceIdeal.Read
open Cert.Tokens

variable (x0 : Vec Ideal S8x4096x8x96 .f32) (x1 : Vec Ideal S8x256x8x96 .f32) (x2 : Vec Ideal S8x4096x8x96 .f32)
  (x3 : Vec Ideal S8x256x8x96 .f32) (x4 : Vec Ideal S8x4096x8x64 .f32) (x5 : Vec Ideal S8x256x8x64 .f32)

/-- The reference's scale. -/
def scale : EReal := Ideal.ofBits .f32 0x3DD105EC#32

/-- The score of latent query `q` with key `n`, head `h`, batch entry `b`. -/
def scoreL (b h : Fin 8) (q : Fin 4096) (n : Fin 4352) : EReal :=
  ∑ d : Fin 96, keyAt x2 x3 b n h d * (x0 (ix4 b q h d) * scale)

/-- The reference's scores of latent queries at an index. -/
theorem v9_at (b h : Fin 8) (q : Fin 4096) (n : Fin 4352) :
    val_main_v9 (F := Ideal) x0 x2 x3 (ix5 b h (0 : Fin 1) q n) = scoreL x0 x2 x3 b h q n := by
  rw [val_main_v9_apply, val_main_v8_apply]
  refine Finset.sum_congr rfl fun d _ => ?_
  rw [val_main_v2_apply, val_main_v1_apply, val_main_v0_apply]
  refine congrArg₂ (· * ·) ?_ (congrArg₂ (· * ·) (congrArg x0 ?_) rfl)
  · have e : lidx_main_v8 (idx_main_v9 (ix5 b h (0 : Fin 1) q n)) d = ix4 b n h d := funext fun a => match a with
      | ⟨0, _⟩ => rfl
      | ⟨1, _⟩ => rfl
      | ⟨2, _⟩ => rfl
      | ⟨3, _⟩ => rfl
    rw [e]
    exact join_at x2 x3 _ b n h d
  · funext a
    match a with
    | ⟨0, _⟩ => rfl
    | ⟨1, _⟩ => rfl
    | ⟨2, _⟩ => rfl
    | ⟨3, _⟩ => rfl

/-- The largest score of latent query `q`. -/
theorem v12_at (b h : Fin 8) (q : Fin 4096) :
    val_main_v12 (F := Ideal) x0 x2 x3 (ix4 b h (0 : Fin 1) q) = Softmax.top (scoreL x0 x2 x3 b h q) := by
  have hr : val_main_v10 (F := Ideal) x0 x2 x3 (ix4 b h (0 : Fin 1) q) = Softmax.top (scoreL x0 x2 x3 b h q) := by
    unfold val_main_v10
    refine (Host.reduce_eq_fold_single (f := (FloatOps.maximumf : Ideal .f32 → Ideal .f32 → Ideal .f32)) _ _ _ (by decide) _ _).trans
      (Eq.trans ?_ (Softmax.fold_max (scoreL x0 x2 x3 b h q)))
    refine Finset.fold_congr fun n _ => ?_
    refine Eq.trans (congrArg (val_main_v9 (F := Ideal) x0 x2 x3) ?_) (v9_at x0 x2 x3 b h q n)
    funext a
    match a with
    | ⟨0, _⟩ => rfl
    | ⟨1, _⟩ => rfl
    | ⟨2, _⟩ => rfl
    | ⟨3, _⟩ => rfl
    | ⟨4, _⟩ => rfl
  rw [val_main_v12_apply, hr, val_main_v11_apply]
  show max (Ideal.ofBits .f32 0xFF800000#32) _ = _
  rw [Softmax.ofBits_ninf]
  exact max_eq_right bot_le

/-- The exponentials of latent query `q`. -/
theorem v16_at (b h : Fin 8) (q : Fin 4096) (n : Fin 4352) :
    val_main_v16 (F := Ideal) x0 x2 x3 (ix5 b h (0 : Fin 1) q n)
      = Ideal.exp (scoreL x0 x2 x3 b h q n - Softmax.top (scoreL x0 x2 x3 b h q)) := by
  rw [val_main_v16_apply, val_main_v15_apply, v9_at, val_main_v14_apply, val_main_v13_apply]
  refine congrArg (fun t => Ideal.exp (scoreL x0 x2 x3 b h q n - t)) ?_
  refine Eq.trans (congrArg (val_main_v12 (F := Ideal) x0 x2 x3) ?_) (v12_at x0 x2 x3 b h q)
  funext a
  match a with
  | ⟨0, _⟩ => rfl
  | ⟨1, _⟩ => rfl
  | ⟨2, _⟩ => rfl
  | ⟨3, _⟩ => rfl

/-- The weights of latent query `q`. -/
theorem v20_at (b h : Fin 8) (q : Fin 4096) (n : Fin 4352) :
    val_main_v20 (F := Ideal) x0 x2 x3 (ix5 b h (0 : Fin 1) q n)
      = Ideal.div (Ideal.exp (scoreL x0 x2 x3 b h q n - Softmax.top (scoreL x0 x2 x3 b h q)))
          (∑ k, Ideal.exp (scoreL x0 x2 x3 b h q k - Softmax.top (scoreL x0 x2 x3 b h q))) := by
  rw [val_main_v20_apply, v16_at, val_main_v19_apply, val_main_v18_apply, val_main_v17_apply]
  refine congrArg (Ideal.div _) ?_
  show Ideal.ofBits .f32 0x00000000#32 + _ = _
  rw [Ideal.ofBits_zero_f32, zero_add]
  refine Finset.sum_congr rfl fun k _ => ?_
  refine Eq.trans (congrArg (val_main_v16 (F := Ideal) x0 x2 x3) ?_) (v16_at x0 x2 x3 b h q k)
  funext a
  match a with
  | ⟨0, _⟩ => rfl
  | ⟨1, _⟩ => rfl
  | ⟨2, _⟩ => rfl
  | ⟨3, _⟩ => rfl
  | ⟨4, _⟩ => rfl

/-- The attention of latent query `q`, element `r` of head `h`. -/
theorem v21_at (b h : Fin 8) (r : Fin 64) (q : Fin 4096) :
    val_main_v21 (F := Ideal) x0 x2 x3 x4 x5 (ix5 b h r (0 : Fin 1) q)
      = Softmax.plain (scoreL x0 x2 x3 b h q) (fun n => keyAt x4 x5 b n h r) := by
  rw [val_main_v21_apply]
  unfold Softmax.plain
  refine Finset.sum_congr rfl fun n _ => congrArg₂ (· * ·) ?_ ?_
  · have e : lidx_main_v21 (ix5 b h r (0 : Fin 1) q) n = ix4 b n h r := funext fun a => match a with
      | ⟨0, _⟩ => rfl
      | ⟨1, _⟩ => rfl
      | ⟨2, _⟩ => rfl
      | ⟨3, _⟩ => rfl
    rw [e]
    exact join_at x4 x5 _ b n h r
  · refine Eq.trans (congrArg (val_main_v20 (F := Ideal) x0 x2 x3) ?_) (v20_at x0 x2 x3 b h q n)
    funext a
    match a with
    | ⟨0, _⟩ => rfl
    | ⟨1, _⟩ => rfl
    | ⟨2, _⟩ => rfl
    | ⟨3, _⟩ => rfl
    | ⟨4, _⟩ => rfl

/-- The attention of latent queries as rows of a matrix, at an index. -/
theorem v23_at (x : Fin 32768) (h : Fin 8) (r : Fin 64) :
    val_main_v23 (F := Ideal) x0 x2 x3 x4 x5 (ix2 x ⟨64 * h.val + r.val, by omega⟩)
      = Softmax.plain (scoreL x0 x2 x3 ⟨x.val / 4096, by omega⟩ h ⟨x.val % 4096, by omega⟩)
          (fun n => keyAt x4 x5 ⟨x.val / 4096, by omega⟩ n h r) := by
  rw [val_main_v23_apply, val_main_v22_apply]
  refine Eq.trans (congrArg (val_main_v21 (F := Ideal) x0 x2 x3 x4 x5) ?_)
    (v21_at x0 x2 x3 x4 x5 ⟨x.val / 4096, by omega⟩ h r ⟨x.val % 4096, by omega⟩)
  have hx := x.isLt
  have hh := h.isLt
  have hr := r.isLt
  funext a
  match a with
  | ⟨0, _⟩ => exact Fin.ext (show (x.val * 512 + (64 * h.val + r.val)) / 2097152 = x.val / 4096 by omega)
  | ⟨1, _⟩ => exact Fin.ext (show (x.val * 512 + (64 * h.val + r.val)) / 64 % 8 = h.val by omega)
  | ⟨2, _⟩ => exact Fin.ext (show (x.val * 512 + (64 * h.val + r.val)) % 64 = r.val by omega)
  | ⟨3, _⟩ => rfl
  | ⟨4, _⟩ => exact Fin.ext (show (x.val * 512 + (64 * h.val + r.val)) / 512 % 4096 = x.val % 4096 by omega)

/-- The score of context query `q` with key `n`, head `h`, batch entry `b`. -/
def scoreC (b h : Fin 8) (q : Fin 256) (n : Fin 256) : EReal :=
  ∑ d : Fin 96, x3 (ix4 b n h d) * (x1 (ix4 b q h d) * scale)

/-- The reference's scores of context queries at an index. -/
theorem v25_at (b h : Fin 8) (q : Fin 256) (n : Fin 256) :
    val_main_v25 (F := Ideal) x1 x3 (ix5 b h (0 : Fin 1) q n) = scoreC x1 x3 b h q n := by
  rw [val_main_v25_apply, val_main_v24_apply]
  refine Finset.sum_congr rfl fun d _ => ?_
  rw [val_main_v5_apply, val_main_v4_apply, val_main_v3_apply]
  refine congrArg₂ (· * ·) ?_ (congrArg₂ (· * ·) (congrArg x1 ?_) rfl)
  · exact (congrArg (x3) (funext fun a => match a with
      | ⟨0, _⟩ => rfl
      | ⟨1, _⟩ => rfl
      | ⟨2, _⟩ => rfl
      | ⟨3, _⟩ => rfl))
  · funext a
    match a with
    | ⟨0, _⟩ => rfl
    | ⟨1, _⟩ => rfl
    | ⟨2, _⟩ => rfl
    | ⟨3, _⟩ => rfl

/-- The largest score of context query `q`. -/
theorem v28_at (b h : Fin 8) (q : Fin 256) :
    val_main_v28 (F := Ideal) x1 x3 (ix4 b h (0 : Fin 1) q) = Softmax.top (scoreC x1 x3 b h q) := by
  have hr : val_main_v26 (F := Ideal) x1 x3 (ix4 b h (0 : Fin 1) q) = Softmax.top (scoreC x1 x3 b h q) := by
    unfold val_main_v26
    refine (Host.reduce_eq_fold_single (f := (FloatOps.maximumf : Ideal .f32 → Ideal .f32 → Ideal .f32)) _ _ _ (by decide) _ _).trans
      (Eq.trans ?_ (Softmax.fold_max (scoreC x1 x3 b h q)))
    refine Finset.fold_congr fun n _ => ?_
    refine Eq.trans (congrArg (val_main_v25 (F := Ideal) x1 x3) ?_) (v25_at x1 x3 b h q n)
    funext a
    match a with
    | ⟨0, _⟩ => rfl
    | ⟨1, _⟩ => rfl
    | ⟨2, _⟩ => rfl
    | ⟨3, _⟩ => rfl
    | ⟨4, _⟩ => rfl
  rw [val_main_v28_apply, hr, val_main_v27_apply]
  show max (Ideal.ofBits .f32 0xFF800000#32) _ = _
  rw [Softmax.ofBits_ninf]
  exact max_eq_right bot_le

/-- The exponentials of context query `q`. -/
theorem v32_at (b h : Fin 8) (q : Fin 256) (n : Fin 256) :
    val_main_v32 (F := Ideal) x1 x3 (ix5 b h (0 : Fin 1) q n)
      = Ideal.exp (scoreC x1 x3 b h q n - Softmax.top (scoreC x1 x3 b h q)) := by
  rw [val_main_v32_apply, val_main_v31_apply, v25_at, val_main_v30_apply, val_main_v29_apply]
  refine congrArg (fun t => Ideal.exp (scoreC x1 x3 b h q n - t)) ?_
  refine Eq.trans (congrArg (val_main_v28 (F := Ideal) x1 x3) ?_) (v28_at x1 x3 b h q)
  funext a
  match a with
  | ⟨0, _⟩ => rfl
  | ⟨1, _⟩ => rfl
  | ⟨2, _⟩ => rfl
  | ⟨3, _⟩ => rfl

/-- The weights of context query `q`. -/
theorem v36_at (b h : Fin 8) (q : Fin 256) (n : Fin 256) :
    val_main_v36 (F := Ideal) x1 x3 (ix5 b h (0 : Fin 1) q n)
      = Ideal.div (Ideal.exp (scoreC x1 x3 b h q n - Softmax.top (scoreC x1 x3 b h q)))
          (∑ k, Ideal.exp (scoreC x1 x3 b h q k - Softmax.top (scoreC x1 x3 b h q))) := by
  rw [val_main_v36_apply, v32_at, val_main_v35_apply, val_main_v34_apply, val_main_v33_apply]
  refine congrArg (Ideal.div _) ?_
  show Ideal.ofBits .f32 0x00000000#32 + _ = _
  rw [Ideal.ofBits_zero_f32, zero_add]
  refine Finset.sum_congr rfl fun k _ => ?_
  refine Eq.trans (congrArg (val_main_v32 (F := Ideal) x1 x3) ?_) (v32_at x1 x3 b h q k)
  funext a
  match a with
  | ⟨0, _⟩ => rfl
  | ⟨1, _⟩ => rfl
  | ⟨2, _⟩ => rfl
  | ⟨3, _⟩ => rfl
  | ⟨4, _⟩ => rfl

/-- The attention of context query `q`, element `r` of head `h`. -/
theorem v37_at (b h : Fin 8) (r : Fin 64) (q : Fin 256) :
    val_main_v37 (F := Ideal) x1 x3 x5 (ix5 b h r (0 : Fin 1) q)
      = Softmax.plain (scoreC x1 x3 b h q) (fun n => x5 (ix4 b n h r)) := by
  rw [val_main_v37_apply]
  unfold Softmax.plain
  refine Finset.sum_congr rfl fun n _ => congrArg₂ (· * ·) ?_ ?_
  · exact (congrArg (x5) (funext fun a => match a with
      | ⟨0, _⟩ => rfl
      | ⟨1, _⟩ => rfl
      | ⟨2, _⟩ => rfl
      | ⟨3, _⟩ => rfl))
  · refine Eq.trans (congrArg (val_main_v36 (F := Ideal) x1 x3) ?_) (v36_at x1 x3 b h q n)
    funext a
    match a with
    | ⟨0, _⟩ => rfl
    | ⟨1, _⟩ => rfl
    | ⟨2, _⟩ => rfl
    | ⟨3, _⟩ => rfl
    | ⟨4, _⟩ => rfl

/-- The attention of context queries as rows of a matrix, at an index. -/
theorem v39_at (x : Fin 2048) (h : Fin 8) (r : Fin 64) :
    val_main_v39 (F := Ideal) x1 x3 x5 (ix2 x ⟨64 * h.val + r.val, by omega⟩)
      = Softmax.plain (scoreC x1 x3 ⟨x.val / 256, by omega⟩ h ⟨x.val % 256, by omega⟩)
          (fun n => x5 (ix4 ⟨x.val / 256, by omega⟩ n h r)) := by
  rw [val_main_v39_apply, val_main_v38_apply]
  refine Eq.trans (congrArg (val_main_v37 (F := Ideal) x1 x3 x5) ?_)
    (v37_at x1 x3 x5 ⟨x.val / 256, by omega⟩ h r ⟨x.val % 256, by omega⟩)
  have hx := x.isLt
  have hh := h.isLt
  have hr := r.isLt
  funext a
  match a with
  | ⟨0, _⟩ => exact Fin.ext (show (x.val * 512 + (64 * h.val + r.val)) / 131072 = x.val / 256 by omega)
  | ⟨1, _⟩ => exact Fin.ext (show (x.val * 512 + (64 * h.val + r.val)) / 64 % 8 = h.val by omega)
  | ⟨2, _⟩ => exact Fin.ext (show (x.val * 512 + (64 * h.val + r.val)) % 64 = r.val by omega)
  | ⟨3, _⟩ => rfl
  | ⟨4, _⟩ => exact Fin.ext (show (x.val * 512 + (64 * h.val + r.val)) / 512 % 256 = x.val % 256 by omega)

/-- The reference's result at an index: the plain attention of the query in that column. -/
theorem result_at (h : Fin 8) (r : Fin 64) (x : Fin 34816) :
    val_main_v42 (F := Ideal) x0 x1 x2 x3 x4 x5 (ix2 ⟨64 * h.val + r.val, by omega⟩ x) =
      if _ : x.val < 32768 then
        Softmax.plain (scoreL x0 x2 x3 ⟨x.val / 4096, by omega⟩ h ⟨x.val % 4096, by omega⟩)
          (fun n => keyAt x4 x5 ⟨x.val / 4096, by omega⟩ n h r)
      else
        Softmax.plain (scoreC x1 x3 ⟨(x.val - 32768) / 256, by omega⟩ h ⟨(x.val - 32768) % 256, by omega⟩)
          (fun n => x5 (ix4 ⟨(x.val - 32768) / 256, by omega⟩ n h r)) := by
  rw [val_main_v42_apply, Ideal.truncf_def, val_main_v41_apply]
  unfold val_main_v40
  by_cases hx : x.val < 32768
  · rw [dif_pos hx]
    refine Eq.trans (concatenate_pair_apply_left (t := S34816x512) (s₁ := S32768x512) (s₂ := S2048x512) _ _ _ _ _ rfl
      (ix2 ⟨x.val, hx⟩ ⟨64 * h.val + r.val, by omega⟩) ?_) (v23_at x0 x2 x3 x4 x5 ⟨x.val, hx⟩ h r)
    intro a
    match a with
    | ⟨0, _⟩ => rfl
    | ⟨1, _⟩ => rfl
  · rw [dif_neg hx]
    obtain ⟨y, hy⟩ : ∃ y : Fin 2048, x.val - 32768 = y.val := ⟨⟨x.val - 32768, by omega⟩, rfl⟩
    have hxy : y.val + 32768 = x.val := by omega
    simp only [hy]
    refine Eq.trans (concatenate_pair_apply_right (t := S34816x512) (s₁ := S32768x512) (s₂ := S2048x512) _ _ _ _ _ rfl rfl
      (ix2 y ⟨64 * h.val + r.val, by omega⟩) ?_ ?_) (v39_at x1 x3 x5 y h r)
    · intro a
      match a with
      | ⟨0, _⟩ => exact fun hb => absurd rfl hb
      | ⟨1, _⟩ => exact fun _ => rfl
    · exact hxy

end Cert.ReferenceIdeal.Rows
-- ==== Proof.Equal.lean ====
module

public import proofs.«01_k».proof.Pre_finite
public import proofs.«01_k».proof.Proof.Host
public import proofs.«01_k».proof.Proof.Ref

/-! The kernel's array is the reference's when the queries and keys are finite. -/

@[expose] public section

set_option maxRecDepth 16384

noncomputable section

namespace Cert.Equal

open Idealize.ShloMosaic Idealize.ShloMosaic.TcCoe Idealize.ShloMosaic.Tactic Idealize.SL.Sem
open Cert.KernelIdeal.Gen Cert.ReferenceIdeal.Rows Cert.Tokens

/-- The reference's scale is this fraction. -/
theorem scale_eq : scale = ((3424635 / 33554432 : ℝ) : EReal) := by
  unfold scale
  simp [Ideal.ofBits, Ideal.ieee]
  rw [← EReal.coe_mul]
  norm_num

/-- A sum over 128 elements a head of which the last 32 are padding is the sum over the first 96. -/
theorem sum_padded (f : Fin 128 → EReal) (h : ∀ d : Fin 128, 96 ≤ d.val → f d = 0) :
    ∑ d, f d = ∑ d : Fin 96, f ⟨d.val, by omega⟩ := by
  have e : ∀ g : Fin (96 + 32) → EReal, (∀ d : Fin 32, g (Fin.natAdd 96 d) = 0) →
      ∑ d, g d = ∑ d : Fin 96, g (Fin.castAdd 32 d) := by
    intro g hg
    rw [Fin.sum_univ_add, Finset.sum_eq_zero fun d _ => hg d, add_zero]
  exact e f fun d => h _ (Nat.le_add_right _ _)

variable (m : (ℓ : Loc Cert.KernelIdeal.nD Cert.KernelIdeal.τ Cert.KernelIdeal.sig) → Buf (Elt Ideal) ℓ)
  (c : Dev Cert.KernelIdeal.nD)
  (x0 : Vec Ideal ⟨4, ![8, 4096, 8, 96]⟩ .f32) (x1 : Vec Ideal ⟨4, ![8, 256, 8, 96]⟩ .f32)
  (x2 : Vec Ideal ⟨4, ![8, 4096, 8, 96]⟩ .f32) (x3 : Vec Ideal ⟨4, ![8, 256, 8, 96]⟩ .f32)
  (x4 : Vec Ideal ⟨4, ![8, 4096, 8, 64]⟩ .f32) (x5 : Vec Ideal ⟨4, ![8, 256, 8, 64]⟩ .f32)

/-- The kernel's score of the query in a column with a key, over the head's own 96 elements. -/
theorem score_eq (Q : Vec Ideal Cert.KernelIdeal.S1024x34816 .f32) (K : Vec Ideal Cert.KernelIdeal.S8x34816x128 .bf16)
    (hQ : ∀ (h : Fin 8) (d : Fin 128) (x : Fin 34816), Q (ix2 ⟨128 * h.val + d.val, by omega⟩ x) =
      if hd : d.val < 96 then token x0 x1 h ⟨d.val, hd⟩ x else 0)
    (hK : ∀ (h : Fin 8) (x : Fin 34816) (d : Fin 128), K (ix3 h x d) =
      if hd : d.val < 96 then token x2 x3 h ⟨d.val, hd⟩ x else 0)
    (h : Fin 8) (x : Fin 34816) (b : Fin 8) (n : Fin 4352) :
    score Q K h x (colOf b n) = ∑ d : Fin 96, keyAt x2 x3 b n h d
      * (token x0 x1 h d x * ((3424635 / 33554432 * (Real.log 2)⁻¹ : ℝ) : EReal)) := by
  unfold score
  rw [sum_padded]
  · refine Finset.sum_congr rfl fun d _ => ?_
    rw [hK, hQ, dif_pos d.isLt, dif_pos d.isLt, token_colOf]
  · intro d hd
    rw [hK, dif_neg (by omega), zero_mul]

/-- The kernel's array is the reference's, element by element. -/
theorem result_eq (Q : Vec Ideal Cert.KernelIdeal.S1024x34816 .f32) (K : Vec Ideal Cert.KernelIdeal.S8x34816x128 .bf16)
    (W : Vec Ideal Cert.KernelIdeal.S512x34816 .bf16)
    (hQ : ∀ (h : Fin 8) (d : Fin 128) (x : Fin 34816), Q (ix2 ⟨128 * h.val + d.val, by omega⟩ x) =
      if hd : d.val < 96 then token x0 x1 h ⟨d.val, hd⟩ x else 0)
    (hK : ∀ (h : Fin 8) (x : Fin 34816) (d : Fin 128), K (ix3 h x d) =
      if hd : d.val < 96 then token x2 x3 h ⟨d.val, hd⟩ x else 0)
    (hW : ∀ (h : Fin 8) (r : Fin 64) (x : Fin 34816), W (ix2 ⟨64 * h.val + r.val, by omega⟩ x) = token x4 x5 h r x)
    (h0 : AllReal x0) (h1 : AllReal x1) (h2 : AllReal x2) (h3 : AllReal x3) :
    result Q K W = Cert.ReferenceIdeal.Read.val_main_v42 (F := Ideal) x0 x1 x2 x3 x4 x5 := by
  funext i
  obtain ⟨a, x, rfl⟩ : ∃ (a : Fin 512) (x : Fin 34816), i = ix2 a x := ⟨i 0, i 1, (ix2_eta i).symm⟩
  obtain ⟨h, r, ha⟩ : ∃ (h : Fin 8) (r : Fin 64), a = ⟨64 * h.val + r.val, by omega⟩ :=
    ⟨⟨a.val / 64, by omega⟩, ⟨a.val % 64, by omega⟩, Fin.ext (Nat.div_add_mod _ _).symm⟩
  have hkey : ∀ b n h d, ∃ y : ℝ, keyAt x2 x3 b n h d = (y : EReal) := by
    intro b n h d
    unfold keyAt
    split
    · exact h3 _
    · exact h2 _
  have hh : (⟨a.val / 64, by omega⟩ : Fin 8) = h := by
    subst ha; exact Fin.ext (by have := r.isLt; simp only; omega)
  have hval : ∀ y, W (ix2 a y) = token x4 x5 h r y := fun y => by rw [ha]; exact hW h r y
  have hR := result_at x0 x1 x2 x3 x4 x5 h r x
  rw [← ha] at hR
  rw [hR]
  show (if _ : x.val < 32768 then latent Q K W a x ⟨x.val / 4096, _⟩ else context Q K W a x ⟨(x.val - 32768) / 256, _⟩) = _
  refine dite_congr rfl (fun hx => ?_) fun hx => ?_
  · have hx' : x.val < 32768 := hx
    unfold latent
    simp only [hh, hval, score_eq x0 x1 x2 x3 Q K hQ hK, token_colOf]
    refine Eq.trans (Softmax.attention_eq (3424635 / 33554432) (fun n d => keyAt x2 x3 ⟨x.val / 4096, by omega⟩ n h d) (fun d => token x0 x1 h d x) _
      (fun n d => hkey _ _ _ _) fun d => ?_) ?_
    · rw [token, dif_pos hx']; exact h0 _
    · rw [← scale_eq]
      simp only [token, dif_pos hx']
      rfl
  · have hx' : ¬ x.val < 32768 := hx
    have hc : ∀ {w : ℕ} (L : Vec Ideal ⟨4, ![8, 4096, 8, w]⟩ .f32) (C : Vec Ideal ⟨4, ![8, 256, 8, w]⟩ .f32) (b : Fin 8)
        (n : Fin 256) (h : Fin 8) (d : Fin w), keyAt L C b (Softmax.keyC n) h d = C (ix4 b n h d) := by
      intro w L C b n h d
      exact dif_pos n.isLt
    unfold context
    simp only [hh, hval, score_eq x0 x1 x2 x3 Q K hQ hK, token_colOf, hc]
    refine Eq.trans (Softmax.attention_eq (3424635 / 33554432) (fun n d => x3 (ix4 ⟨(x.val - 32768) / 256, by omega⟩ n h d)) (fun d => token x0 x1 h d x) _
      (fun n d => h3 _) fun d => ?_) ?_
    · rw [token, dif_neg hx']; exact h1 _
    · rw [← scale_eq]
      simp only [token, dif_neg hx']
      rfl

end Cert.Equal
-- ==== Proof.Head2.lean ====
/- The scores of one query head of the grouped-query attention, as vector operations, and their values at an index. -/
module

public import proofs.«01_k».proof.Proof.Gen.Kernel2Ideal.Skeleton
public import proofs.«01_k».proof.Proof.Head

@[expose] public section

set_option maxRecDepth 16384

noncomputable section

namespace Cert.Kernel2Ideal.Head

open Idealize.ShloMosaic Idealize.SL.Sem Cert.Kernel2Ideal Cert.Kernel2Ideal.Gen

section Vectors
variable {F : FTy → Type} [FloatOps F] [Named F]

/-- The head's queries, scaled and rounded. -/
def qs (q : Vec F S64x256 .f32) : FVec F S64x256 .bf16 :=
  truncf .bf16 (mulf (shapeCast S64x256 q shapeCasts_S64x256_S64x256)
    (broadcast S64x256 (Named.named κ "qscale" 0x3E38AA3B#32))) bitsLt_bf16_f32

/-- Scores of the context keys. -/
def sc (q : Vec F S64x256 .f32) (k : Vec F S1x256x64 .bf16) : FVec F S256x256 .f32 :=
  matmul dot_S256x64_S64x256_S256x256_1_0_0_1_n_n none (shapeCast S256x64 k shapeCasts_S1x256x64_S256x64) (qs q)
    (constant S256x256 .f32 0x00000000#32)

/-- Scores of one chunk of latent keys. -/
def sl (q : Vec F S64x256 .f32) (k : Vec F S1x512x64 .bf16) : FVec F S512x256 .f32 :=
  matmul dot_S512x64_S64x256_S512x256_1_0_0_1_n_n none (shapeCast S512x64 k shapeCasts_S1x512x64_S512x64) (qs q)
    (constant S512x256 .f32 0x00000000#32)

end Vectors

/-- The name's value. -/
theorem qscale_eq : (Named.named (F := Ideal) κ "qscale" 0x3E38AA3B#32 : Ideal .f32)
    = (((1 / 8) * (Real.log 2)⁻¹ : ℝ) : EReal) :=
  IdealRules.named_const.ideal_named_scalar _ _ _ _ rfl

/-- The context scores at an index: the sum of the products of key and scaled query. -/
theorem sc_apply (q : Vec Ideal S64x256 .f32) (k : Vec Ideal S1x256x64 .bf16) (n : Fin 256) (j : Fin 256) :
    sc q k (ix2 n j) = ∑ d : Fin 64, k (ix3 0 n d) * (q (ix2 d j) * (((1 / 8) * (Real.log 2)⁻¹ : ℝ) : EReal)) := by
  pointwise [sc, qs, qscale_eq]

/-- A chunk's scores at an index: the sum of the products of key and scaled query. -/
theorem sl_apply (q : Vec Ideal S64x256 .f32) (k : Vec Ideal S1x512x64 .bf16) (n : Fin 512) (j : Fin 256) :
    sl q k (ix2 n j) = ∑ d : Fin 64, k (ix3 0 n d) * (q (ix2 d j) * (((1 / 8) * (Real.log 2)⁻¹ : ℝ) : EReal)) := by
  pointwise [sl, qs, qscale_eq]

end Cert.Kernel2Ideal.Head
-- ==== Proof.Tiles2.lean ====
module

public import proofs.«01_k».proof.Proof.Gen.Kernel2Ideal.Frame
public import proofs.«01_k».proof.Proof.Head2
public import Idealize.ShloMosaic.Lib.Pipeline.ValueKit
public import Idealize.ShloMosaic.Lib.Pipeline.ReadBack

/-! What one grid point of the grouped-query attention leaves in its output block: the rows of each of
the 16 query heads hold that head's attention of the point's blocks, with the keys and values of the key head it shares. -/

@[expose] public section

set_option maxRecDepth 16384

noncomputable section

namespace Cert.Kernel2Ideal.Gen

open Idealize.ShloMosaic Idealize.ShloMosaic.TcCoe Idealize.ShloMosaic.Tactic Idealize.SL.Sem

variable {F : FTy → Type} [FloatOps F] [Named F]

/-- Head `h`'s queries (a column each) in the block of queries. -/
def qOf (x0 : Vec F S1024x256 .f32) (h : Fin 16) : Vec F S64x256 .f32 :=
  View.ld x0 (Rect.unit (s := S1024x256) ![64 * h.val, 0] ![64, 256] (by
    intro a; fin_cases a <;> simp <;> omega))

/-- Key head `k`'s context keys in the block. -/
def kOf (x1 : Vec F S4x256x128 .bf16) (k : Fin 4) : Vec F S1x256x64 .bf16 :=
  View.ld x1 (Rect.unit (s := S4x256x128) ![k.val, 0, 0] ![1, 256, 64] (by
    intro a; fin_cases a <;> simp <;> omega))

/-- Chunk `c` of key head `k`'s latent keys in the block. -/
def klOf (x2 : Vec F S4x4096x128 .bf16) (k : Fin 4) (c : Fin 8) : Vec F S1x512x64 .bf16 :=
  View.ld x2 (Rect.unit (s := S4x4096x128) ![k.val, 512 * c.val, 0] ![1, 512, 64] (by
    intro a; fin_cases a <;> simp <;> omega))

/-- Key head `k`'s context values (a column each) in the block. -/
def vOf (x3 : Vec F S256x256 .bf16) (k : Fin 4) : Vec F S64x256 .bf16 :=
  View.ld x3 (Rect.unit (s := S256x256) ![64 * k.val, 0] ![64, 256] (by
    intro a; fin_cases a <;> simp <;> omega))

/-- Chunk `c` of key head `k`'s latent values in the block. -/
def vlOf (x4 : Vec F S256x4096 .bf16) (k : Fin 4) (c : Fin 8) : Vec F S64x512 .bf16 :=
  View.ld x4 (Rect.unit (s := S256x4096) ![64 * k.val, 512 * c.val] ![64, 512] (by
    intro a; fin_cases a <;> simp <;> omega))

/-- The key head of query head `h`: each serves four query heads. -/
def kvOf (h : Fin 16) : Fin 4 := ⟨h.val / 4, by omega⟩

/-- At a point of latent queries, row `64 h + r` and column `j` of the output block is head `h`'s attention over all keys. -/
theorem tileA (c : Dev nD) (i : grid0.Coords) (arg3 : Memref sig .tc .vmem S1024x256 .f32) (harg3 : arg3.IsWhole) (arg4 : Memref sig .tc .vmem S4x256x128 .bf16) (harg4 : arg4.IsWhole) (arg5 : Memref sig .tc .vmem S4x4096x128 .bf16) (harg5 : arg5.IsWhole) (arg6 : Memref sig .tc .vmem S256x256 .bf16) (harg6 : arg6.IsWhole) (arg7 : Memref sig .tc .vmem S256x4096 .bf16) (harg7 : arg7.IsWhole) (arg8 : Memref sig .tc .vmem S1024x256 .bf16) (harg8 : arg8.IsWhole) (arg9 : Memref sig .tc .vmem S4352x256 .f32) (harg9 : arg9.IsWhole) (arg10 : Memref sig .tc .vmem S4352x256 .f32) (harg10 : arg10.IsWhole) (hc0 : ¬cond0_0 i) (hc1 : cond0_1 i)
    (x0 : Vec F S1024x256 .f32) (x1 : Vec F S4x256x128 .bf16) (x2 : Vec F S4x4096x128 .bf16) (x3 : Vec F S256x256 .bf16) (x4 : Vec F S256x4096 .bf16)
    (h : Fin 16) (r : Fin 64) (j : Fin 256) (y : S1024x256.Idx) (hy0 : (y 0).val = 64 * h.val + r.val) (hy1 : (y 1).val = j.val) :
    out0_A_5 c i arg3 harg3 arg4 harg4 arg5 harg5 arg6 harg6 arg7 harg7 arg8 harg8 arg9 harg9 arg10 harg10 hc0 hc1 x0 x1 x2 x3 x4 y
      = Cert.KernelIdeal.Head.headA (Head.sc (qOf x0 h) (kOf x1 (kvOf h))) (fun k => Head.sl (qOf x0 h) (klOf x2 (kvOf h) k)) (vOf x3 (kvOf h)) (vlOf x4 (kvOf h)) (ix2 r j) := by
  frame_open
  simp (disch := decide) only [↓ View.readCov_skip, ↓ View.readCov_cons_toLoadRect, ↓ View.readCov_fill]
  frame_out
  canon_tiles x hx
  all_goals
    first
    | (by_cases hh : h = 0; swap; (exfalso; apply hh; apply Fin.ext; omega))
    | (by_cases hh : h = 1; swap; (exfalso; apply hh; apply Fin.ext; omega))
    | (by_cases hh : h = 2; swap; (exfalso; apply hh; apply Fin.ext; omega))
    | (by_cases hh : h = 3; swap; (exfalso; apply hh; apply Fin.ext; omega))
    | (by_cases hh : h = 4; swap; (exfalso; apply hh; apply Fin.ext; omega))
    | (by_cases hh : h = 5; swap; (exfalso; apply hh; apply Fin.ext; omega))
    | (by_cases hh : h = 6; swap; (exfalso; apply hh; apply Fin.ext; omega))
    | (by_cases hh : h = 7; swap; (exfalso; apply hh; apply Fin.ext; omega))
    | (by_cases hh : h = 8; swap; (exfalso; apply hh; apply Fin.ext; omega))
    | (by_cases hh : h = 9; swap; (exfalso; apply hh; apply Fin.ext; omega))
    | (by_cases hh : h = 10; swap; (exfalso; apply hh; apply Fin.ext; omega))
    | (by_cases hh : h = 11; swap; (exfalso; apply hh; apply Fin.ext; omega))
    | (by_cases hh : h = 12; swap; (exfalso; apply hh; apply Fin.ext; omega))
    | (by_cases hh : h = 13; swap; (exfalso; apply hh; apply Fin.ext; omega))
    | (by_cases hh : h = 14; swap; (exfalso; apply hh; apply Fin.ext; omega))
    | (by_cases hh : h = 15; swap; (exfalso; apply hh; apply Fin.ext; omega))
    subst hh
    obtain rfl : x = ix2 r j := (eq_ix2 x).trans (congrArg₂ ix2 (Fin.ext (by omega)) (Fin.ext (by omega)))
    rfl

/-- At a point of context queries, row `64 h + r` and column `j` of the output block is head `h`'s attention over the context. -/
theorem tileB (c : Dev nD) (i : grid0.Coords) (arg3 : Memref sig .tc .vmem S1024x256 .f32) (harg3 : arg3.IsWhole) (arg4 : Memref sig .tc .vmem S4x256x128 .bf16) (harg4 : arg4.IsWhole) (arg5 : Memref sig .tc .vmem S4x4096x128 .bf16) (harg5 : arg5.IsWhole) (arg6 : Memref sig .tc .vmem S256x256 .bf16) (harg6 : arg6.IsWhole) (arg7 : Memref sig .tc .vmem S256x4096 .bf16) (harg7 : arg7.IsWhole) (arg8 : Memref sig .tc .vmem S1024x256 .bf16) (harg8 : arg8.IsWhole) (arg9 : Memref sig .tc .vmem S4352x256 .f32) (harg9 : arg9.IsWhole) (arg10 : Memref sig .tc .vmem S4352x256 .f32) (harg10 : arg10.IsWhole) (hc0 : cond0_0 i) (hc1 : ¬cond0_1 i)
    (x0 : Vec F S1024x256 .f32) (x1 : Vec F S4x256x128 .bf16) (x2 : Vec F S4x4096x128 .bf16) (x3 : Vec F S256x256 .bf16) (x4 : Vec F S256x4096 .bf16)
    (h : Fin 16) (r : Fin 64) (j : Fin 256) (y : S1024x256.Idx) (hy0 : (y 0).val = 64 * h.val + r.val) (hy1 : (y 1).val = j.val) :
    out0_B_5 c i arg3 harg3 arg4 harg4 arg5 harg5 arg6 harg6 arg7 harg7 arg8 harg8 arg9 harg9 arg10 harg10 hc0 hc1 x0 x1 x2 x3 x4 y
      = Cert.KernelIdeal.Head.headB (Head.sc (qOf x0 h) (kOf x1 (kvOf h))) (vOf x3 (kvOf h)) (ix2 r j) := by
  frame_open
  simp (disch := decide) only [↓ View.readCov_skip, ↓ View.readCov_cons_toLoadRect, ↓ View.readCov_fill]
  frame_out
  canon_tiles x hx
  all_goals
    first
    | (by_cases hh : h = 0; swap; (exfalso; apply hh; apply Fin.ext; omega))
    | (by_cases hh : h = 1; swap; (exfalso; apply hh; apply Fin.ext; omega))
    | (by_cases hh : h = 2; swap; (exfalso; apply hh; apply Fin.ext; omega))
    | (by_cases hh : h = 3; swap; (exfalso; apply hh; apply Fin.ext; omega))
    | (by_cases hh : h = 4; swap; (exfalso; apply hh; apply Fin.ext; omega))
    | (by_cases hh : h = 5; swap; (exfalso; apply hh; apply Fin.ext; omega))
    | (by_cases hh : h = 6; swap; (exfalso; apply hh; apply Fin.ext; omega))
    | (by_cases hh : h = 7; swap; (exfalso; apply hh; apply Fin.ext; omega))
    | (by_cases hh : h = 8; swap; (exfalso; apply hh; apply Fin.ext; omega))
    | (by_cases hh : h = 9; swap; (exfalso; apply hh; apply Fin.ext; omega))
    | (by_cases hh : h = 10; swap; (exfalso; apply hh; apply Fin.ext; omega))
    | (by_cases hh : h = 11; swap; (exfalso; apply hh; apply Fin.ext; omega))
    | (by_cases hh : h = 12; swap; (exfalso; apply hh; apply Fin.ext; omega))
    | (by_cases hh : h = 13; swap; (exfalso; apply hh; apply Fin.ext; omega))
    | (by_cases hh : h = 14; swap; (exfalso; apply hh; apply Fin.ext; omega))
    | (by_cases hh : h = 15; swap; (exfalso; apply hh; apply Fin.ext; omega))
    subst hh
    obtain rfl : x = ix2 r j := (eq_ix2 x).trans (congrArg₂ ix2 (Fin.ext (by omega)) (Fin.ext (by omega)))
    rfl

end Cert.Kernel2Ideal.Gen
-- ==== Proof.Array2.lean ====
module

public import proofs.«01_k».proof.Proof.Gen.Kernel2Ideal.Value
public import proofs.«01_k».proof.Proof.Tiles2
public import proofs.«01_k».proof.Proof.Tokens
public import Idealize.ShloMosaic.Lib.Pipeline.ValueKit

/-! The whole array the grouped-query attention leaves: column `x` of row `64 h + r` is the late-normalised attention of query `x` of
query head `h` over the keys its batch entry sees, with the keys and values of the key head it shares. -/

@[expose] public section

set_option maxRecDepth 16384

noncomputable section

namespace Cert.Kernel2Ideal.Gen

open Idealize.ShloMosaic Idealize.ShloMosaic.TcCoe Idealize.ShloMosaic.Tactic Idealize.SL.Sem
open Cert.Tokens

/-- The kernel's score of the query in column `x` with the key in column `y`, for head `h`. -/
def score (Q : Vec Ideal S1024x34816 .f32) (K : Vec Ideal S4x34816x128 .bf16) (h : Fin 16) (x y : Fin 34816) : EReal :=
  ∑ d : Fin 64, K (ix3 (kvOf h) y ⟨d.val, by omega⟩)
    * (Q (ix2 ⟨64 * h.val + d.val, by omega⟩ x) * ((1 / 8 * (Real.log 2)⁻¹ : ℝ) : EReal))

/-- The row of the values that row `a` of the result reads: its head's key head, the same element. -/
def valueRow (a : Fin 1024) : Fin 256 := ⟨64 * (a.val / 256) + a.val % 64, by omega⟩

/-- The attention of a latent query. -/
def latent (Q : Vec Ideal S1024x34816 .f32) (K : Vec Ideal S4x34816x128 .bf16) (W : Vec Ideal S256x34816 .bf16)
    (a : Fin 1024) (x : Fin 34816) (b : Fin 8) : EReal :=
  Softmax.late (fun n => score Q K ⟨a.val / 64, by omega⟩ x (colOf b n)) (fun n => W (ix2 (valueRow a) (colOf b n)))

/-- The attention of a context query. -/
def context (Q : Vec Ideal S1024x34816 .f32) (K : Vec Ideal S4x34816x128 .bf16) (W : Vec Ideal S256x34816 .bf16)
    (a : Fin 1024) (x : Fin 34816) (b : Fin 8) : EReal :=
  Softmax.late (fun n => score Q K ⟨a.val / 64, by omega⟩ x (colOf b (Softmax.keyC n)))
    (fun n => W (ix2 (valueRow a) (colOf b (Softmax.keyC n))))

/-- The array of the attentions. -/
def result (Q : Vec Ideal S1024x34816 .f32) (K : Vec Ideal S4x34816x128 .bf16) (W : Vec Ideal S256x34816 .bf16) :
    Vec Ideal S1024x34816 .bf16 := fun i =>
  if h : (i 1).val < 32768 then latent Q K W (i 0) (i 1) ⟨(i 1).val / 4096, by omega⟩
  else context Q K W (i 0) (i 1) ⟨((i 1).val - 32768) / 256, by
    have := (i 1).isLt; simp only [S1024x34816, Matrix.cons_val_one, Matrix.cons_val_zero] at this; omega⟩

/-- The query block of a point. -/
theorem e0 : ∀ t : Fin cfg0.N, win0_0.index t = ![0, cb t.val] := (by decide +kernel : ∀ t : Fin grid0.N, _)
/-- The context key block of a point: its batch entry's. -/
theorem e1 : ∀ t : Fin cfg0.N, win0_1.index t = ![0, 128 + t.val / 17, 0] := (by decide +kernel : ∀ t : Fin grid0.N, _)
/-- The latent key block of a point: its batch entry's. -/
theorem e2 : ∀ t : Fin cfg0.N, win0_2.index t = ![0, t.val / 17, 0] := (by decide +kernel : ∀ t : Fin grid0.N, _)
/-- The context value block of a point: its batch entry's. -/
theorem e3 : ∀ t : Fin cfg0.N, win0_3.index t = ![0, 128 + t.val / 17] := (by decide +kernel : ∀ t : Fin grid0.N, _)
/-- The latent value block of a point: its batch entry's. -/
theorem e4 : ∀ t : Fin cfg0.N, win0_4.index t = ![0, t.val / 17] := (by decide +kernel : ∀ t : Fin grid0.N, _)
/-- The output block of a point: the columns of its queries. -/
theorem e5 : ∀ t : Fin cfg0.N, win0_5.index t = ![0, cb t.val] := (by decide +kernel : ∀ t : Fin grid0.N, _)

variable (m : (ℓ : Loc nD τ sig) → Buf (Elt Ideal) ℓ)

/-- An element of head `h`'s queries at a point is the query array's element in the point's column. -/
theorem q_at (c : Dev nD) (t : Fin cfg0.N) (h : Fin 16) (d : Fin 64) (j : Fin 256) (x : Fin 34816)
    (hx : x.val = 256 * cb t.val + j.val) :
    qOf (iblk m c 0 t) h (ix2 d j) = V m c main_v5 (ix2 ⟨64 * h.val + d.val, by omega⟩ x) := by
  unfold qOf
  rw [View.ld_unit_apply_of _ _ _ _ _ (ix2 ⟨64 * h.val + d.val, by omega⟩ j) (by intro a; fin_cases a <;> simp [ix2, ix3])]
  blk_simp [iblk]
  refine congrArg (V m c main_v5) ?_
  blk_ext [e0 t]

/-- An element of key head `k`'s context keys at a point is the key array's element in its batch entry's column. -/
theorem k_at (c : Dev nD) (t : Fin cfg0.N) (k : Fin 4) (n : Fin 256) (d : Fin 64) (y : Fin 34816)
    (hy : y.val = 256 * (128 + t.val / 17) + n.val) :
    kOf (iblk m c 1 t) k (ix3 0 n d) = V m c main_v11 (ix3 k y ⟨d.val, by omega⟩) := by
  unfold kOf
  rw [View.ld_unit_apply_of _ _ _ _ _ (ix3 k n ⟨d.val, by omega⟩) (by intro a; fin_cases a <;> simp [ix2, ix3])]
  blk_simp [iblk]
  refine congrArg (V m c main_v11) ?_
  blk_ext [e1 t]

/-- An element of key head `k`'s context values at a point is the value array's element in its batch entry's column. -/
theorem v_at (c : Dev nD) (t : Fin cfg0.N) (k : Fin 4) (r : Fin 64) (n : Fin 256) (y : Fin 34816)
    (hy : y.val = 256 * (128 + t.val / 17) + n.val) :
    vOf (iblk m c 3 t) k (ix2 r n) = V m c main_v17 (ix2 ⟨64 * k.val + r.val, by omega⟩ y) := by
  unfold vOf
  rw [View.ld_unit_apply_of _ _ _ _ _ (ix2 ⟨64 * k.val + r.val, by omega⟩ n) (by intro a; fin_cases a <;> simp [ix2, ix3])]
  blk_simp [iblk]
  refine congrArg (V m c main_v17) ?_
  blk_ext [e3 t]

/-- An element of chunk `e` of key head `k`'s latent keys at a point is the key array's element in its batch entry's column. -/
theorem kl_at (c : Dev nD) (t : Fin cfg0.N) (k : Fin 4) (e : Fin 8) (n : Fin 512) (d : Fin 64) (y : Fin 34816)
    (hy : y.val = 4096 * (t.val / 17) + 512 * e.val + n.val) :
    klOf (X0_2 m c t) k e (ix3 0 n d) = V m c main_v11 (ix3 k y ⟨d.val, by omega⟩) := by
  unfold klOf X0_2
  rw [View.ld_unit_apply_of _ _ _ _ _ (ix3 k ⟨512 * e.val + n.val, by omega⟩ ⟨d.val, by omega⟩) (by intro a; fin_cases a <;> simp [ix2, ix3])]
  unfold Pipeline.Window.fill
  rw [dif_pos (moved0_2 t _)]
  blk_simp [iblk]
  refine congrArg (V m c main_v11) ?_
  blk_ext [e2 t]

/-- An element of chunk `e` of key head `k`'s latent values at a point is the value array's element in its batch entry's column. -/
theorem vl_at (c : Dev nD) (t : Fin cfg0.N) (k : Fin 4) (e : Fin 8) (r : Fin 64) (n : Fin 512) (y : Fin 34816)
    (hy : y.val = 4096 * (t.val / 17) + 512 * e.val + n.val) :
    vlOf (X0_4 m c t) k e (ix2 r n) = V m c main_v17 (ix2 ⟨64 * k.val + r.val, by omega⟩ y) := by
  unfold vlOf X0_4
  rw [View.ld_unit_apply_of _ _ _ _ _ (ix2 ⟨64 * k.val + r.val, by omega⟩ ⟨512 * e.val + n.val, by omega⟩) (by intro a; fin_cases a <;> simp [ix2, ix3])]
  unfold Pipeline.Window.fill
  rw [dif_pos (moved0_4 t _)]
  blk_simp [iblk]
  refine congrArg (V m c main_v17) ?_
  blk_ext [e4 t]

/-- A latent point's tile. -/
theorem tile_latent (c : Dev nD) (t : Fin cfg0.N) (h : Fin 16) (r : Fin 64) (j : Fin 256) (a : Fin 1024) (x : Fin 34816) (b : Fin 8)
    (hb : b.val = t.val / 17) (ha : a.val = 64 * h.val + r.val) (hx : x.val = 256 * cb t.val + j.val) :
    Cert.KernelIdeal.Head.headA (Head.sc (qOf (iblk m c 0 t) h) (kOf (iblk m c 1 t) (kvOf h))) (fun k => Head.sl (qOf (iblk m c 0 t) h) (klOf (X0_2 m c t) (kvOf h) k)) (vOf (iblk m c 3 t) (kvOf h)) (vlOf (X0_4 m c t) (kvOf h)) (ix2 r j)
      = latent (V m c main_v5) (V m c main_v11) (V m c main_v17) a x b := by
  have hl : 64 * h.val + r.val < 1024 := by omega
  obtain rfl : a = ⟨64 * h.val + r.val, hl⟩ := Fin.ext ha
  have hh : (⟨(64 * h.val + r.val) / 64, by omega⟩ : Fin 16) = h := Fin.ext (by show (64 * h.val + r.val) / 64 = h.val; omega)
  have hv : valueRow ⟨64 * h.val + r.val, hl⟩ = ⟨64 * (kvOf h).val + r.val, by omega⟩ :=
    Fin.ext (by show 64 * ((64 * h.val + r.val) / 256) + (64 * h.val + r.val) % 64 = 64 * (h.val / 4) + r.val; omega)
  unfold latent
  rw [hh, hv]
  refine Cert.KernelIdeal.Head.headA_apply _ _ _ _ r j _ _ (fun n => ?_) (fun k n => ?_) (fun n => ?_) (fun k n => ?_)
  · rw [Head.sc_apply]
    exact Finset.sum_congr rfl fun d _ => by
      rw [k_at m c t (kvOf h) n d (colOf b (Softmax.keyC n)) (by rw [colOf_keyC, hb]), q_at m c t h d j x hx]
  · rw [Head.sl_apply]
    exact Finset.sum_congr rfl fun d _ => by
      rw [kl_at m c t (kvOf h) k n d (colOf b (Softmax.keyL k n)) (by rw [colOf_keyL, hb]), q_at m c t h d j x hx]
  · exact v_at m c t (kvOf h) r n _ (by rw [colOf_keyC, hb])
  · exact vl_at m c t (kvOf h) k r n _ (by rw [colOf_keyL, hb])

/-- A context point's tile. -/
theorem tile_context (c : Dev nD) (t : Fin cfg0.N) (h : Fin 16) (r : Fin 64) (j : Fin 256) (a : Fin 1024) (x : Fin 34816) (b : Fin 8)
    (hb : b.val = t.val / 17) (ha : a.val = 64 * h.val + r.val) (hx : x.val = 256 * cb t.val + j.val) :
    Cert.KernelIdeal.Head.headB (Head.sc (qOf (iblk m c 0 t) h) (kOf (iblk m c 1 t) (kvOf h))) (vOf (iblk m c 3 t) (kvOf h)) (ix2 r j)
      = context (V m c main_v5) (V m c main_v11) (V m c main_v17) a x b := by
  have hl : 64 * h.val + r.val < 1024 := by omega
  obtain rfl : a = ⟨64 * h.val + r.val, hl⟩ := Fin.ext ha
  have hh : (⟨(64 * h.val + r.val) / 64, by omega⟩ : Fin 16) = h := Fin.ext (by show (64 * h.val + r.val) / 64 = h.val; omega)
  have hv : valueRow ⟨64 * h.val + r.val, hl⟩ = ⟨64 * (kvOf h).val + r.val, by omega⟩ :=
    Fin.ext (by show 64 * ((64 * h.val + r.val) / 256) + (64 * h.val + r.val) % 64 = 64 * (h.val / 4) + r.val; omega)
  unfold context
  rw [hh, hv, Cert.KernelIdeal.Head.headB_apply]
  refine congrArg₂ Softmax.late (funext fun n => ?_) (funext fun n => v_at m c t (kvOf h) r n _ (by rw [colOf_keyC, hb]))
  rw [Head.sc_apply]
  exact Finset.sum_congr rfl fun d _ => by
    rw [k_at m c t (kvOf h) n d (colOf b (Softmax.keyC n)) (by rw [colOf_keyC, hb]), q_at m c t h d j x hx]

/-- The array the region leaves is `result` of the three arrays that enter it. -/
theorem arr_result (c : Dev nD) : (dats m 0 c).arrAt 5 cfg0.N = result (V m c main_v5) (V m c main_v11) (V m c main_v17) := by
  refine (dats m 0 c).arrAt_eq_of_covers 5 _ (by decide +kernel) fun t hf y => ?_
  blk_simp
  rw [after0_5]
  set i := (win0_5.blk t).view.emb y with hi
  have hy0 : (y 0).val < 1024 := (y 0).isLt
  have hy1 : (y 1).val < 256 := (y 1).isLt
  have ht : t.val < 136 := t.isLt
  have hi0 : (i 0).val = (y 0).val := by rw [hi]; blk_simp [e5 t]
  have hi1 : (i 1).val = 256 * cb t.val + (y 1).val := by rw [hi]; blk_simp [e5 t]; omega
  have ha : (i 0).val = 64 * ((y 0).val / 64) + (y 0).val % 64 := by omega
  by_cases h0 : t.val % 17 = 16
  · rw [outsAt0_B m c t h0 (by omega)]
    refine (tileB _ _ _ _ _ _ _ _ _ _ _ _ _ _ _ _ _ _ _ _ _ _ _ _ _ ⟨(y 0).val / 64, by omega⟩ ⟨(y 0).val % 64, by omega⟩ ⟨(y 1).val, hy1⟩ y
      (by show (y 0).val = 64 * ((y 0).val / 64) + (y 0).val % 64; omega) rfl).trans ?_
    have hn : ¬ (i 1).val < 32768 := by rw [hi1]; unfold cb; rw [if_pos h0]; omega
    unfold result
    rw [dif_neg hn]
    refine tile_context m c t _ _ _ _ _ _ ?_ ha hi1
    show ((i 1).val - 32768) / 256 = _
    rw [hi1]; unfold cb; rw [if_pos h0]; omega
  · rw [outsAt0_A m c t h0 (by omega)]
    refine (tileA _ _ _ _ _ _ _ _ _ _ _ _ _ _ _ _ _ _ _ _ _ _ _ _ _ ⟨(y 0).val / 64, by omega⟩ ⟨(y 0).val % 64, by omega⟩ ⟨(y 1).val, hy1⟩ y
      (by show (y 0).val = 64 * ((y 0).val / 64) + (y 0).val % 64; omega) rfl).trans ?_
    have hn : (i 1).val < 32768 := by rw [hi1]; unfold cb; rw [if_neg h0]; omega
    unfold result
    rw [dif_pos hn]
    refine tile_latent m c t _ _ _ _ _ _ ?_ ha hi1
    show (i 1).val / 4096 = _
    rw [hi1]; unfold cb; rw [if_neg h0]; omega

end Cert.Kernel2Ideal.Gen
-- ==== Proof.Host2.lean ====
module

public import proofs.«01_k».proof.Proof.Array2

/-! The three arrays the host prepares for the grouped-query attention, read at an index: the transposed queries, the padded keys and
the values. -/

@[expose] public section

set_option maxRecDepth 16384

noncomputable section

namespace Cert.Kernel2Ideal.Gen

open Idealize.ShloMosaic Idealize.ShloMosaic.TcCoe Idealize.ShloMosaic.Tactic Idealize.SL.Sem
open Cert.Tokens

variable (m : (ℓ : Loc nD τ sig) → Buf (Elt Ideal) ℓ)

/-- The query array at an index. -/
theorem queries_at (c : Dev nD) (h : Fin 16) (d : Fin 64) (x : Fin 34816) :
    V m c main_v5 (ix2 ⟨64 * h.val + d.val, by omega⟩ x) =
      token (w := 64) (m ((c.tc : Thread nD τ).loc main_arg0)) (m ((c.tc : Thread nD τ).loc main_arg1)) h d x := by
  entry_read
  refine Eq.trans (transpose_apply _ _ _ _ (ix2 x ⟨64 * h.val + d.val, by omega⟩) ?_) ?_
  · intro b
    match b with
    | ⟨0, _⟩ => rfl
    | ⟨1, _⟩ => rfl
  refine Eq.trans (shapeCast_apply _ _ _ (ix3 x h d) ?_) ?_
  · show _ = ((⟨2, ![34816, 1024]⟩ : Shape).rowMajor _).val
    rewrite [Shape.rowMajor_val_three, Shape.rowMajor_val_two]
    show (x.val * 16 + h.val) * 64 + d.val = x.val * 1024 + (64 * h.val + d.val)
    omega
  exact stack_at (w := 64) _ _ _ _ _ x h d

/-- The key array at an index: a key element, or zero in the padding. -/
theorem keys_at (c : Dev nD) (h : Fin 4) (x : Fin 34816) (d : Fin 128) :
    V m c main_v11 (ix3 h x d) =
      if hd : d.val < 64 then token (w := 64) (m ((c.tc : Thread nD τ).loc main_arg2)) (m ((c.tc : Thread nD τ).loc main_arg3)) h ⟨d.val, hd⟩ x
      else 0 := by
  entry_read
  rw [truncf_apply]
  rw [Ideal.truncf_def]
  refine Eq.trans (transpose_apply _ _ _ _ (ix3 x h d) ?_) ?_
  · intro b
    match b with
    | ⟨0, _⟩ => rfl
    | ⟨1, _⟩ => rfl
    | ⟨2, _⟩ => rfl
  refine (padded_at (by decide) _ _ _ x h d).trans ?_
  refine dite_congr rfl (fun hd => ?_) fun _ => rfl
  exact stack_at (w := 64) _ _ _ _ _ x h ⟨d.val, hd⟩

/-- The value array at an index. -/
theorem values_at (c : Dev nD) (h : Fin 4) (r : Fin 64) (x : Fin 34816) :
    V m c main_v17 (ix2 ⟨64 * h.val + r.val, by omega⟩ x) =
      token (w := 64) (m ((c.tc : Thread nD τ).loc main_arg4)) (m ((c.tc : Thread nD τ).loc main_arg5)) h r x := by
  entry_read
  rw [truncf_apply]
  rw [Ideal.truncf_def]
  refine Eq.trans (transpose_apply _ _ _ _ (ix2 x ⟨64 * h.val + r.val, by omega⟩) ?_) ?_
  · intro b
    match b with
    | ⟨0, _⟩ => rfl
    | ⟨1, _⟩ => rfl
  refine Eq.trans (shapeCast_apply _ _ _ (ix3 x h r) ?_) ?_
  · show _ = ((⟨2, ![34816, 256]⟩ : Shape).rowMajor _).val
    rewrite [Shape.rowMajor_val_three, Shape.rowMajor_val_two]
    show (x.val * 4 + h.val) * 64 + r.val = x.val * 256 + (64 * h.val + r.val)
    omega
  exact stack_at (w := 64) _ _ _ _ _ x h r

end Cert.Kernel2Ideal.Gen
-- ==== Proof.Ref2.lean ====
module

public import proofs.«01_k».proof.Proof.Gen.Reference2Ideal.Read
public import proofs.«01_k».proof.Proof.Tokens
public import Idealize.ShloMosaic.Lib.Pointwise

/-! The grouped-query reference's result read at an index: the plain attention of one query over the keys its batch entry sees. -/

@[expose] public section

set_option maxRecDepth 16384

noncomputable section

namespace Cert.Reference2Ideal.Rows

open Idealize.ShloMosaic Idealize.ShloMosaic.Tactic Cert.Reference2Ideal Cert.Reference2Ideal.Read
open Cert.Tokens

variable (x0 : Vec Ideal S8x4096x16x64 .f32) (x1 : Vec Ideal S8x256x16x64 .f32) (x2 : Vec Ideal S8x4096x4x64 .f32)
  (x3 : Vec Ideal S8x256x4x64 .f32) (x4 : Vec Ideal S8x4096x4x64 .f32) (x5 : Vec Ideal S8x256x4x64 .f32)

/-- The reference's scale. -/
def scale : EReal := Ideal.ofBits .f32 0x3E000000#32

/-- The score of latent query `q` with key `n`, query head `g` of key head `k`, batch entry `b`. -/
def scoreL (b : Fin 8) (k g : Fin 4) (q : Fin 4096) (n : Fin 4352) : EReal :=
  ∑ d : Fin 64, keyAt x2 x3 b n k d * (x0 (ix4 b q ⟨4 * k.val + g.val, by omega⟩ d) * scale)

/-- The reference's scores of latent queries at an index. -/
theorem v6_at (b : Fin 8) (k g : Fin 4) (q : Fin 4096) (n : Fin 4352) :
    val_main_v6 (F := Ideal) x0 x2 x3 (ix5 b k g q n) = scoreL x0 x2 x3 b k g q n := by
  rw [val_main_v6_apply, val_main_v5_apply]
  refine Finset.sum_congr rfl fun d _ => ?_
  rw [val_main_v4_apply, val_main_v3_apply, val_main_v2_apply]
  refine congrArg₂ (· * ·) ?_ (congrArg₂ (· * ·) (congrArg x0 ?_) rfl)
  · have e : lidx_main_v5 (idx_main_v6 (ix5 b k g q n)) d = ix4 b n k d := funext fun a => match a with
      | ⟨0, _⟩ => rfl
      | ⟨1, _⟩ => rfl
      | ⟨2, _⟩ => rfl
      | ⟨3, _⟩ => rfl
    rw [e]
    exact join_at x2 x3 _ b n k d
  · have hb := b.isLt
    have hk := k.isLt
    have hg := g.isLt
    have hq := q.isLt
    have hd := d.isLt
    funext a
    match a with
    | ⟨0, _⟩ => exact Fin.ext (show ((((b.val * 4096 + q.val) * 4 + k.val) * 4 + g.val) * 64 + d.val) / 4194304 = b.val by omega)
    | ⟨1, _⟩ => exact Fin.ext (show ((((b.val * 4096 + q.val) * 4 + k.val) * 4 + g.val) * 64 + d.val) / 1024 % 4096 = q.val by omega)
    | ⟨2, _⟩ => exact Fin.ext (show ((((b.val * 4096 + q.val) * 4 + k.val) * 4 + g.val) * 64 + d.val) / 64 % 16 = 4 * k.val + g.val by omega)
    | ⟨3, _⟩ => exact Fin.ext (show ((((b.val * 4096 + q.val) * 4 + k.val) * 4 + g.val) * 64 + d.val) % 64 = d.val by omega)

/-- The largest score of latent query `q`. -/
theorem v9_at (b : Fin 8) (k g : Fin 4) (q : Fin 4096) :
    val_main_v9 (F := Ideal) x0 x2 x3 (ix4 b k g q) = Softmax.top (scoreL x0 x2 x3 b k g q) := by
  have hr : val_main_v7 (F := Ideal) x0 x2 x3 (ix4 b k g q) = Softmax.top (scoreL x0 x2 x3 b k g q) := by
    unfold val_main_v7
    refine (Host.reduce_eq_fold_single (f := (FloatOps.maximumf : Ideal .f32 → Ideal .f32 → Ideal .f32)) _ _ _ (by decide) _ _).trans
      (Eq.trans ?_ (Softmax.fold_max (scoreL x0 x2 x3 b k g q)))
    refine Finset.fold_congr fun n _ => ?_
    refine Eq.trans (congrArg (val_main_v6 (F := Ideal) x0 x2 x3) ?_) (v6_at x0 x2 x3 b k g q n)
    funext a
    match a with
    | ⟨0, _⟩ => rfl
    | ⟨1, _⟩ => rfl
    | ⟨2, _⟩ => rfl
    | ⟨3, _⟩ => rfl
    | ⟨4, _⟩ => rfl
  rw [val_main_v9_apply, hr, val_main_v8_apply]
  show max (Ideal.ofBits .f32 0xFF800000#32) _ = _
  rw [Softmax.ofBits_ninf]
  exact max_eq_right bot_le

/-- The exponentials of latent query `q`. -/
theorem v13_at (b : Fin 8) (k g : Fin 4) (q : Fin 4096) (n : Fin 4352) :
    val_main_v13 (F := Ideal) x0 x2 x3 (ix5 b k g q n)
      = Ideal.exp (scoreL x0 x2 x3 b k g q n - Softmax.top (scoreL x0 x2 x3 b k g q)) := by
  rw [val_main_v13_apply, val_main_v12_apply, v6_at, val_main_v11_apply, val_main_v10_apply]
  refine congrArg (fun t => Ideal.exp (scoreL x0 x2 x3 b k g q n - t)) ?_
  refine Eq.trans (congrArg (val_main_v9 (F := Ideal) x0 x2 x3) ?_) (v9_at x0 x2 x3 b k g q)
  funext a
  match a with
  | ⟨0, _⟩ => rfl
  | ⟨1, _⟩ => rfl
  | ⟨2, _⟩ => rfl
  | ⟨3, _⟩ => rfl

/-- The weights of latent query `q`. -/
theorem v17_at (b : Fin 8) (k g : Fin 4) (q : Fin 4096) (n : Fin 4352) :
    val_main_v17 (F := Ideal) x0 x2 x3 (ix5 b k g q n)
      = Ideal.div (Ideal.exp (scoreL x0 x2 x3 b k g q n - Softmax.top (scoreL x0 x2 x3 b k g q)))
          (∑ e, Ideal.exp (scoreL x0 x2 x3 b k g q e - Softmax.top (scoreL x0 x2 x3 b k g q))) := by
  rw [val_main_v17_apply, v13_at, val_main_v16_apply, val_main_v15_apply, val_main_v14_apply]
  refine congrArg (Ideal.div _) ?_
  show Ideal.ofBits .f32 0x00000000#32 + _ = _
  rw [Ideal.ofBits_zero_f32, zero_add]
  refine Finset.sum_congr rfl fun e _ => ?_
  refine Eq.trans (congrArg (val_main_v13 (F := Ideal) x0 x2 x3) ?_) (v13_at x0 x2 x3 b k g q e)
  funext a
  match a with
  | ⟨0, _⟩ => rfl
  | ⟨1, _⟩ => rfl
  | ⟨2, _⟩ => rfl
  | ⟨3, _⟩ => rfl
  | ⟨4, _⟩ => rfl

/-- The attention of latent query `q`, element `r` of query head `g` of key head `k`. -/
theorem v18_at (b : Fin 8) (k g : Fin 4) (r : Fin 64) (q : Fin 4096) :
    val_main_v18 (F := Ideal) x0 x2 x3 x4 x5 (ix5 b k r g q)
      = Softmax.plain (scoreL x0 x2 x3 b k g q) (fun n => keyAt x4 x5 b n k r) := by
  rw [val_main_v18_apply]
  unfold Softmax.plain
  refine Finset.sum_congr rfl fun n _ => congrArg₂ (· * ·) ?_ ?_
  · have e : lidx_main_v18 (ix5 b k r g q) n = ix4 b n k r := funext fun a => match a with
      | ⟨0, _⟩ => rfl
      | ⟨1, _⟩ => rfl
      | ⟨2, _⟩ => rfl
      | ⟨3, _⟩ => rfl
    rw [e]
    exact join_at x4 x5 _ b n k r
  · refine Eq.trans (congrArg (val_main_v17 (F := Ideal) x0 x2 x3) ?_) (v17_at x0 x2 x3 b k g q n)
    funext a
    match a with
    | ⟨0, _⟩ => rfl
    | ⟨1, _⟩ => rfl
    | ⟨2, _⟩ => rfl
    | ⟨3, _⟩ => rfl
    | ⟨4, _⟩ => rfl

/-- The attention of latent queries as rows of a matrix, at an index. -/
theorem v20_at (x : Fin 32768) (k g : Fin 4) (r : Fin 64) :
    val_main_v20 (F := Ideal) x0 x2 x3 x4 x5 (ix2 x ⟨256 * k.val + 64 * g.val + r.val, by omega⟩)
      = Softmax.plain (scoreL x0 x2 x3 ⟨x.val / 4096, by omega⟩ k g ⟨x.val % 4096, by omega⟩)
          (fun n => keyAt x4 x5 ⟨x.val / 4096, by omega⟩ n k r) := by
  rw [val_main_v20_apply, val_main_v19_apply]
  refine Eq.trans (congrArg (val_main_v18 (F := Ideal) x0 x2 x3 x4 x5) ?_)
    (v18_at x0 x2 x3 x4 x5 ⟨x.val / 4096, by omega⟩ k g r ⟨x.val % 4096, by omega⟩)
  have hx := x.isLt
  have hk := k.isLt
  have hg := g.isLt
  have hr := r.isLt
  funext a
  match a with
  | ⟨0, _⟩ => exact Fin.ext (show (x.val * 1024 + (256 * k.val + 64 * g.val + r.val)) / 4194304 = x.val / 4096 by omega)
  | ⟨1, _⟩ => exact Fin.ext (show (x.val * 1024 + (256 * k.val + 64 * g.val + r.val)) / 256 % 4 = k.val by omega)
  | ⟨2, _⟩ => exact Fin.ext (show (x.val * 1024 + (256 * k.val + 64 * g.val + r.val)) % 64 = r.val by omega)
  | ⟨3, _⟩ => exact Fin.ext (show (x.val * 1024 + (256 * k.val + 64 * g.val + r.val)) / 64 % 4 = g.val by omega)
  | ⟨4, _⟩ => exact Fin.ext (show (x.val * 1024 + (256 * k.val + 64 * g.val + r.val)) / 1024 % 4096 = x.val % 4096 by omega)

/-- The score of context query `q` with key `n`, query head `g` of key head `k`, batch entry `b`. -/
def scoreC (b : Fin 8) (k g : Fin 4) (q : Fin 256) (n : Fin 256) : EReal :=
  ∑ d : Fin 64, x3 (ix4 b n k d) * (x1 (ix4 b q ⟨4 * k.val + g.val, by omega⟩ d) * scale)

/-- The reference's scores of context queries at an index. -/
theorem v25_at (b : Fin 8) (k g : Fin 4) (q : Fin 256) (n : Fin 256) :
    val_main_v25 (F := Ideal) x1 x3 (ix5 b k g q n) = scoreC x1 x3 b k g q n := by
  rw [val_main_v25_apply, val_main_v24_apply]
  refine Finset.sum_congr rfl fun d _ => ?_
  rw [val_main_v23_apply, val_main_v22_apply, val_main_v21_apply]
  refine congrArg₂ (· * ·) ?_ (congrArg₂ (· * ·) (congrArg x1 ?_) rfl)
  · exact (congrArg (x3) (funext fun a => match a with
      | ⟨0, _⟩ => rfl
      | ⟨1, _⟩ => rfl
      | ⟨2, _⟩ => rfl
      | ⟨3, _⟩ => rfl))
  · have hb := b.isLt
    have hk := k.isLt
    have hg := g.isLt
    have hq := q.isLt
    have hd := d.isLt
    funext a
    match a with
    | ⟨0, _⟩ => exact Fin.ext (show ((((b.val * 256 + q.val) * 4 + k.val) * 4 + g.val) * 64 + d.val) / 262144 = b.val by omega)
    | ⟨1, _⟩ => exact Fin.ext (show ((((b.val * 256 + q.val) * 4 + k.val) * 4 + g.val) * 64 + d.val) / 1024 % 256 = q.val by omega)
    | ⟨2, _⟩ => exact Fin.ext (show ((((b.val * 256 + q.val) * 4 + k.val) * 4 + g.val) * 64 + d.val) / 64 % 16 = 4 * k.val + g.val by omega)
    | ⟨3, _⟩ => exact Fin.ext (show ((((b.val * 256 + q.val) * 4 + k.val) * 4 + g.val) * 64 + d.val) % 64 = d.val by omega)

/-- The largest score of context query `q`. -/
theorem v28_at (b : Fin 8) (k g : Fin 4) (q : Fin 256) :
    val_main_v28 (F := Ideal) x1 x3 (ix4 b k g q) = Softmax.top (scoreC x1 x3 b k g q) := by
  have hr : val_main_v26 (F := Ideal) x1 x3 (ix4 b k g q) = Softmax.top (scoreC x1 x3 b k g q) := by
    unfold val_main_v26
    refine (Host.reduce_eq_fold_single (f := (FloatOps.maximumf : Ideal .f32 → Ideal .f32 → Ideal .f32)) _ _ _ (by decide) _ _).trans
      (Eq.trans ?_ (Softmax.fold_max (scoreC x1 x3 b k g q)))
    refine Finset.fold_congr fun n _ => ?_
    refine Eq.trans (congrArg (val_main_v25 (F := Ideal) x1 x3) ?_) (v25_at x1 x3 b k g q n)
    funext a
    match a with
    | ⟨0, _⟩ => rfl
    | ⟨1, _⟩ => rfl
    | ⟨2, _⟩ => rfl
    | ⟨3, _⟩ => rfl
    | ⟨4, _⟩ => rfl
  rw [val_main_v28_apply, hr, val_main_v27_apply]
  show max (Ideal.ofBits .f32 0xFF800000#32) _ = _
  rw [Softmax.ofBits_ninf]
  exact max_eq_right bot_le

/-- The exponentials of context query `q`. -/
theorem v32_at (b : Fin 8) (k g : Fin 4) (q : Fin 256) (n : Fin 256) :
    val_main_v32 (F := Ideal) x1 x3 (ix5 b k g q n)
      = Ideal.exp (scoreC x1 x3 b k g q n - Softmax.top (scoreC x1 x3 b k g q)) := by
  rw [val_main_v32_apply, val_main_v31_apply, v25_at, val_main_v30_apply, val_main_v29_apply]
  refine congrArg (fun t => Ideal.exp (scoreC x1 x3 b k g q n - t)) ?_
  refine Eq.trans (congrArg (val_main_v28 (F := Ideal) x1 x3) ?_) (v28_at x1 x3 b k g q)
  funext a
  match a with
  | ⟨0, _⟩ => rfl
  | ⟨1, _⟩ => rfl
  | ⟨2, _⟩ => rfl
  | ⟨3, _⟩ => rfl

/-- The weights of context query `q`. -/
theorem v36_at (b : Fin 8) (k g : Fin 4) (q : Fin 256) (n : Fin 256) :
    val_main_v36 (F := Ideal) x1 x3 (ix5 b k g q n)
      = Ideal.div (Ideal.exp (scoreC x1 x3 b k g q n - Softmax.top (scoreC x1 x3 b k g q)))
          (∑ e, Ideal.exp (scoreC x1 x3 b k g q e - Softmax.top (scoreC x1 x3 b k g q))) := by
  rw [val_main_v36_apply, v32_at, val_main_v35_apply, val_main_v34_apply, val_main_v33_apply]
  refine congrArg (Ideal.div _) ?_
  show Ideal.ofBits .f32 0x00000000#32 + _ = _
  rw [Ideal.ofBits_zero_f32, zero_add]
  refine Finset.sum_congr rfl fun e _ => ?_
  refine Eq.trans (congrArg (val_main_v32 (F := Ideal) x1 x3) ?_) (v32_at x1 x3 b k g q e)
  funext a
  match a with
  | ⟨0, _⟩ => rfl
  | ⟨1, _⟩ => rfl
  | ⟨2, _⟩ => rfl
  | ⟨3, _⟩ => rfl
  | ⟨4, _⟩ => rfl

/-- The attention of context query `q`, element `r` of query head `g` of key head `k`. -/
theorem v37_at (b : Fin 8) (k g : Fin 4) (r : Fin 64) (q : Fin 256) :
    val_main_v37 (F := Ideal) x1 x3 x5 (ix5 b k r g q)
      = Softmax.plain (scoreC x1 x3 b k g q) (fun n => x5 (ix4 b n k r)) := by
  rw [val_main_v37_apply]
  unfold Softmax.plain
  refine Finset.sum_congr rfl fun n _ => congrArg₂ (· * ·) ?_ ?_
  · exact (congrArg (x5) (funext fun a => match a with
      | ⟨0, _⟩ => rfl
      | ⟨1, _⟩ => rfl
      | ⟨2, _⟩ => rfl
      | ⟨3, _⟩ => rfl))
  · refine Eq.trans (congrArg (val_main_v36 (F := Ideal) x1 x3) ?_) (v36_at x1 x3 b k g q n)
    funext a
    match a with
    | ⟨0, _⟩ => rfl
    | ⟨1, _⟩ => rfl
    | ⟨2, _⟩ => rfl
    | ⟨3, _⟩ => rfl
    | ⟨4, _⟩ => rfl

/-- The attention of context queries as rows of a matrix, at an index. -/
theorem v39_at (x : Fin 2048) (k g : Fin 4) (r : Fin 64) :
    val_main_v39 (F := Ideal) x1 x3 x5 (ix2 x ⟨256 * k.val + 64 * g.val + r.val, by omega⟩)
      = Softmax.plain (scoreC x1 x3 ⟨x.val / 256, by omega⟩ k g ⟨x.val % 256, by omega⟩)
          (fun n => x5 (ix4 ⟨x.val / 256, by omega⟩ n k r)) := by
  rw [val_main_v39_apply, val_main_v38_apply]
  refine Eq.trans (congrArg (val_main_v37 (F := Ideal) x1 x3 x5) ?_)
    (v37_at x1 x3 x5 ⟨x.val / 256, by omega⟩ k g r ⟨x.val % 256, by omega⟩)
  have hx := x.isLt
  have hk := k.isLt
  have hg := g.isLt
  have hr := r.isLt
  funext a
  match a with
  | ⟨0, _⟩ => exact Fin.ext (show (x.val * 1024 + (256 * k.val + 64 * g.val + r.val)) / 262144 = x.val / 256 by omega)
  | ⟨1, _⟩ => exact Fin.ext (show (x.val * 1024 + (256 * k.val + 64 * g.val + r.val)) / 256 % 4 = k.val by omega)
  | ⟨2, _⟩ => exact Fin.ext (show (x.val * 1024 + (256 * k.val + 64 * g.val + r.val)) % 64 = r.val by omega)
  | ⟨3, _⟩ => exact Fin.ext (show (x.val * 1024 + (256 * k.val + 64 * g.val + r.val)) / 64 % 4 = g.val by omega)
  | ⟨4, _⟩ => exact Fin.ext (show (x.val * 1024 + (256 * k.val + 64 * g.val + r.val)) / 1024 % 256 = x.val % 256 by omega)

/-- The reference's result at an index: the plain attention of the query in that column. -/
theorem result_at (k g : Fin 4) (r : Fin 64) (x : Fin 34816) :
    val_main_v42 (F := Ideal) x0 x1 x2 x3 x4 x5 (ix2 ⟨256 * k.val + 64 * g.val + r.val, by omega⟩ x) =
      if _ : x.val < 32768 then
        Softmax.plain (scoreL x0 x2 x3 ⟨x.val / 4096, by omega⟩ k g ⟨x.val % 4096, by omega⟩)
          (fun n => keyAt x4 x5 ⟨x.val / 4096, by omega⟩ n k r)
      else
        Softmax.plain (scoreC x1 x3 ⟨(x.val - 32768) / 256, by omega⟩ k g ⟨(x.val - 32768) % 256, by omega⟩)
          (fun n => x5 (ix4 ⟨(x.val - 32768) / 256, by omega⟩ n k r)) := by
  rw [val_main_v42_apply, Ideal.truncf_def, val_main_v41_apply]
  unfold val_main_v40
  by_cases hx : x.val < 32768
  · rw [dif_pos hx]
    refine Eq.trans (concatenate_pair_apply_left (t := S34816x1024) (s₁ := S32768x1024) (s₂ := S2048x1024) _ _ _ _ _ rfl
      (ix2 ⟨x.val, hx⟩ ⟨256 * k.val + 64 * g.val + r.val, by omega⟩) ?_) (v20_at x0 x2 x3 x4 x5 ⟨x.val, hx⟩ k g r)
    intro a
    match a with
    | ⟨0, _⟩ => rfl
    | ⟨1, _⟩ => rfl
  · rw [dif_neg hx]
    obtain ⟨y, hy⟩ : ∃ y : Fin 2048, x.val - 32768 = y.val := ⟨⟨x.val - 32768, by omega⟩, rfl⟩
    have hxy : y.val + 32768 = x.val := by omega
    simp only [hy]
    refine Eq.trans (concatenate_pair_apply_right (t := S34816x1024) (s₁ := S32768x1024) (s₂ := S2048x1024) _ _ _ _ _ rfl rfl
      (ix2 y ⟨256 * k.val + 64 * g.val + r.val, by omega⟩) ?_ ?_) (v39_at x1 x3 x5 y k g r)
    · intro a
      match a with
      | ⟨0, _⟩ => exact fun hb => absurd rfl hb
      | ⟨1, _⟩ => exact fun _ => rfl
    · exact hxy

end Cert.Reference2Ideal.Rows
-- ==== Proof.Equal2.lean ====
module

public import proofs.«01_k».proof.Pre_finite2
public import proofs.«01_k».proof.Proof.Host2
public import proofs.«01_k».proof.Proof.Ref2

/-! The grouped-query attention's array is the reference's when the queries and keys are finite. -/

@[expose] public section

set_option maxRecDepth 16384

noncomputable section

namespace Cert.Equal2

open Idealize.ShloMosaic Idealize.ShloMosaic.TcCoe Idealize.ShloMosaic.Tactic Idealize.SL.Sem
open Cert.Kernel2Ideal.Gen Cert.Reference2Ideal.Rows Cert.Tokens

/-- The reference's scale is this fraction. -/
theorem scale_eq : scale = ((1 / 8 : ℝ) : EReal) := by
  unfold scale
  simp [Ideal.ofBits, Ideal.ieee]
  rw [← EReal.coe_mul]
  norm_num

variable (m : (ℓ : Loc Cert.Kernel2Ideal.nD Cert.Kernel2Ideal.τ Cert.Kernel2Ideal.sig) → Buf (Elt Ideal) ℓ)
  (c : Dev Cert.Kernel2Ideal.nD)
  (x0 : Vec Ideal ⟨4, ![8, 4096, 16, 64]⟩ .f32) (x1 : Vec Ideal ⟨4, ![8, 256, 16, 64]⟩ .f32)
  (x2 : Vec Ideal ⟨4, ![8, 4096, 4, 64]⟩ .f32) (x3 : Vec Ideal ⟨4, ![8, 256, 4, 64]⟩ .f32)
  (x4 : Vec Ideal ⟨4, ![8, 4096, 4, 64]⟩ .f32) (x5 : Vec Ideal ⟨4, ![8, 256, 4, 64]⟩ .f32)

/-- The kernel's score of the query in a column with a key, over the head's own 64 elements. -/
theorem score_eq (Q : Vec Ideal Cert.Kernel2Ideal.S1024x34816 .f32) (K : Vec Ideal Cert.Kernel2Ideal.S4x34816x128 .bf16)
    (hQ : ∀ (h : Fin 16) (d : Fin 64) (x : Fin 34816), Q (ix2 ⟨64 * h.val + d.val, by omega⟩ x) = token x0 x1 h d x)
    (hK : ∀ (h : Fin 4) (x : Fin 34816) (d : Fin 128), K (ix3 h x d) =
      if hd : d.val < 64 then token x2 x3 h ⟨d.val, hd⟩ x else 0)
    (h : Fin 16) (x : Fin 34816) (b : Fin 8) (n : Fin 4352) :
    score Q K h x (colOf b n) = ∑ d : Fin 64, keyAt x2 x3 b n (kvOf h) d
      * (token x0 x1 h d x * ((1 / 8 * (Real.log 2)⁻¹ : ℝ) : EReal)) := by
  unfold score
  refine Finset.sum_congr rfl fun d _ => ?_
  rw [hK, hQ, dif_pos d.isLt, token_colOf]

/-- The kernel's array is the reference's, element by element. -/
theorem result_eq (Q : Vec Ideal Cert.Kernel2Ideal.S1024x34816 .f32) (K : Vec Ideal Cert.Kernel2Ideal.S4x34816x128 .bf16)
    (W : Vec Ideal Cert.Kernel2Ideal.S256x34816 .bf16)
    (hQ : ∀ (h : Fin 16) (d : Fin 64) (x : Fin 34816), Q (ix2 ⟨64 * h.val + d.val, by omega⟩ x) = token x0 x1 h d x)
    (hK : ∀ (h : Fin 4) (x : Fin 34816) (d : Fin 128), K (ix3 h x d) =
      if hd : d.val < 64 then token x2 x3 h ⟨d.val, hd⟩ x else 0)
    (hW : ∀ (h : Fin 4) (r : Fin 64) (x : Fin 34816), W (ix2 ⟨64 * h.val + r.val, by omega⟩ x) = token x4 x5 h r x)
    (h0 : AllReal x0) (h1 : AllReal x1) (h2 : AllReal x2) (h3 : AllReal x3) :
    result Q K W = Cert.Reference2Ideal.Read.val_main_v42 (F := Ideal) x0 x1 x2 x3 x4 x5 := by
  funext i
  obtain ⟨a, x, rfl⟩ : ∃ (a : Fin 1024) (x : Fin 34816), i = ix2 a x := ⟨i 0, i 1, (ix2_eta i).symm⟩
  obtain ⟨k, g, r, ha⟩ : ∃ (k g : Fin 4) (r : Fin 64), a = ⟨256 * k.val + 64 * g.val + r.val, by omega⟩ :=
    ⟨⟨a.val / 256, by omega⟩, ⟨a.val / 64 % 4, by omega⟩, ⟨a.val % 64, by omega⟩, Fin.ext (by simp only; omega)⟩
  have hkey : ∀ b n h d, ∃ y : ℝ, keyAt x2 x3 b n h d = (y : EReal) := by
    intro b n h d
    unfold keyAt
    split
    · exact h3 _
    · exact h2 _
  have hh : (⟨a.val / 64, by omega⟩ : Fin 16) = ⟨4 * k.val + g.val, by omega⟩ := by
    subst ha; exact Fin.ext (by have := r.isLt; simp only; omega)
  have hkv : kvOf ⟨4 * k.val + g.val, by omega⟩ = k := Fin.ext (by have := g.isLt; simp only [kvOf]; omega)
  have hr : valueRow a = ⟨64 * k.val + r.val, by omega⟩ := by
    subst ha; exact Fin.ext (by have := r.isLt; have := g.isLt; simp only [valueRow]; omega)
  have hval : ∀ y, W (ix2 (valueRow a) y) = token x4 x5 k r y := fun y => by rw [hr]; exact hW k r y
  have hR := result_at x0 x1 x2 x3 x4 x5 k g r x
  rw [← ha] at hR
  rw [hR]
  show (if _ : x.val < 32768 then latent Q K W a x ⟨x.val / 4096, _⟩ else context Q K W a x ⟨(x.val - 32768) / 256, _⟩) = _
  refine dite_congr rfl (fun hx => ?_) fun hx => ?_
  · have hx' : x.val < 32768 := hx
    unfold latent
    simp only [hh, hval, score_eq x0 x1 x2 x3 Q K hQ hK, hkv, token_colOf]
    refine Eq.trans (Softmax.attention_eq (1 / 8) (fun n d => keyAt x2 x3 ⟨x.val / 4096, by omega⟩ n k d) (fun d => token x0 x1 ⟨4 * k.val + g.val, by omega⟩ d x) _
      (fun n d => hkey _ _ _ _) fun d => ?_) ?_
    · rw [token, dif_pos hx']; exact h0 _
    · rw [← scale_eq]
      simp only [token, dif_pos hx']
      rfl
  · have hx' : ¬ x.val < 32768 := hx
    have hc : ∀ {w : ℕ} (L : Vec Ideal ⟨4, ![8, 4096, 4, w]⟩ .f32) (C : Vec Ideal ⟨4, ![8, 256, 4, w]⟩ .f32) (b : Fin 8)
        (n : Fin 256) (h : Fin 4) (d : Fin w), keyAt L C b (Softmax.keyC n) h d = C (ix4 b n h d) := by
      intro w L C b n h d
      exact dif_pos n.isLt
    unfold context
    simp only [hh, hval, score_eq x0 x1 x2 x3 Q K hQ hK, hkv, token_colOf, hc]
    refine Eq.trans (Softmax.attention_eq (1 / 8) (fun n d => x3 (ix4 ⟨(x.val - 32768) / 256, by omega⟩ n k d)) (fun d => token x0 x1 ⟨4 * k.val + g.val, by omega⟩ d x) _
      (fun n d => h3 _) fun d => ?_) ?_
    · rw [token, dif_neg hx']; exact h1 _
    · rw [← scale_eq]
      simp only [token, dif_neg hx']
      rfl

end Cert.Equal2
-- ==== Proof.Body3.lean ====
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Ring
public import Idealize.ShloMosaic.Lib.Tactic
public import Idealize.ShloMosaic.Lib.WordCmp

/-! One grid point of the experts' call: from the blocks of its tile, the body stores the whole output block, either
the tile's eight column chunks (a tile in use) or zeros (a tile past the last one in use). -/

@[expose] public section

set_option maxRecDepth 16384

noncomputable section

namespace Cert.Kernel3Ideal.Body

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The table of the first expert of each tile. -/
abbrev tabA : Memref sig .tc .smem S160 .i32 := Memref.whole main_arg1
/-- The table of the second expert of each tile. -/
abbrev tabB : Memref sig .tc .smem S160 .i32 := Memref.whole main_arg2
/-- The number of tiles in use. -/
abbrev tabN : Memref sig .tc .smem S1 .i32 := Memref.whole main_arg3

/-- What core `c` holds of a table. -/
abbrev Held (c : Dev nD) {S : Shape} (M : Memref sig .tc .smem S .i32) : Type := Buf (Elt F) (M.view.loc (c : Thread nD τ))
/-- The half of a table that the body may read. -/
abbrev half (c : Dev nD) {S : Shape} (M : Memref sig .tc .smem S .i32) (f : Held (F := F) c M) : sProp 𝕄 :=
  M.view.loc (c : Thread nD τ) ↦{fullShare.right} f

/-- The word the body compares its tile number with. -/
abbrev used (c : Dev nD) (n : Held (F := F) c tabN) : BitVec 32 :=
  View.readAt (Elt F) tabN.view (Rect.unit (s := S1) ![0] S1.size inb_S1_S1_0).toLoadRect n (Shape.Idx.first (numel1_S1.symm ▸ Nat.one_pos))

/-- A tile is in use or past the last one in use, never both. -/
theorem cond_compl (i : grid0.Coords) (v : BitVec 32) : k0_cond2 i v = 1#1 ↔ ¬ k0_cond1 i v = 1#1 := by
  have hb : ∀ b : Bool, Scalar.cmpi .ne (Scalar.extui (BitVec.ofBool b) : BitVec 32) 0#32 = 1#1 ↔ b = true := by decide
  have h1 : k0_cond1 i v = 1#1 ↔ (BitVec.ofNat 32 (i 0).val).slt v = true := hb _
  have h2 : k0_cond2 i v = 1#1 ↔ v.sle (BitVec.ofNat 32 (i 0).val) = true := hb _
  rw [h1, h2, BitVec.sle_eq_not_slt]
  cases BitVec.slt (BitVec.ofNat 32 (i 0).val) v <;> simp

section
variable (c : Dev nD) (i : grid0.Coords)
  (g0 : Memref sig .tc .vmem S256x8x128 .f32) (w0 : g0.IsWhole) (g1 : Memref sig .tc .vmem S1024x128 .bf16) (w1 : g1.IsWhole)
  (g2 : Memref sig .tc .vmem S1x1024x1024 .bf16) (w2 : g2.IsWhole) (g3 : Memref sig .tc .vmem S1x1024x1024 .bf16) (w3 : g3.IsWhole)
  (g4 : Memref sig .tc .vmem S1x512x1024 .bf16) (w4 : g4.IsWhole) (g5 : Memref sig .tc .vmem S1x512x1024 .bf16) (w5 : g5.IsWhole)
  (g6 : Memref sig .tc .vmem S256x8x128 .f32) (w6 : g6.IsWhole)
  (x0 : Vec F S256x8x128 .f32) (x1 : Vec F S1024x128 .bf16) (x2 x3 : Vec F S1x1024x1024 .bf16) (x4 x5 : Vec F S1x512x1024 .bf16)
  (a : Held (F := F) c tabA) (b : Held (F := F) c tabB) (n : Held (F := F) c tabN)

/-- What the body keeps: its input blocks and the tables. -/
abbrev kept (R : sProp 𝕄) : sProp 𝕄 :=
  iprop(owns (c : Thread nD τ) g0 fullShare x0 ∗ owns (c : Thread nD τ) g1 fullShare x1 ∗ owns (c : Thread nD τ) g2 fullShare x2
    ∗ owns (c : Thread nD τ) g3 fullShare x3 ∗ owns (c : Thread nD τ) g4 fullShare x4 ∗ owns (c : Thread nD τ) g5 fullShare x5
    ∗ half c tabA a ∗ half c tabB b ∗ half c tabN n ∗ R)

/-- The body, run from its blocks, leaves the pieces `L` in the output's staging buffer. -/
def Leaves (L : List (View.Piece (Elt F) S256x8x128 .f32)) : Prop :=
  ∀ K : PUnit → sProp 𝕄,
    kept c g0 g1 g2 g3 g4 g5 x0 x1 x2 x3 x4 x5 a b n
      iprop((∃ d, owns (c : Thread nD τ) g6 fullShare d)
        ∗ ((kept c g0 g1 g2 g3 g4 g5 x0 x1 x2 x3 x4 x5 a b n
            iprop(∃ f, g6.view.loc (c : Thread nD τ) ↦[g6.view.set]{fullShare} g6.view.writes (Elt F) f L)) -∗ K ⟨⟩))
      ⊢ wp frame (wpE (defs₀ (F := F)) Variants.none c none) Set.univ
          (cc0_moe_experts i tabA (Memref.isWhole_whole _) tabB (Memref.isWhole_whole _) tabN (Memref.isWhole_whole _)
            g0 w0 g1 w1 g2 w2 g3 w3 g4 w4 g5 w5 g6 w6) K

set_option maxHeartbeats 4000000 in
/-- A tile in use: the pieces the body stores, found by running it. -/
def runUsed (hu : k0_cond1 i (used c n) = 1#1) (hv : ¬ k0_cond2 i (used c n) = 1#1) :
    { L // Leaves c i g0 w0 g1 w1 g2 w2 g3 w3 g4 w4 g5 w5 g6 w6 x0 x1 x2 x3 x4 x5 a b n L } := by
  refine ⟨?_, fun K => ?run⟩
  case run =>
    simp only [cc0_moe_experts_eq_skeleton]; unfold cc0_moe_experts_skel
    simp only [k0_part1_eq_skeleton, k0_part2_eq_skeleton, k0_part3_eq_skeleton]
    unfold kept owns
    iintro ⟨⟨%f0, %hf0, H0⟩, ⟨%f1, %hf1, H1⟩, ⟨%f2, %hf2, H2⟩, ⟨%f3, %hf3, H3⟩, ⟨%f4, %hf4, H4⟩, ⟨%f5, %hf5, H5⟩, HA, HB, HN, ⟨%d6, %f6, -, H6⟩, Hk⟩
    obtain rfl := w0.eq_unread hf0; obtain rfl := w1.eq_unread hf1; obtain rfl := w2.eq_unread hf2
    obtain rfl := w3.eq_unread hf3; obtain rfl := w4.eq_unread hf4; obtain rfl := w5.eq_unread hf5
    sl_exec (disch := first | sl_exact hu | sl_exact hv)
    sl_step
    iapply Hk
    isplitl [H0]
    · iexists _; isplitr; · ipureintro; exact w0.read_unread _
      iexact H0
    isplitl [H1]
    · iexists _; isplitr; · ipureintro; exact w1.read_unread _
      iexact H1
    isplitl [H2]
    · iexists _; isplitr; · ipureintro; exact w2.read_unread _
      iexact H2
    isplitl [H3]
    · iexists _; isplitr; · ipureintro; exact w3.read_unread _
      iexact H3
    isplitl [H4]
    · iexists _; isplitr; · ipureintro; exact w4.read_unread _
      iexact H4
    isplitl [H5]
    · iexists _; isplitr; · ipureintro; exact w5.read_unread _
      iexact H5
    isplitl [HA]; · iexact HA
    isplitl [HB]; · iexact HB
    isplitl [HN]; · iexact HN
    iexists _; iexact H6

set_option maxHeartbeats 4000000 in
/-- A tile past the last one in use: the pieces the body stores, found by running it. -/
def runPast (hu : ¬ k0_cond1 i (used c n) = 1#1) (hv : k0_cond2 i (used c n) = 1#1) :
    { L // Leaves c i g0 w0 g1 w1 g2 w2 g3 w3 g4 w4 g5 w5 g6 w6 x0 x1 x2 x3 x4 x5 a b n L } := by
  refine ⟨?_, fun K => ?run⟩
  case run =>
    simp only [cc0_moe_experts_eq_skeleton]; unfold cc0_moe_experts_skel
    unfold kept owns
    iintro ⟨H0, H1, H2, H3, H4, H5, HA, HB, HN, ⟨%d6, %f6, -, H6⟩, Hk⟩
    sl_exec (disch := first | sl_exact hu | sl_exact hv)
    sl_step
    iapply Hk
    isplitl [H0]; · iexact H0
    isplitl [H1]; · iexact H1
    isplitl [H2]; · iexact H2
    isplitl [H3]; · iexact H3
    isplitl [H4]; · iexact H4
    isplitl [H5]; · iexact H5
    isplitl [HA]; · iexact HA
    isplitl [HB]; · iexact HB
    isplitl [HN]; · iexact HN
    iexists _; iexact H6

/-- The stores of a tile in use cover the output block. -/
theorem cover_used (hu : k0_cond1 i (used c n) = 1#1) (hv : ¬ k0_cond2 i (used c n) = 1#1) (y : S256x8x128.Idx) :
    ∃ pc ∈ (runUsed c i g0 w0 g1 w1 g2 w2 g3 w3 g4 w4 g5 w5 g6 w6 x0 x1 x2 x3 x4 x5 a b n hu hv).1, y ∈ pc.1.set :=
  View.cover_of_tiledL (runUsed c i g0 w0 g1 w1 g2 w2 g3 w3 g4 w4 g5 w5 g6 w6 x0 x1 x2 x3 x4 x5 a b n hu hv).1 S256x1x128.size
    (by sl_kernel_rfl) y

/-- The store of a tile past the last one in use covers the output block. -/
theorem cover_past (hu : ¬ k0_cond1 i (used c n) = 1#1) (hv : k0_cond2 i (used c n) = 1#1) (y : S256x8x128.Idx) :
    ∃ pc ∈ (runPast c i g0 w0 g1 w1 g2 w2 g3 w3 g4 w4 g5 w5 g6 w6 x0 x1 x2 x3 x4 x5 a b n hu hv).1, y ∈ pc.1.set :=
  View.cover_of_tiledL (runPast c i g0 w0 g1 w1 g2 w2 g3 w3 g4 w4 g5 w5 g6 w6 x0 x1 x2 x3 x4 x5 a b n hu hv).1 S256x8x128.size
    (by sl_kernel_rfl) y

/-- One staging buffer of the output, through which its contents are read. -/
abbrev outView : View sig .tc .vmem S256x8x128 .f32 := (Memref.whole cc0_stg6_0 : Memref sig .tc .vmem S256x8x128 .f32).view

/-- The output block after a tile in use. -/
def outUsed (hu : k0_cond1 i (used c n) = 1#1) (hv : ¬ k0_cond2 i (used c n) = 1#1) : Vec F S256x8x128 .f32 :=
  outView.read (Elt F) (outView.writes (Elt F) outView.junk
    (runUsed c i g0 w0 g1 w1 g2 w2 g3 w3 g4 w4 g5 w5 g6 w6 x0 x1 x2 x3 x4 x5 a b n hu hv).1)

/-- The output block after a tile past the last one in use. -/
def outPast (hu : ¬ k0_cond1 i (used c n) = 1#1) (hv : k0_cond2 i (used c n) = 1#1) : Vec F S256x8x128 .f32 :=
  outView.read (Elt F) (outView.writes (Elt F) outView.junk
    (runPast c i g0 w0 g1 w1 g2 w2 g3 w3 g4 w4 g5 w5 g6 w6 x0 x1 x2 x3 x4 x5 a b n hu hv).1)

/-- The output block after the point. -/
def out : Vec F S256x8x128 .f32 :=
  if h : k0_cond1 i (used c n) = 1#1 then
    outUsed c i g0 w0 g1 w1 g2 w2 g3 w3 g4 w4 g5 w5 g6 w6 x0 x1 x2 x3 x4 x5 a b n h (fun h2 => (cond_compl i _).mp h2 h)
  else outPast c i g0 w0 g1 w1 g2 w2 g3 w3 g4 w4 g5 w5 g6 w6 x0 x1 x2 x3 x4 x5 a b n h ((cond_compl i _).mpr h)

/-- The body's triple at any point: from its blocks, with anything in the output's buffer, to the output block `out`. -/
theorem triple (K : PUnit → sProp 𝕄) :
    kept c g0 g1 g2 g3 g4 g5 x0 x1 x2 x3 x4 x5 a b n
      iprop((∃ d, owns (c : Thread nD τ) g6 fullShare d)
        ∗ ((kept c g0 g1 g2 g3 g4 g5 x0 x1 x2 x3 x4 x5 a b n
            (owns (c : Thread nD τ) g6 fullShare (out c i g0 w0 g1 w1 g2 w2 g3 w3 g4 w4 g5 w5 g6 w6 x0 x1 x2 x3 x4 x5 a b n))) -∗ K ⟨⟩))
      ⊢ wp frame (wpE (defs₀ (F := F)) Variants.none c none) Set.univ
          (cc0_moe_experts i tabA (Memref.isWhole_whole _) tabB (Memref.isWhole_whole _) tabN (Memref.isWhole_whole _)
            g0 w0 g1 w1 g2 w2 g3 w3 g4 w4 g5 w5 g6 w6) K := by
  suffices h : ∃ L, Leaves c i g0 w0 g1 w1 g2 w2 g3 w3 g4 w4 g5 w5 g6 w6 x0 x1 x2 x3 x4 x5 a b n L
      ∧ (∀ y : S256x8x128.Idx, ∃ pc ∈ L, y ∈ pc.1.set)
      ∧ out c i g0 w0 g1 w1 g2 w2 g3 w3 g4 w4 g5 w5 g6 w6 x0 x1 x2 x3 x4 x5 a b n
        = outView.read (Elt F) (outView.writes (Elt F) outView.junk L) by
    obtain ⟨L, hL, hc, ho⟩ := h
    rw [ho]
    unfold kept
    iintro ⟨H0, H1, H2, H3, H4, H5, HA, HB, HN, H6, Hk⟩
    iapply (hL K)
    unfold kept
    isplitl [H0]; · iexact H0
    isplitl [H1]; · iexact H1
    isplitl [H2]; · iexact H2
    isplitl [H3]; · iexact H3
    isplitl [H4]; · iexact H4
    isplitl [H5]; · iexact H5
    isplitl [HA]; · iexact HA
    isplitl [HB]; · iexact HB
    isplitl [HN]; · iexact HN
    isplitl [H6]; · iexact H6
    iintro ⟨H0, H1, H2, H3, H4, H5, HA, HB, HN, ⟨%e, H6⟩⟩
    iapply Hk
    isplitl [H0]; · iexact H0
    isplitl [H1]; · iexact H1
    isplitl [H2]; · iexact H2
    isplitl [H3]; · iexact H3
    isplitl [H4]; · iexact H4
    isplitl [H5]; · iexact H5
    isplitl [HA]; · iexact HA
    isplitl [HB]; · iexact HB
    isplitl [HN]; · iexact HN
    unfold owns; iexists _; isplitr
    swap; · iexact H6
    ipureintro; exact View.read_writes_of_cover _ _ _ _ _ hc
  by_cases h : k0_cond1 i (used c n) = 1#1
  · have hv : ¬ k0_cond2 i (used c n) = 1#1 := fun h2 => (cond_compl i _).mp h2 h
    exact ⟨_, (runUsed c i g0 w0 g1 w1 g2 w2 g3 w3 g4 w4 g5 w5 g6 w6 x0 x1 x2 x3 x4 x5 a b n h hv).2,
      cover_used c i g0 w0 g1 w1 g2 w2 g3 w3 g4 w4 g5 w5 g6 w6 x0 x1 x2 x3 x4 x5 a b n h hv, by unfold out; rw [dif_pos h]; rfl⟩
  · have hv : k0_cond2 i (used c n) = 1#1 := (cond_compl i _).mpr h
    exact ⟨_, (runPast c i g0 w0 g1 w1 g2 w2 g3 w3 g4 w4 g5 w5 g6 w6 x0 x1 x2 x3 x4 x5 a b n h hv).2,
      cover_past c i g0 w0 g1 w1 g2 w2 g3 w3 g4 w4 g5 w5 g6 w6 x0 x1 x2 x3 x4 x5 a b n h hv, by unfold out; rw [dif_neg h]; rfl⟩

end

end Cert.Kernel3Ideal.Body

end
-- ==== Proof.Run3.lean ====
module

public import proofs.«01_k».proof.Proof.Body3
public import Idealize.ShloMosaic.Lib.Claim
public import Idealize.ShloMosaic.Lib.Pipeline.Kit

/-! The run of the experts' call, for every contents of its three tables that keeps the blocks inside their arrays:
every final state holds the call's result block by block, and the arguments as they were. -/

@[expose] public section

set_option maxRecDepth 16384

noncomputable section

namespace Cert.Kernel3Ideal.Run

open Cert.Kernel3Ideal.Gen Cert.Kernel3Ideal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers when the call is entered, after the host code that prepares its arrays. -/
abbrev V (c : Dev nD) (b : Ref sig .tc) : Buf (Elt F) ((c : Thread nD τ).loc b) := StableHlo.after hostOps0 (fun b => m (c, b)) b

/-- The host code makes no array of its own. -/
theorem host_fresh : (hostOps0 : List (HloOp τ sig (Elt F))).Forall fun op => op.fresh = ∅ := by
  simp only [List.Forall]; repeat' constructor

set_option maxHeartbeats 800000 in
/-- The program is its host code, then the call. -/
theorem host_then_call (𝒱 : Variants) :
    Pipeline.HMainP (Ix := Unit) (Name := ℕ) (U := UR sig nD τ) (Lvl := ℕ) pcfgs 0 defs₀ 𝒱 m (main (F := F)) (V m) :=
  Pipeline.hmainP_prefix pcfgs 0 defs₀ 𝒱 m main hostOps0 hostOps0_sub host_fresh main_chain

/-- The host code leaves every argument as it was. -/
theorem V_arg (c : Dev nD) (b : Ref sig .tc)
    (hb : b ∈ [main_arg0, main_arg1, main_arg2, main_arg3, main_arg4, main_arg5, main_arg6, main_arg7]) :
    V m c b = m ((c : Thread nD τ).loc b) := by
  refine StableHlo.after_of_forall_not_mem (b := Proc.devRef .tc b) _ _ (List.forall_iff_forall_mem.mp ?_)
  simp only [List.mem_cons, List.not_mem_nil, or_false] at hb
  simp only [hostOps0, List.flatten_cons, List.flatten_nil, List.append_nil, List.cons_append,
    List.nil_append, List.Forall, StableHlo.nullary_writes, StableHlo.unary_writes, StableHlo.binary_writes,
    StableHlo.reshape_writes, Finset.mem_singleton]
  rcases hb with rfl | rfl | rfl | rfl | rfl | rfl | rfl | rfl <;>
    (repeat' apply And.intro) <;> exact StableHlo.devRef_ne_of_ne (by decide)

/-- The tables as the call finds them (there is one device). -/
def tab : pre0.Contents (Elt F) := fun j => V m (0 : Dev nD) (pre0.ref j)

/-- Every device finds those tables. -/
theorem V_tab (c : Dev nD) (j : Fin 3) : V m c (pre0.ref j) = tab m j := by
  obtain rfl : c = 0 := Subsingleton.elim _ _; rfl

/-- The tables keep every block inside its array. -/
abbrev Ok : Prop := ok0 (F := F) (tab m)

variable (hO : Ok m)

/-- The tables of the launch, with that. -/
abbrev adm : (pcfg0 (F := F)).Adm := ⟨tab m, hO⟩
/-- The call at those tables. -/
abbrev call : Pipeline.Cfg sig Λ₀ := cfg0 (adm m hO)

/-- The halves of the tables the call hands its body, one by one. -/
theorem halves (c : Dev nD) : (Pipeline.ΦT pre0 (tab m) c : sProp 𝕄)
    = iprop(half c tabA (tab m 0) ∗ half c tabB (tab m 1) ∗ half c tabN (tab m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- Window `w`'s block at point `t`, read off its array as the call finds it. -/
def blk (c : Dev nD) (w : Fin (call m hO).W) (t : Fin (call m hO).N) :
    (((call m hO).win w).xblock ((call m hO).grid.coords t)).Idx → Elt F ((call m hO).win w).elt :=
  (((call m hO).win w).blk t).view.read (Elt F) (V m c (Pipeline.arrRef spec0 w))

/-- The output block of point `t`: what the body leaves from the blocks of its tile. -/
def outBlk (c : Dev nD) (t : Fin (call m hO).N) : Vec F S256x8x128 .f32 :=
  out c (grid0.coords t)
    (spec0_0.stage ((call m hO).slots t 0)) (hstage0_0 (((call m hO).slots t 0).cast nbuf0_0))
    (spec0_1.stage ((call m hO).slots t 1)) (hstage0_1 (((call m hO).slots t 1).cast nbuf0_1))
    (spec0_2.stage ((call m hO).slots t 2)) (hstage0_2 (((call m hO).slots t 2).cast nbuf0_2))
    (spec0_3.stage ((call m hO).slots t 3)) (hstage0_3 (((call m hO).slots t 3).cast nbuf0_3))
    (spec0_4.stage ((call m hO).slots t 4)) (hstage0_4 (((call m hO).slots t 4).cast nbuf0_4))
    (spec0_5.stage ((call m hO).slots t 5)) (hstage0_5 (((call m hO).slots t 5).cast nbuf0_5))
    (spec0_6.stage ((call m hO).slots t 6)) (hstage0_6 (((call m hO).slots t 6).cast nbuf0_6))
    (blk m hO c 0 t) (blk m hO c 1 t) (blk m hO c 2 t) (blk m hO c 3 t) (blk m hO c 4 t) (blk m hO c 5 t)
    (tab m 0) (tab m 1) (tab m 2)

/-- What the call's buffers hold: the arrays as found, each input's buffer its block, the output's buffer the output
block, and the body the other halves of the tables throughout. -/
def dats (_ : Fin 1) (c : Dev nD) : Dat τ (Elt F) Unit ℕ (UR sig nD τ) ℕ (call m hO) c where
  A w := V m c (Pipeline.arrRef spec0 w)
  after w t := match w with
    | ⟨0, _⟩ => blk m hO c 0 t
    | ⟨1, _⟩ => blk m hO c 1 t
    | ⟨2, _⟩ => blk m hO c 2 t
    | ⟨3, _⟩ => blk m hO c 3 t
    | ⟨4, _⟩ => blk m hO c 4 t
    | ⟨5, _⟩ => blk m hO c 5 t
    | ⟨6, _⟩ => outBlk m hO c t
  Φ _ := iprop(Pipeline.ΦA spec0 c ∗ Pipeline.ΦT pre0 (tab m) c)
  q w := Pipeline.shareOf spec0 w
  owed _ := 0

/-- The arrays are those the call finds. -/
theorem arr_eq (c : Dev nD) (w : Fin (call m hO).W) : (dats m hO 0 c).A w = V m c (Pipeline.arrRef spec0 w) := by
  dsimp only [dats]

/-- The body leaves the block of the rows in place. -/
theorem after_0 (c : Dev nD) (t : Fin (call m hO).N) : (dats m hO 0 c).after 0 t = blk m hO c 0 t := by dsimp only [dats]; rfl

/-- The body leaves the block of the router's weights in place. -/
theorem after_1 (c : Dev nD) (t : Fin (call m hO).N) : (dats m hO 0 c).after 1 t = blk m hO c 1 t := by dsimp only [dats]; rfl

/-- The body leaves the block of the first expert's gate and up weights in place. -/
theorem after_2 (c : Dev nD) (t : Fin (call m hO).N) : (dats m hO 0 c).after 2 t = blk m hO c 2 t := by dsimp only [dats]; rfl

/-- The body leaves the block of the second expert's gate and up weights in place. -/
theorem after_3 (c : Dev nD) (t : Fin (call m hO).N) : (dats m hO 0 c).after 3 t = blk m hO c 3 t := by dsimp only [dats]; rfl

/-- The body leaves the block of the first expert's down weights in place. -/
theorem after_4 (c : Dev nD) (t : Fin (call m hO).N) : (dats m hO 0 c).after 4 t = blk m hO c 4 t := by dsimp only [dats]; rfl

/-- The body leaves the block of the second expert's down weights in place. -/
theorem after_5 (c : Dev nD) (t : Fin (call m hO).N) : (dats m hO 0 c).after 5 t = blk m hO c 5 t := by dsimp only [dats]; rfl

/-- The body leaves the output block. -/
theorem after_6 (c : Dev nD) (t : Fin (call m hO).N) : (dats m hO 0 c).after 6 t = outBlk m hO c t := by dsimp only [dats]; rfl

/-- The buffer of the rows holds the point's block before the body, fetched there or not. -/
theorem before_0 (c : Dev nD) (t : Fin (call m hO).N) (d) : (dats m hO 0 c).before 0 t d = blk m hO c 0 t := by
  have ha := after_0 m hO c
  have hb : (dats m hO 0 c).A 0 = V m c (Pipeline.arrRef spec0 0) := arr_eq m hO c 0
  generalize dats m hO 0 c = dat at ha hb ⊢
  exact (dat.before_in_eq_fetched 0 rfl (fun _ => rfl) (fun _ _ _ => rfl)
    (fun t => by rw [ha]; unfold Dat.blockOf blk; rw [hb]; try rfl) t d).trans
    (by unfold Dat.fetched Dat.blockOf blk; rw [hb]; try rfl)

/-- The buffer of the router's weights holds the point's block before the body, fetched there or not. -/
theorem before_1 (c : Dev nD) (t : Fin (call m hO).N) (d) : (dats m hO 0 c).before 1 t d = blk m hO c 1 t := by
  have ha := after_1 m hO c
  have hb : (dats m hO 0 c).A 1 = V m c (Pipeline.arrRef spec0 1) := arr_eq m hO c 1
  generalize dats m hO 0 c = dat at ha hb ⊢
  exact (dat.before_in_eq_fetched 1 rfl (fun _ => rfl) (fun _ _ _ => rfl)
    (fun t => by rw [ha]; unfold Dat.blockOf blk; rw [hb]; try rfl) t d).trans
    (by unfold Dat.fetched Dat.blockOf blk; rw [hb]; try rfl)

/-- The buffer of the first expert's gate and up weights holds the point's block before the body, fetched there or not. -/
theorem before_2 (c : Dev nD) (t : Fin (call m hO).N) (d) : (dats m hO 0 c).before 2 t d = blk m hO c 2 t := by
  have ha := after_2 m hO c
  have hb : (dats m hO 0 c).A 2 = V m c (Pipeline.arrRef spec0 2) := arr_eq m hO c 2
  generalize dats m hO 0 c = dat at ha hb ⊢
  exact (dat.before_in_eq_fetched 2 rfl (fun _ => rfl) (fun _ _ _ => rfl)
    (fun t => by rw [ha]; unfold Dat.blockOf blk; rw [hb]; try rfl) t d).trans
    (by unfold Dat.fetched Dat.blockOf blk; rw [hb]; try rfl)

/-- The buffer of the second expert's gate and up weights holds the point's block before the body, fetched there or not. -/
theorem before_3 (c : Dev nD) (t : Fin (call m hO).N) (d) : (dats m hO 0 c).before 3 t d = blk m hO c 3 t := by
  have ha := after_3 m hO c
  have hb : (dats m hO 0 c).A 3 = V m c (Pipeline.arrRef spec0 3) := arr_eq m hO c 3
  generalize dats m hO 0 c = dat at ha hb ⊢
  exact (dat.before_in_eq_fetched 3 rfl (fun _ => rfl) (fun _ _ _ => rfl)
    (fun t => by rw [ha]; unfold Dat.blockOf blk; rw [hb]; try rfl) t d).trans
    (by unfold Dat.fetched Dat.blockOf blk; rw [hb]; try rfl)

/-- The buffer of the first expert's down weights holds the point's block before the body, fetched there or not. -/
theorem before_4 (c : Dev nD) (t : Fin (call m hO).N) (d) : (dats m hO 0 c).before 4 t d = blk m hO c 4 t := by
  have ha := after_4 m hO c
  have hb : (dats m hO 0 c).A 4 = V m c (Pipeline.arrRef spec0 4) := arr_eq m hO c 4
  generalize dats m hO 0 c = dat at ha hb ⊢
  exact (dat.before_in_eq_fetched 4 rfl (fun _ => rfl) (fun _ _ _ => rfl)
    (fun t => by rw [ha]; unfold Dat.blockOf blk; rw [hb]; try rfl) t d).trans
    (by unfold Dat.fetched Dat.blockOf blk; rw [hb]; try rfl)

/-- The buffer of the second expert's down weights holds the point's block before the body, fetched there or not. -/
theorem before_5 (c : Dev nD) (t : Fin (call m hO).N) (d) : (dats m hO 0 c).before 5 t d = blk m hO c 5 t := by
  have ha := after_5 m hO c
  have hb : (dats m hO 0 c).A 5 = V m c (Pipeline.arrRef spec0 5) := arr_eq m hO c 5
  generalize dats m hO 0 c = dat at ha hb ⊢
  exact (dat.before_in_eq_fetched 5 rfl (fun _ => rfl) (fun _ _ _ => rfl)
    (fun t => by rw [ha]; unfold Dat.blockOf blk; rw [hb]; try rfl) t d).trans
    (by unfold Dat.fetched Dat.blockOf blk; rw [hb]; try rfl)

/-- The output's block is written back at every point: each point has its own. -/
theorem flush_out (t : Fin (call m hO).N) : ((call m hO).win 6).flush t = true :=
  (fun t => (Pipeline.Window.flushOf_reads cc0_transform_6 reads0_6 hreads0_6 0 (by decide) (by decide)
    (Pipeline.Window.sep_of_coord cc0_transform_6 0 0 (fun _ => rfl) (by decide)) (P := 1) (m := 0) (by decide) rfl t).mpr
      (Nat.mod_one _) : ∀ t : Fin grid0.N, Pipeline.Window.flushOf grid0 true cc0_transform_6 t = true) t

/-- The output's buffer at the output block is what the call asks of it, whatever it says of idle points. -/
theorem leaf_out (c : Dev nD) (t : Fin (call m hO).N) :
    (owns (c : Thread nD τ) (((call m hO).win 6).stage ((call m hO).slots t 6)) fullShare ((dats m hO 0 c).after 6 t) : sProp 𝕄)
      ⊢ (dats m hO 0 c).leavesExact 6 t := by
  unfold Dat.leavesExact
  rw [flush_out]
  split <;> exact .rfl

/-- What the body finds at point `t`. -/
abbrev found (c : Dev nD) (t : Fin (call m hO).N) : sProp 𝕄 :=
  iprop((dats m hO 0 c).Φ t.castSucc ∗ (dats m hO 0 c).owesAt () t.castSucc
    ∗ (∃ d, owns (c : Thread nD τ) (spec0_0.stage ((call m hO).slots t 0)) fullShare ((dats m hO 0 c).before 0 t d))
    ∗ (∃ d, owns (c : Thread nD τ) (spec0_1.stage ((call m hO).slots t 1)) fullShare ((dats m hO 0 c).before 1 t d))
    ∗ (∃ d, owns (c : Thread nD τ) (spec0_2.stage ((call m hO).slots t 2)) fullShare ((dats m hO 0 c).before 2 t d))
    ∗ (∃ d, owns (c : Thread nD τ) (spec0_3.stage ((call m hO).slots t 3)) fullShare ((dats m hO 0 c).before 3 t d))
    ∗ (∃ d, owns (c : Thread nD τ) (spec0_4.stage ((call m hO).slots t 4)) fullShare ((dats m hO 0 c).before 4 t d))
    ∗ (∃ d, owns (c : Thread nD τ) (spec0_5.stage ((call m hO).slots t 5)) fullShare ((dats m hO 0 c).before 5 t d))
    ∗ (∃ d, owns (c : Thread nD τ) (spec0_6.stage ((call m hO).slots t 6)) fullShare ((dats m hO 0 c).before 6 t d)))

/-- What it leaves. -/
abbrev left (c : Dev nD) (t : Fin (call m hO).N) : sProp 𝕄 :=
  iprop((dats m hO 0 c).Φ t.succ ∗ (dats m hO 0 c).owesAt () t.succ
    ∗ owns (c : Thread nD τ) (spec0_0.stage ((call m hO).slots t 0)) fullShare ((dats m hO 0 c).after 0 t)
    ∗ owns (c : Thread nD τ) (spec0_1.stage ((call m hO).slots t 1)) fullShare ((dats m hO 0 c).after 1 t)
    ∗ owns (c : Thread nD τ) (spec0_2.stage ((call m hO).slots t 2)) fullShare ((dats m hO 0 c).after 2 t)
    ∗ owns (c : Thread nD τ) (spec0_3.stage ((call m hO).slots t 3)) fullShare ((dats m hO 0 c).after 3 t)
    ∗ owns (c : Thread nD τ) (spec0_4.stage ((call m hO).slots t 4)) fullShare ((dats m hO 0 c).after 4 t)
    ∗ owns (c : Thread nD τ) (spec0_5.stage ((call m hO).slots t 5)) fullShare ((dats m hO 0 c).after 5 t)
    ∗ owns (c : Thread nD τ) (spec0_6.stage ((call m hO).slots t 6)) fullShare ((dats m hO 0 c).after 6 t))

/-- The body as the call runs it at point `t`. -/
abbrev bodyAt (t : Fin (call m hO).N) : Prog (TpuEff nD τ sig (Elt F) Λ₀ .tc) PUnit :=
  cc0_moe_experts (grid0.coords t) tabA (Memref.isWhole_whole _) tabB (Memref.isWhole_whole _) tabN (Memref.isWhole_whole _)
    (spec0_0.stage ((call m hO).slots t 0)) (hstage0_0 (((call m hO).slots t 0).cast nbuf0_0))
    (spec0_1.stage ((call m hO).slots t 1)) (hstage0_1 (((call m hO).slots t 1).cast nbuf0_1))
    (spec0_2.stage ((call m hO).slots t 2)) (hstage0_2 (((call m hO).slots t 2).cast nbuf0_2))
    (spec0_3.stage ((call m hO).slots t 3)) (hstage0_3 (((call m hO).slots t 3).cast nbuf0_3))
    (spec0_4.stage ((call m hO).slots t 4)) (hstage0_4 (((call m hO).slots t 4).cast nbuf0_4))
    (spec0_5.stage ((call m hO).slots t 5)) (hstage0_5 (((call m hO).slots t 5).cast nbuf0_5))
    (spec0_6.stage ((call m hO).slots t 6)) (hstage0_6 (((call m hO).slots t 6).cast nbuf0_6))

set_option maxHeartbeats 1600000 in
/-- The body at any point. -/
theorem body_at (c : Dev nD) (t : Fin (call m hO).N) :
    found m hO c t ⊢ wp frame (wpE (defs₀ (F := F)) Variants.none c none) Set.univ (bodyAt m hO t) (fun _ => left m hO c t) := by
  unfold found left bodyAt
  simp only [before_0, before_1, before_2, before_3, before_4, before_5]
  rw [show (dats m hO 0 c).Φ t.succ = (dats m hO 0 c).Φ t.castSucc from rfl,
    show (dats m hO 0 c).owesAt () t.succ = (dats m hO 0 c).owesAt () t.castSucc from rfl,
    show (dats m hO 0 c).Φ t.castSucc = iprop(Pipeline.ΦA spec0 c ∗ Pipeline.ΦT pre0 (tab m) c) from rfl, halves,
    after_0, after_1, after_2, after_3, after_4, after_5, after_6]
  unfold outBlk
  iintro ⟨⟨HΦ, HA, HB, HN⟩, Ho, ⟨%d0, H0⟩, ⟨%d1, H1⟩, ⟨%d2, H2⟩, ⟨%d3, H3⟩, ⟨%d4, H4⟩, ⟨%d5, H5⟩, ⟨%d6, H6⟩⟩
  iapply (triple c (grid0.coords t) _ _ _ _ _ _ _ _ _ _ _ _ _ _ (blk m hO c 0 t) (blk m hO c 1 t) (blk m hO c 2 t)
    (blk m hO c 3 t) (blk m hO c 4 t) (blk m hO c 5 t) (tab m 0) (tab m 1) (tab m 2) _)
  unfold kept
  isplitl [H0]; · iexact H0
  isplitl [H1]; · iexact H1
  isplitl [H2]; · iexact H2
  isplitl [H3]; · iexact H3
  isplitl [H4]; · iexact H4
  isplitl [H5]; · iexact H5
  isplitl [HA]; · iexact HA
  isplitl [HB]; · iexact HB
  isplitl [HN]; · iexact HN
  isplitl [H6]; · iexists _; iexact H6
  iintro ⟨H0, H1, H2, H3, H4, H5, HA, HB, HN, H6⟩
  isplitl [HΦ HA HB HN]
  · isplitl [HΦ]; · iexact HΦ
    isplitl [HA]; · iexact HA
    isplitl [HB]; · iexact HB
    iexact HN
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t` is that body. -/
theorem row (t : Fin (call m hO).N) :
    defs₀ (F := F) .tc (call m hO).body ((call m hO).bodyArgs t ((call m hO).slots t)) = bodyAt m hO t := by
  unfold defs₀; rw [Defs.onTc_tc]

set_option maxHeartbeats 3200000 in
/-- The body meets what the call asks of it at every point. -/
theorem body_ok (c : Dev nD) : BodyObligation (dats (F := F) m hO 0 c) (defs₀ (F := F)) Variants.none () Set.univ := fun t => by
  rw [bigSep_W0, bigSep_W0, row m hO]
  exact triple_restated (body_at m hO c t) rfl .rfl fun _ =>
    sep_mono .rfl (sep_mono .rfl (sep_mono .rfl (sep_mono .rfl (sep_mono .rfl (sep_mono .rfl (sep_mono .rfl (sep_mono .rfl
      (leaf_out m hO c t))))))))

set_option backward.isDefEq.respectTransparency.types false in
/-- Every run ends with the call's arrays at what the blocks say, every other buffer as the call found it, and every
counter at zero. -/
theorem run_all : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_ok m hO c).loose) (hq := fun _ _ _ => rfl)
    (howed := fun _ _ => rfl) (V := V m) (hmain := host_then_call m Variants.none) (hA := arr_eq m hO) (hpf := V_tab m)
    (hΦ := fun _ _ => rfl)

/-- Every run ends with the result array at what the blocks say, the arguments as they were, and every counter at zero. -/
theorem run_main : θ_run defs (onTc (τ := τ) (main (F := F))) ⟨m, fun _ => 0, ρ⟩ (fun r =>
    ((∀ c : Dev nD, r.2.mem ((c.tc : Thread nD τ).loc main_v7) = (dats m hO 0 c).arrAt 6 (call m hO).N)
    ∧ (∀ c : Dev nD, ∀ b ∈ [main_arg0, main_arg1, main_arg2, main_arg3, main_arg4, main_arg5, main_arg6, main_arg7],
        r.2.mem ((c.tc : Thread nD τ).loc b) = m ((c.tc : Thread nD τ).loc b)))
    ∧ r.2.sem = fun _ => 0) := by
  refine (θ_run defs _ _).mono (fun r h => ⟨⟨fun c => (h.1 c).1 6, fun c b hb => ?_⟩, h.2⟩) (run_all m ρ hO)
  have hr : b ∈ Pipeline.restRefs sig spec0 := by
    simp only [List.mem_cons, List.not_mem_nil, or_false] at hb
    rcases hb with rfl | rfl | rfl | rfl | rfl | rfl | rfl | rfl <;> decide
  exact ((h.1 c).2 b hr).trans (V_arg m c b hb)

end Cert.Kernel3Ideal.Run

end
-- ==== Proof.Tables3.lean ====
module

public import proofs.«01_k».proof.Proof.Run3
public import Idealize.ShloMosaic.Lib.Pointwise

/-! The tables of the experts' call: tables that name experts, with between one and all tiles in use, keep every block inside its
array, and say which blocks a point reads. -/

@[expose] public section

set_option maxRecDepth 16384

noncomputable section

namespace Cert.Kernel3Ideal.Ok

open Idealize.ShloMosaic Idealize.ShloMosaic.TcCoe Idealize.ShloMosaic.Tactic Idealize.SL.Sem
open Cert.Kernel3Ideal.Gen

/-- A word between zero and fifteen is the word of an expert. -/
theorem expert_word (w : BitVec 32) (h0 : IntOp.cmpi .sge w 0#32 = 1#1) (h1 : IntOp.cmpi .slt w 16#32 = 1#1) :
    ∃ e : Fin 16, w = BitVec.ofNat 32 e.val := by
  have h0 : BitVec.ofBool ((0#32).sle w) = 1#1 := h0
  have h1 : BitVec.ofBool (w.slt 16#32) = 1#1 := h1
  have hb : ∀ b : Bool, BitVec.ofBool b = 1#1 → b = true := by decide
  replace h0 := hb _ h0
  replace h1 := hb _ h1
  rw [BitVec.sle_eq_decide, decide_eq_true_eq] at h0
  rw [BitVec.slt_eq_decide, decide_eq_true_eq] at h1
  have hz : (0#32).toInt = 0 := rfl
  have hs : (16#32).toInt = 16 := rfl
  have ht := BitVec.toInt_eq_toNat_cond w
  have hw := w.isLt
  have hn : w.toNat < 16 := by split at ht <;> omega
  exact ⟨⟨w.toNat, hn⟩, by simp⟩

/-- A word between one and 160 is the word of a number of tiles. -/
theorem count_word (w : BitVec 32) (h0 : IntOp.cmpi .sge w 1#32 = 1#1) (h1 : IntOp.cmpi .sle w 160#32 = 1#1) :
    ∃ n : Fin 161, 1 ≤ n.val ∧ w = BitVec.ofNat 32 n.val := by
  have h0 : BitVec.ofBool ((1#32).sle w) = 1#1 := h0
  have h1 : BitVec.ofBool (w.sle 160#32) = 1#1 := h1
  have hb : ∀ b : Bool, BitVec.ofBool b = 1#1 → b = true := by decide
  replace h0 := hb _ h0
  replace h1 := hb _ h1
  rw [BitVec.sle_eq_decide, decide_eq_true_eq] at h0 h1
  have hz : (1#32).toInt = 1 := rfl
  have hs : (160#32).toInt = 160 := rfl
  have ht := BitVec.toInt_eq_toNat_cond w
  have hw := w.isLt
  have hn : w.toNat < 161 ∧ 1 ≤ w.toNat := by split at ht <;> omega
  exact ⟨⟨w.toNat, hn.1⟩, hn.2, by simp⟩

/-- The tables name experts, and the tiles in use are between one and all. -/
def Names (x1 x2 : IVec S160 32) (x3 : IVec S1 32) (A B : Fin 160 → Fin 16) (n : Fin 161) : Prop :=
  (∀ t, x1 (ix1 t) = BitVec.ofNat 32 (A t).val) ∧ (∀ t, x2 (ix1 t) = BitVec.ofNat 32 (B t).val) ∧ 1 ≤ n.val
    ∧ x3 (ix1 0) = BitVec.ofNat 32 n.val

/-- Tables in their ranges name experts. -/
theorem names_of (x1 x2 : IVec S160 32) (x3 : IVec S1 32)
    (h0 : ∀ t, IntOp.cmpi .sge (x1 (ix1 t)) 0#32 = 1#1) (h1 : ∀ t, IntOp.cmpi .slt (x1 (ix1 t)) 16#32 = 1#1)
    (h2 : ∀ t, IntOp.cmpi .sge (x2 (ix1 t)) 0#32 = 1#1) (h3 : ∀ t, IntOp.cmpi .slt (x2 (ix1 t)) 16#32 = 1#1)
    (h4 : IntOp.cmpi .sge (x3 (ix1 0)) 1#32 = 1#1) (h5 : IntOp.cmpi .sle (x3 (ix1 0)) 160#32 = 1#1) :
    ∃ A B n, Names x1 x2 x3 A B n := by
  choose A hA using fun t => expert_word _ (h0 t) (h1 t)
  choose B hB using fun t => expert_word _ (h2 t) (h3 t)
  obtain ⟨n, hn, hw⟩ := count_word _ h4 h5
  exact ⟨A, B, n, hA, hB, hn, hw⟩

variable {F : FTy → Type} [FloatOps F]

/-- The call's tables name experts. -/
def Named (pf : pre0.Contents (Elt F)) (A B : Fin 160 → Fin 16) (n : Fin 161) : Prop := Names (pf 0) (pf 1) (pf 2) A B n

variable (pf : pre0.Contents (Elt F)) (A B : Fin 160 → Fin 16) (n : Fin 161) (hN : Named pf A B n)

/-- The only element of a table of one element. -/
theorem only (h : 0 < S1.numel) : Shape.Idx.first h = ix1 (0 : Fin 1) := by
  funext a
  obtain rfl : a = 0 := Subsingleton.elim _ _
  exact Subsingleton.elim (α := Fin 1) _ _

/-- Where a table is read at a point. -/
theorem place (i : grid0.Coords) : (BitVec.ofNat 32 (i 0).val).toNat = (i 0).val := by
  have hi : (i 0).val < 160 := (i 0).isLt
  simp; omega

include hN in
/-- The tiles in use, as an index map reads them. -/
theorem read_n : pf.at 2 (Rect.unit (s := S1) ![0] S1.size inb_S1_S1_0) numel1_S1 = BitVec.ofNat 32 n.val := by
  refine Eq.trans (congrArg (pf 2) ?_) hN.2.2.2
  show (Rect.unit (s := S1) ![0] S1.size inb_S1_S1_0).emb (Shape.Idx.first _) = ix1 (0 : Fin 1)
  funext a
  obtain rfl : a = 0 := Subsingleton.elim _ _
  exact Subsingleton.elim (α := Fin 1) _ _

/-- The element of a table that a point reads. -/
theorem read_at (i : grid0.Coords) (h : 0 < S1.numel) :
    (Rect.unit (s := S160) ![(Scalar.indexCast (BitVec.ofNat 32 (i 0).val) : Index).toNat] S1.size (k0_off1_inb i)).emb (Shape.Idx.first h) = ix1 (i 0) := by
  funext a
  obtain rfl : a = 0 := Subsingleton.elim _ _
  rw [only]
  refine Fin.ext ?_
  show (BitVec.ofNat 32 (i 0).val).toNat + 1 * 0 = (i 0).val
  rw [place]; omega

include hN in
/-- The rows' block at a point: the point's own while the tile is in use, the last one's afterwards. -/
theorem map_0 (i : grid0.Coords) : cc0_transform_0 inb_S1_S1_0 numel1_S1 pf i = ![min (i 0).val (n.val - 1), 0, 0] := by
  unfold cc0_transform_0
  have hm : ∀ (t : Fin 160) (n : Fin 161), 1 ≤ n.val →
      (Scalar.minsi (BitVec.ofNat 32 t.val) (Scalar.subi (BitVec.ofNat 32 n.val) 1#32)).toNat = min t.val (n.val - 1) := by
    intro t n hn
    have hs : Scalar.subi (BitVec.ofNat 32 n.val) 1#32 = BitVec.ofNat 32 (n.val - 1) := by
      show BitVec.ofNat 32 n.val - 1#32 = _
      apply BitVec.eq_of_toNat_eq
      simp
      omega
    rw [hs]
    unfold Scalar.minsi IntOp.minsi
    rw [BitVec.slt_eq_decide, BitVec.toInt_eq_toNat_of_lt (by simp; omega), BitVec.toInt_eq_toNat_of_lt (by simp; omega)]
    by_cases h : t.val < n.val - 1
    · rw [if_pos (by simp; omega)]; simp; omega
    · rw [if_neg (by simp; omega)]; simp; omega
  refine (congrArg (fun w : BitVec 32 => ![(Scalar.minsi (BitVec.ofNat 32 (i 0).val) (Scalar.subi w 1#32)).toNat, 0, 0]) (read_n pf A B n hN)).trans ?_
  exact congrArg (fun z => ![z, 0, 0]) (hm (i 0) n hN.2.2.1)

include hN in
/-- The first expert's number at a point. -/
theorem read_a (i : grid0.Coords) : pf.at 0 (Rect.unit (s := S160) ![(Scalar.indexCast (BitVec.ofNat 32 (i 0).val) : Index).toNat] S1.size (k0_off1_inb i)) numel1_S1
    = BitVec.ofNat 32 (A (i 0)).val :=
  (congrArg (pf 0) (read_at i _)).trans (hN.1 (i 0))

include hN in
/-- The second expert's number at a point. -/
theorem read_b (i : grid0.Coords) : pf.at 1 (Rect.unit (s := S160) ![(Scalar.indexCast (BitVec.ofNat 32 (i 0).val) : Index).toNat] S1.size (k0_off1_inb i)) numel1_S1
    = BitVec.ofNat 32 (B (i 0)).val :=
  (congrArg (pf 1) (read_at i _)).trans (hN.2.1 (i 0))

/-- An expert's number read back from its word. -/
theorem word_expert (e : Fin 16) : ![(BitVec.ofNat 32 e.val).toNat, 0, 0] = (![e.val, 0, 0] : Fin 3 → ℕ) := by
  rw [BitVec.toNat_ofNat, Nat.mod_eq_of_lt (by omega)]

include hN in
/-- The first expert's gate and up block at a point. -/
theorem map_2 (i : grid0.Coords) : cc0_transform_2 k0_off1_inb numel1_S1 pf i = ![(A (i 0)).val, 0, 0] := by
  unfold cc0_transform_2
  exact (congrArg (fun w : BitVec 32 => ![w.toNat, 0, 0]) (read_a pf A B n hN i)).trans (word_expert _)

include hN in
/-- The second expert's gate and up block at a point. -/
theorem map_3 (i : grid0.Coords) : cc0_transform_3 k0_off1_inb numel1_S1 pf i = ![(B (i 0)).val, 0, 0] := by
  unfold cc0_transform_3
  exact (congrArg (fun w : BitVec 32 => ![w.toNat, 0, 0]) (read_b pf A B n hN i)).trans (word_expert _)

include hN in
/-- The first expert's down block at a point. -/
theorem map_4 (i : grid0.Coords) : cc0_transform_4 k0_off1_inb numel1_S1 pf i = ![(A (i 0)).val, 0, 0] := by
  unfold cc0_transform_4
  exact (congrArg (fun w : BitVec 32 => ![w.toNat, 0, 0]) (read_a pf A B n hN i)).trans (word_expert _)

include hN in
/-- The second expert's down block at a point. -/
theorem map_5 (i : grid0.Coords) : cc0_transform_5 k0_off1_inb numel1_S1 pf i = ![(B (i 0)).val, 0, 0] := by
  unfold cc0_transform_5
  exact (congrArg (fun w : BitVec 32 => ![w.toNat, 0, 0]) (read_b pf A B n hN i)).trans (word_expert _)

/-- A gate and up block lies inside its array, on whole words. -/
theorem block_gate (v : Fin 3 → ℕ) (e : Fin 16) (hv : v = ![e.val, 0, 0]) :
    ∃ h : (∀ a, (v a + 1) * S1x1024x1024.size a ≤ S16x1024x1024.size a), EltTy.bits .bf16 = 32 ∨
      (Rect.block (s := S16x1024x1024) S1x1024x1024.size v h).WholeWords (EltTy.packing .bf16) := by
  subst hv
  refine ⟨fun a => ?_, .inr (Affine.block_words_dvd (of_decide_eq_true rfl) (by decide))⟩
  match a with
  | ⟨0, _⟩ => show (e.val + 1) * 1 ≤ 16; omega
  | ⟨1, _⟩ => exact Nat.le_of_eq (Nat.one_mul _)
  | ⟨2, _⟩ => exact Nat.le_of_eq (Nat.one_mul _)

/-- A down block lies inside its array, on whole words. -/
theorem block_down (v : Fin 3 → ℕ) (e : Fin 16) (hv : v = ![e.val, 0, 0]) :
    ∃ h : (∀ a, (v a + 1) * S1x512x1024.size a ≤ S16x512x1024.size a), EltTy.bits .bf16 = 32 ∨
      (Rect.block (s := S16x512x1024) S1x512x1024.size v h).WholeWords (EltTy.packing .bf16) := by
  subst hv
  refine ⟨fun a => ?_, .inr (Affine.block_words_dvd (of_decide_eq_true rfl) (by decide))⟩
  match a with
  | ⟨0, _⟩ => show (e.val + 1) * 1 ≤ 16; omega
  | ⟨1, _⟩ => exact Nat.le_of_eq (Nat.one_mul _)
  | ⟨2, _⟩ => exact Nat.le_of_eq (Nat.one_mul _)

include hN in
/-- Tables that name experts keep every block inside its array. -/
theorem ok : ok0 pf := by
  refine ⟨fun i => ?_, fun i => block_gate _ _ (map_2 pf A B n hN i), fun i => block_gate _ _ (map_3 pf A B n hN i),
    fun i => block_down _ _ (map_4 pf A B n hN i), fun i => block_down _ _ (map_5 pf A B n hN i)⟩
  rw [map_0 pf A B n hN i]
  refine ⟨fun a => ?_, .inl rfl⟩
  have hi : (i 0).val < 160 := (i 0).isLt
  match a with
  | ⟨0, _⟩ => show (min (i 0).val (n.val - 1) + 1) * 256 ≤ 40960; omega
  | ⟨1, _⟩ => show (0 + 1) * 8 ≤ 8; decide
  | ⟨2, _⟩ => show (0 + 1) * 128 ≤ 128; decide

end Cert.Kernel3Ideal.Ok
-- ==== Proof.Rows3.lean ====
module

public import proofs.«01_k».proof.Proof.Gen.Kernel3Ideal.Skeleton
public import Idealize.ShloMosaic.Lib.Pipeline.ValueKit
public import Idealize.ShloMosaic.Lib.Pointwise

/-! What the experts' call computes of one tile, as vector operations. -/

@[expose] public section

set_option maxRecDepth 16384

noncomputable section

namespace Cert.Kernel3Ideal.Rows

open Cert.Kernel3Ideal.Gen
open Idealize.ShloMosaic Idealize.ShloMosaic.TcCoe Idealize.ShloMosaic.Tactic Idealize.SL.Sem

variable {F : FTy → Type} [FloatOps F]

/-- Column chunk `k` of the rows in the block. -/
def chunk (x0 : Vec F S256x8x128 .f32) (k : Fin 8) : Vec F S256x1x128 .f32 :=
  View.ld x0 (Rect.unit (s := S256x8x128) ![0, k.val, 0] S256x1x128.size (by
    intro a; fin_cases a <;> simp <;> omega))

/-- The rows, their chunks side by side. -/
def rows (x0 : Vec F S256x8x128 .f32) : FVec F S256x1024 .bf16 :=
  k0_pay3 (chunk x0 0) (chunk x0 1) (chunk x0 2) (chunk x0 3) (chunk x0 4) (chunk x0 5) (chunk x0 6) (chunk x0 7)

/-- The router's weights as the body loads them. -/
def router (x1 : Vec F S1024x128 .bf16) : Vec F S1024x128 .bf16 :=
  View.ld x1 (Rect.unit (s := S1024x128) ![0, 0] S1024x128.size inb_S1024x128_S1024x128_0_0)

/-- An expert's gate and up weights as the body loads them. -/
def gateUp (x2 : Vec F S1x1024x1024 .bf16) : Vec F S1x1024x1024 .bf16 :=
  View.ld x2 (Rect.unit (s := S1x1024x1024) ![0, 0, 0] S1x1024x1024.size inb_S1x1024x1024_S1x1024x1024_0_0_0)

/-- An expert's down weights as the body loads them. -/
def downW (x4 : Vec F S1x512x1024 .bf16) : Vec F S1x512x1024 .bf16 :=
  View.ld x4 (Rect.unit (s := S1x512x1024) ![0, 0, 0] S1x512x1024.size inb_S1x512x1024_S1x512x1024_0_0_0)

/-- The scores of the rows for every lane. -/
def scores (x0 : Vec F S256x8x128 .f32) (x1 : Vec F S1024x128 .bf16) : FVec F S256x128 .f32 :=
  k0_pay4 (chunk x0 0) (chunk x0 1) (chunk x0 2) (chunk x0 3) (chunk x0 4) (chunk x0 5) (chunk x0 6) (chunk x0 7) (router x1)

/-- The rows' scores for the first expert, named by the word `wa`. -/
def scoreA (x0 : Vec F S256x8x128 .f32) (x1 : Vec F S1024x128 .bf16) (wa : Elt F .i32) : FVec F S256x1 .f32 :=
  k0_pay5 (chunk x0 0) (chunk x0 1) (chunk x0 2) (chunk x0 3) (chunk x0 4) (chunk x0 5) (chunk x0 6) (chunk x0 7) (router x1) wa

/-- The lanes' numbers. -/
def lanes : IVec S256x128 32 := iota .tc S256x128 32 [1] iota_S256x128_d1_w32

/-- The first expert's part of the tile. -/
def partA (x0 : Vec F S256x8x128 .f32) (x1 : Vec F S1024x128 .bf16) (x2 : Vec F S1x1024x1024 .bf16) (x4 : Vec F S1x512x1024 .bf16)
    (wa wb : Elt F .i32) : FVec F S256x1024 .f32 :=
  k0_pay8 (rows x0) (scores x0 x1) lanes (scoreA x0 x1 wa) wb (gateUp x2) (downW x4)

/-- The second expert's part of the tile. -/
def partB (x0 : Vec F S256x8x128 .f32) (x1 : Vec F S1024x128 .bf16) (x3 : Vec F S1x1024x1024 .bf16) (x5 : Vec F S1x512x1024 .bf16)
    (wa wb : Elt F .i32) : FVec F S256x1024 .f32 :=
  k0_pay9 (rows x0) (scores x0 x1) lanes (scoreA x0 x1 wa) wb (gateUp x3) (downW x5)

/-- Column chunk 0 of a tile, as it is stored. -/
theorem piece_0 (u v : FVec F S256x1024 .f32) (r : Fin 256) (l : Fin 128) :
    k0_pay11 u v (ix3 r 0 l) = k0_pay10 u v (ix2 r ⟨128 * 0 + l.val, by omega⟩) := by
  pointwise [k0_pay11]

/-- Column chunk 1 of a tile, as it is stored. -/
theorem piece_1 (u v : FVec F S256x1024 .f32) (r : Fin 256) (l : Fin 128) :
    k0_pay12 u v (ix3 r 0 l) = k0_pay10 u v (ix2 r ⟨128 * 1 + l.val, by omega⟩) := by
  pointwise [k0_pay12]

/-- Column chunk 2 of a tile, as it is stored. -/
theorem piece_2 (u v : FVec F S256x1024 .f32) (r : Fin 256) (l : Fin 128) :
    k0_pay13 u v (ix3 r 0 l) = k0_pay10 u v (ix2 r ⟨128 * 2 + l.val, by omega⟩) := by
  pointwise [k0_pay13]

/-- Column chunk 3 of a tile, as it is stored. -/
theorem piece_3 (u v : FVec F S256x1024 .f32) (r : Fin 256) (l : Fin 128) :
    k0_pay14 u v (ix3 r 0 l) = k0_pay10 u v (ix2 r ⟨128 * 3 + l.val, by omega⟩) := by
  pointwise [k0_pay14]

/-- Column chunk 4 of a tile, as it is stored. -/
theorem piece_4 (u v : FVec F S256x1024 .f32) (r : Fin 256) (l : Fin 128) :
    k0_pay15 u v (ix3 r 0 l) = k0_pay10 u v (ix2 r ⟨128 * 4 + l.val, by omega⟩) := by
  pointwise [k0_pay15]

/-- Column chunk 5 of a tile, as it is stored. -/
theorem piece_5 (u v : FVec F S256x1024 .f32) (r : Fin 256) (l : Fin 128) :
    k0_pay16 u v (ix3 r 0 l) = k0_pay10 u v (ix2 r ⟨128 * 5 + l.val, by omega⟩) := by
  pointwise [k0_pay16]

/-- Column chunk 6 of a tile, as it is stored. -/
theorem piece_6 (u v : FVec F S256x1024 .f32) (r : Fin 256) (l : Fin 128) :
    k0_pay17 u v (ix3 r 0 l) = k0_pay10 u v (ix2 r ⟨128 * 6 + l.val, by omega⟩) := by
  pointwise [k0_pay17]

/-- Column chunk 7 of a tile, as it is stored. -/
theorem piece_7 (u v : FVec F S256x1024 .f32) (r : Fin 256) (l : Fin 128) :
    k0_pay1 (k0_pay18 u v) (ix3 r 0 l) = k0_pay10 u v (ix2 r ⟨128 * 7 + l.val, by omega⟩) := by
  pointwise [k0_pay1, k0_pay18]

end Cert.Kernel3Ideal.Rows
-- ==== Proof.Tiles3.lean ====
module

public import proofs.«01_k».proof.Proof.Body3
public import Idealize.ShloMosaic.Lib.Pipeline.ValueKit
public import Idealize.ShloMosaic.Lib.Pipeline.ReadBack
public import proofs.«01_k».proof.Proof.Rows3

/-! What one grid point of the experts' call leaves in its output block. -/

@[expose] public section

set_option maxRecDepth 16384

noncomputable section

namespace Cert.Kernel3Ideal.Body

open Cert.Kernel3Ideal.Gen Cert.Kernel3Ideal.Rows
open Idealize.ShloMosaic Idealize.ShloMosaic.TcCoe Idealize.ShloMosaic.Tactic Idealize.SL.Sem

variable {F : FTy → Type} [FloatOps F]

section
variable (c : Dev nD) (i : grid0.Coords)
  (g0 : Memref sig .tc .vmem S256x8x128 .f32) (w0 : g0.IsWhole) (g1 : Memref sig .tc .vmem S1024x128 .bf16) (w1 : g1.IsWhole)
  (g2 : Memref sig .tc .vmem S1x1024x1024 .bf16) (w2 : g2.IsWhole) (g3 : Memref sig .tc .vmem S1x1024x1024 .bf16) (w3 : g3.IsWhole)
  (g4 : Memref sig .tc .vmem S1x512x1024 .bf16) (w4 : g4.IsWhole) (g5 : Memref sig .tc .vmem S1x512x1024 .bf16) (w5 : g5.IsWhole)
  (g6 : Memref sig .tc .vmem S256x8x128 .f32) (w6 : g6.IsWhole)
  (x0 : Vec F S256x8x128 .f32) (x1 : Vec F S1024x128 .bf16) (x2 x3 : Vec F S1x1024x1024 .bf16) (x4 x5 : Vec F S1x512x1024 .bf16)
  (a : Held (F := F) c tabA) (b : Held (F := F) c tabB) (n : Held (F := F) c tabN)

/-- The word of the first expert's table at a point. -/
abbrev wordA : Elt F .i32 := View.readAt (Elt F) tabA.view (Rect.unit (s := S160) (k0_off2 i) S1.size (k0_off2_inb i)).toLoadRect a (Shape.Idx.first (numel1_S1.symm ▸ Nat.one_pos))
/-- The word of the second expert's table at a point. -/
abbrev wordB : Elt F .i32 := View.readAt (Elt F) tabB.view (Rect.unit (s := S160) (k0_off2 i) S1.size (k0_off2_inb i)).toLoadRect b (Shape.Idx.first (numel1_S1.symm ▸ Nat.one_pos))

/-- A tile past the last one in use is left with zeros. -/
theorem outPast_apply (hu : ¬ k0_cond1 i (used c n) = 1#1) (hv : k0_cond2 i (used c n) = 1#1) (y : S256x8x128.Idx) :
    outPast c i g0 w0 g1 w1 g2 w2 g3 w3 g4 w4 g5 w5 g6 w6 x0 x1 x2 x3 x4 x5 a b n hu hv y = Scalar.ofBits .f32 0x00000000#32 := by
  unfold outPast runPast
  simp (disch := decide) only [View.read_writes_junk_eq_canon, View.canon_cons_unit_lit']
  rfl

/-- The first expert's part, as the body computes it. -/
theorem part_A : runUsed.sl.r_6 c i g0 w0 g1 w1 g2 w2 g4 w4 x0 x1 x2 x4 a b = partA x0 x1 x2 x4 (wordA c i a) (wordB c i b) := by
  frame_open
  simp only [View.readAt_eq_ld, Memref.IsWhole.read_unread]
  rfl

/-- The second expert's part, as the body computes it. -/
theorem part_B : runUsed.sl.r_7 c i g0 w0 g1 w1 g3 w3 g5 w5 x0 x1 x3 x5 a b = partB x0 x1 x3 x5 (wordA c i a) (wordB c i b) := by
  frame_open
  simp only [View.readAt_eq_ld, Memref.IsWhole.read_unread]
  rfl

set_option maxHeartbeats 1600000 in
/-- A tile in use is left with the sum of its two experts' parts. -/
theorem outUsed_apply (hu : k0_cond1 i (used c n) = 1#1) (hv : ¬ k0_cond2 i (used c n) = 1#1) (r : Fin 256) (k : Fin 8) (l : Fin 128) (y : S256x8x128.Idx)
   (hy0 : (y 0).val = r.val) (hy1 : (y 1).val = k.val) (hy2 : (y 2).val = l.val) :
    outUsed c i g0 w0 g1 w1 g2 w2 g3 w3 g4 w4 g5 w5 g6 w6 x0 x1 x2 x3 x4 x5 a b n hu hv y
      = k0_pay10 (partA x0 x1 x2 x4 (wordA c i a) (wordB c i b)) (partB x0 x1 x3 x5 (wordA c i a) (wordB c i b))
          (ix2 r ⟨128 * k.val + l.val, by omega⟩) := by
  unfold outUsed runUsed
  simp (disch := decide) only [View.read_writes_junk_eq_canon, View.canon_cons_unit_lit',
        View.ld_unit_lit', View.readCov_unit_lit', View.readCov_cons_unit_lit']
  canon_tiles x hx
  all_goals (try unfold runUsed.sl.r_8)
  all_goals rw [part_A, part_B]
  all_goals
    first
    | (by_cases hh : k = 0; swap; (exfalso; apply hh; apply Fin.ext; omega))
    | (by_cases hh : k = 1; swap; (exfalso; apply hh; apply Fin.ext; omega))
    | (by_cases hh : k = 2; swap; (exfalso; apply hh; apply Fin.ext; omega))
    | (by_cases hh : k = 3; swap; (exfalso; apply hh; apply Fin.ext; omega))
    | (by_cases hh : k = 4; swap; (exfalso; apply hh; apply Fin.ext; omega))
    | (by_cases hh : k = 5; swap; (exfalso; apply hh; apply Fin.ext; omega))
    | (by_cases hh : k = 6; swap; (exfalso; apply hh; apply Fin.ext; omega))
    | (by_cases hh : k = 7; swap; (exfalso; apply hh; apply Fin.ext; omega))
    subst hh
    obtain rfl : x = ix3 r 0 l := (eq_ix3 x).trans (by
      rw [show x 0 = r from Fin.ext (by omega), show x 1 = (0 : Fin 1) from Fin.ext (by show (x 1).val = 0; omega), show x 2 = l from Fin.ext (by omega)])
  · exact piece_7 _ _ r l
  · exact piece_6 _ _ r l
  · exact piece_5 _ _ r l
  · exact piece_4 _ _ r l
  · exact piece_3 _ _ r l
  · exact piece_2 _ _ r l
  · exact piece_1 _ _ r l
  · exact piece_0 _ _ r l
end
end Cert.Kernel3Ideal.Body
-- ==== Proof.Vals3.lean ====
module

public import proofs.«01_k».proof.Proof.Rows3
public import Idealize.ShloMosaic.Lib.WordCmp

/-! The value of a tile of the experts' call at an index: the two experts' products, each weighted by its share of the two scores. -/

@[expose] public section

set_option maxRecDepth 16384

noncomputable section

namespace Cert.Kernel3Ideal.Rows

open Cert.Kernel3Ideal.Gen
open Idealize.ShloMosaic Idealize.ShloMosaic.TcCoe Idealize.ShloMosaic.Tactic Idealize.SL.Sem

/-- Element `d` of row `r` of the block. -/
def rowAt (x0 : Vec Ideal S256x8x128 .f32) (r : Fin 256) (d : Fin 1024) : EReal :=
  x0 (ix3 r ⟨d.val / 128, by omega⟩ ⟨d.val % 128, by omega⟩)

/-- The score of row `r` for the expert of lane `l`. -/
def scoreAt (x0 : Vec Ideal S256x8x128 .f32) (x1 : Vec Ideal S1024x128 .bf16) (r : Fin 256) (l : Fin 128) : EReal :=
  Ideal.logistic (∑ d : Fin 1024, rowAt x0 r d * x1 (ix2 d l))

/-- What an expert feeds its down product. -/
def actAt (x0 : Vec Ideal S256x8x128 .f32) (x2 : Vec Ideal S1x1024x1024 .bf16) (r : Fin 256) (f : Fin 512) : EReal :=
  (∑ d : Fin 1024, rowAt x0 r d * x2 (ix3 0 d ⟨f.val, by omega⟩))
    * Ideal.logistic (∑ d : Fin 1024, rowAt x0 r d * x2 (ix3 0 d ⟨f.val, by omega⟩))
    * ∑ d : Fin 1024, rowAt x0 r d * x2 (ix3 0 d ⟨512 + f.val, by omega⟩)

/-- A column chunk is the block's. -/
theorem chunk_apply (x0 : Vec Ideal S256x8x128 .f32) (k : Fin 8) (r : Fin 256) (l : Fin 128) :
    chunk x0 k (ix3 r 0 l) = x0 (ix3 r k l) := by
  unfold chunk
  rw [View.ld_unit_apply_of _ _ _ _ _ (ix3 r k l) (by intro a; fin_cases a <;> simp [ix3])]

/-- The router's weights are loaded whole. -/
theorem router_eq (x1 : Vec Ideal S1024x128 .bf16) : router x1 = x1 := by
  funext i
  unfold router
  rw [View.ld_unit_apply_of _ _ _ _ _ i (by intro a; fin_cases a <;> simp)]

/-- The gate and up weights are loaded whole. -/
theorem gateUp_eq (x2 : Vec Ideal S1x1024x1024 .bf16) : gateUp x2 = x2 := by
  funext i
  unfold gateUp
  rw [View.ld_unit_apply_of _ _ _ _ _ i (by intro a; fin_cases a <;> simp)]

/-- The down weights are loaded whole. -/
theorem downW_eq (x4 : Vec Ideal S1x512x1024 .bf16) : downW x4 = x4 := by
  funext i
  unfold downW
  rw [View.ld_unit_apply_of _ _ _ _ _ i (by intro a; fin_cases a <;> simp)]

/-- The rows at an index. -/
theorem rows_apply (x0 : Vec Ideal S256x8x128 .f32) (r : Fin 256) (d : Fin 1024) : rows x0 (ix2 r d) = rowAt x0 r d := by
  have key : ∀ (k : Fin 8) (e : Fin 128), d.val = 128 * k.val + e.val → chunk x0 k (ix3 r 0 e) = rowAt x0 r d := by
    intro k e h
    rw [chunk_apply]
    exact congrArg₂ (fun k e => x0 (ix3 r k e)) (Fin.ext (by simp only; omega)) (Fin.ext (by simp only; omega))
  pointwise [rows, k0_pay3]
  split_ifs <;> exact key _ _ (by simp <;> omega)

/-- The scores at an index. -/
theorem scores_apply (x0 : Vec Ideal S256x8x128 .f32) (x1 : Vec Ideal S1024x128 .bf16) (r : Fin 256) (l : Fin 128) :
    scores x0 x1 (ix2 r l) = scoreAt x0 x1 r l := by
  refine Eq.trans (?_ : _ = Ideal.logistic (∑ d : Fin 1024, rows x0 (ix2 r d) * x1 (ix2 d l))) ?_
  · unfold scores
    rw [router_eq]
    unfold rows
    generalize chunk x0 0 = y0
    generalize chunk x0 1 = y1
    generalize chunk x0 2 = y2
    generalize chunk x0 3 = y3
    generalize chunk x0 4 = y4
    generalize chunk x0 5 = y5
    generalize chunk x0 6 = y6
    generalize chunk x0 7 = y7
    unfold k0_pay4
    generalize k0_pay3 y0 y1 y2 y3 y4 y5 y6 y7 = R
    pointwise []
  · simp only [rows_apply]
    rfl

/-- A lane picked by its number, out of a sum over the lanes. -/
theorem pick (w : BitVec 32) (e : Fin 128) (hw : w = BitVec.ofNat 32 e.val) (f : Fin 128 → EReal) :
    ∑ l : Fin 128, Scalar.select (IntOp.cmpi .eq (BitVec.ofNat 32 l.val) w) (f l) 0 = f e := by
  refine (Finset.sum_eq_single e (fun l _ hl => ?_) (fun h => absurd (Finset.mem_univ e) h)).trans ?_
  · have hne : ¬ (BitVec.ofNat 32 l.val = w) := by
      rw [hw]; intro h; apply hl
      have := congrArg BitVec.toNat h
      simp only [BitVec.toNat_ofNat] at this
      exact Fin.ext (by omega)
    have h0 : ¬ (IntOp.cmpi .eq (BitVec.ofNat 32 l.val) w = 1) := by
      unfold IntOp.cmpi
      simp only [beq_eq_false_iff_ne.mpr hne]
      decide
    unfold Scalar.select
    rw [if_neg h0]
  · have h1 : IntOp.cmpi .eq (BitVec.ofNat 32 e.val) w = 1 := by
      unfold IntOp.cmpi
      simp only [hw, beq_self_eq_true]
      decide
    unfold Scalar.select
    rw [if_pos h1]

/-- The first expert's score of a row. -/
theorem scoreA_apply (x0 : Vec Ideal S256x8x128 .f32) (x1 : Vec Ideal S1024x128 .bf16) (w : Elt Ideal .i32) (e : Fin 128)
    (hw : w = BitVec.ofNat 32 e.val) (r : Fin 256) : scoreA x0 x1 w (ix2 r 0) = scoreAt x0 x1 r e := by
  rw [← scores_apply]
  unfold scoreA scores
  generalize chunk x0 0 = y0
  generalize chunk x0 1 = y1
  generalize chunk x0 2 = y2
  generalize chunk x0 3 = y3
  generalize chunk x0 4 = y4
  generalize chunk x0 5 = y5
  generalize chunk x0 6 = y6
  generalize chunk x0 7 = y7
  unfold k0_pay5
  generalize k0_pay4 y0 y1 y2 y3 y4 y5 y6 y7 (router x1) = R
  pointwise []
  exact pick w e hw fun l => R (ix2 r l)

/-- The second expert's score of a row. -/
theorem pay6_apply (v29 : FVec Ideal S256x128 .f32) (w : Elt Ideal .i32) (e : Fin 128) (hw : w = BitVec.ofNat 32 e.val) (r : Fin 256) :
    k0_pay6 v29 lanes w (ix2 r 0) = v29 (ix2 r e) := by
  pointwise [k0_pay6, lanes]
  exact pick w e hw fun l => v29 (ix2 r l)

/-- The reciprocal of the two scores' sum. -/
theorem pay7_apply (v29 : FVec Ideal S256x128 .f32) (v38 : FVec Ideal S256x1 .f32) (w : Elt Ideal .i32) (r : Fin 256) :
    k0_pay7 v29 lanes v38 w (ix2 r 0) = Ideal.div 1 (v38 (ix2 r 0) + k0_pay6 v29 lanes w (ix2 r 0)) := by
  pointwise [k0_pay7]

/-- The first expert's part at an index. -/
theorem pay8_apply (v25 : FVec Ideal S256x1024 .bf16) (v29 : FVec Ideal S256x128 .f32) (v38 : FVec Ideal S256x1 .f32) (w : Elt Ideal .i32)
    (v51 : Vec Ideal S1x1024x1024 .bf16) (v62 : Vec Ideal S1x512x1024 .bf16) (r : Fin 256) (j : Fin 1024) :
    k0_pay8 v25 v29 lanes v38 w v51 v62 (ix2 r j) =
      ∑ f : Fin 512, (∑ d : Fin 1024, v25 (ix2 r d) * v51 (ix3 0 d ⟨f.val, by omega⟩))
          * Ideal.logistic (∑ d : Fin 1024, v25 (ix2 r d) * v51 (ix3 0 d ⟨f.val, by omega⟩))
        * (∑ d : Fin 1024, v25 (ix2 r d) * v51 (ix3 0 d ⟨512 + f.val, by omega⟩))
        * (v38 (ix2 r 0) * k0_pay7 v29 lanes v38 w (ix2 r 0)) * v62 (ix3 0 f j) := by
  pointwise [k0_pay8]

/-- The second expert's part at an index. -/
theorem pay9_apply (v25 : FVec Ideal S256x1024 .bf16) (v29 : FVec Ideal S256x128 .f32) (v38 : FVec Ideal S256x1 .f32) (w : Elt Ideal .i32)
    (v51 : Vec Ideal S1x1024x1024 .bf16) (v62 : Vec Ideal S1x512x1024 .bf16) (r : Fin 256) (j : Fin 1024) :
    k0_pay9 v25 v29 lanes v38 w v51 v62 (ix2 r j) =
      ∑ f : Fin 512, (∑ d : Fin 1024, v25 (ix2 r d) * v51 (ix3 0 d ⟨f.val, by omega⟩))
          * Ideal.logistic (∑ d : Fin 1024, v25 (ix2 r d) * v51 (ix3 0 d ⟨f.val, by omega⟩))
        * (∑ d : Fin 1024, v25 (ix2 r d) * v51 (ix3 0 d ⟨512 + f.val, by omega⟩))
        * (k0_pay6 v29 lanes w (ix2 r 0) * k0_pay7 v29 lanes v38 w (ix2 r 0)) * v62 (ix3 0 f j) := by
  pointwise [k0_pay9]

/-- A tile at an index: the two experts' products, each weighted by its share of the two scores. -/
theorem tile_apply (x0 : Vec Ideal S256x8x128 .f32) (x1 : Vec Ideal S1024x128 .bf16) (x2 x3 : Vec Ideal S1x1024x1024 .bf16)
    (x4 x5 : Vec Ideal S1x512x1024 .bf16) (wa wb : Elt Ideal .i32) (a b : Fin 128) (ha : wa = BitVec.ofNat 32 a.val)
    (hb : wb = BitVec.ofNat 32 b.val) (r : Fin 256) (j : Fin 1024) :
    k0_pay10 (partA x0 x1 x2 x4 wa wb) (partB x0 x1 x3 x5 wa wb) (ix2 r j)
      = (∑ f : Fin 512, actAt x0 x2 r f * (scoreAt x0 x1 r a * Ideal.div 1 (scoreAt x0 x1 r a + scoreAt x0 x1 r b)) * x4 (ix3 0 f j))
        + ∑ f : Fin 512, actAt x0 x3 r f * (scoreAt x0 x1 r b * Ideal.div 1 (scoreAt x0 x1 r a + scoreAt x0 x1 r b)) * x5 (ix3 0 f j) := by
  unfold k0_pay10
  show partA x0 x1 x2 x4 wa wb (ix2 r j) + partB x0 x1 x3 x5 wa wb (ix2 r j) = _
  unfold partA partB
  rw [pay8_apply, pay9_apply, pay7_apply, pay6_apply _ wb b hb, scoreA_apply x0 x1 wa a ha, scores_apply]
  simp only [rows_apply, gateUp_eq, downW_eq]
  rfl

end Cert.Kernel3Ideal.Rows
-- ==== Proof.Mix3.lean ====
module

public import proofs.«01_k».proof.Proof.Softmax

/-! Mixing experts: the two chosen experts' results, weighted by their scores over the sum of the two, are the weighted sum over
all sixteen experts in which each expert not chosen has the weight zero. -/

@[expose] public section

noncomputable section

namespace Cert.Mix3

open Idealize.ShloMosaic

/-- A number that is not `e` counts nothing, the number `e` once. -/
def hot (a e : Fin 16) : EReal := if a = e then 1 else 0

/-- The two scores' shares, the gate taken from the reciprocal of the sum, within an expert's product. -/
def chosen (s : Fin 16 → EReal) (A : Fin 16 → Fin 512 → EReal) (D : Fin 16 → Fin 512 → EReal) (a b : Fin 16) : EReal :=
  (∑ f, A a f * (s a * Ideal.div 1 (s a + s b)) * D a f) + ∑ f, A b f * (s b * Ideal.div 1 (s a + s b)) * D b f

/-- Every expert's product times its share of the two scores. -/
def dense (s : Fin 16 → EReal) (A : Fin 16 → Fin 512 → EReal) (D : Fin 16 → Fin 512 → EReal) (a b : Fin 16) : EReal :=
  ∑ e, (hot a e * Ideal.div (s a) (s a + s b) + hot b e * Ideal.div (s b) (s a + s b)) * ∑ f, A e f * D e f

/-- A score that is a positive real has a share that is a real between zero and plus infinity. -/
theorem share (p q : ℝ) (hp : 0 < p) (hq : 0 < q) : ∃ g : ℝ, 0 ≤ g
    ∧ (p : EReal) * Ideal.div 1 ((p : EReal) + q) = g ∧ Ideal.div (p : EReal) ((p : EReal) + q) = g := by
  refine ⟨p * (1 / (p + q)), by positivity, ?_, ?_⟩
  · rw [← EReal.coe_add, Ideal.div_coe (by positivity), one_mul, ← EReal.coe_mul]
  · rw [← EReal.coe_add, Ideal.div_coe (by positivity), ← EReal.coe_mul]

/-- A real weight goes through an expert's product. -/
theorem through (g : ℝ) (hg : 0 ≤ g) (A D : Fin 512 → EReal) : (∑ f, A f * (g : EReal) * D f) = (g : EReal) * ∑ f, A f * D f := by
  rw [mul_comm, Softmax.sum_mul_coe _ hg]
  exact Finset.sum_congr rfl fun f _ => by rw [mul_assoc, mul_assoc, mul_comm (D f)]

/-- A weight on one expert, summed over all of them. -/
theorem one_hot (g : ℝ) (a : Fin 16) (S : Fin 16 → EReal) : ∑ e, hot a e * (g : EReal) * S e = (g : EReal) * S a := by
  refine (Finset.sum_eq_single a (fun e _ he => ?_) (fun h => absurd (Finset.mem_univ a) h)).trans ?_
  · unfold hot; rw [if_neg (Ne.symm he), zero_mul, zero_mul]
  · unfold hot; rw [if_pos rfl, one_mul]

/-- With positive real scores, mixing the two chosen experts is mixing all sixteen. -/
theorem chosen_eq_dense (s : Fin 16 → EReal) (A D : Fin 16 → Fin 512 → EReal) (a b : Fin 16)
    (ha : ∃ p : ℝ, 0 < p ∧ s a = p) (hb : ∃ q : ℝ, 0 < q ∧ s b = q) : chosen s A D a b = dense s A D a b := by
  obtain ⟨p, hp, hsa⟩ := ha
  obtain ⟨q, hq, hsb⟩ := hb
  obtain ⟨g, hg, hg1, hg2⟩ := share p q hp hq
  obtain ⟨k, hk, hk1, hk2⟩ := share q p hq hp
  unfold chosen dense
  rw [hsa, hsb, hg1, hg2, add_comm (p : EReal) q, hk1, hk2, through g hg, through k hk, ← one_hot g a (fun e => ∑ f, A e f * D e f),
    ← one_hot k b (fun e => ∑ f, A e f * D e f), ← Finset.sum_add_distrib]
  refine Finset.sum_congr rfl fun e _ => ?_
  have h : ∀ (c : Fin 16) (r : ℝ), 0 ≤ r → 0 ≤ hot c e * (r : EReal) := by
    intro c r hr
    unfold hot
    split
    · rw [one_mul]; exact_mod_cast hr
    · rw [zero_mul]
  rw [EReal.right_distrib_of_nonneg (h a g hg) (h b k hk)]

/-- The logistic function of a real number is a positive real. -/
theorem logistic_real (x : EReal) (h : ∃ r : ℝ, x = r) : ∃ p : ℝ, 0 < p ∧ Ideal.logistic x = p := by
  obtain ⟨r, rfl⟩ := h
  exact ⟨(1 + Real.exp (-r))⁻¹, by positivity, by simp⟩

/-- A sum of products of reals is real. -/
theorem dot_real {N : ℕ} (x y : Fin N → EReal) (hx : ∀ d, ∃ r : ℝ, x d = r) (hy : ∀ d, ∃ r : ℝ, y d = r) :
    ∃ r : ℝ, ∑ d, x d * y d = r := by
  choose u hu using hx
  choose v hv using hy
  refine ⟨∑ d, u d * v d, ?_⟩
  rw [Softmax.coe_sum]
  exact Finset.sum_congr rfl fun d _ => by rw [hu, hv, EReal.coe_mul]

end Cert.Mix3
-- ==== Proof.Array3.lean ====
module

public import proofs.«01_k».proof.Proof.Tables3
public import proofs.«01_k».proof.Proof.Tiles3
public import proofs.«01_k».proof.Proof.Vals3
public import proofs.«01_k».proof.Proof.Mix3
public import Idealize.ShloMosaic.Lib.Pipeline.ValueKit

/-! The result array of the experts' call: each tile in use holds its rows' mixes of the two experts the tables name, and
the tiles past the last one in use hold zeros. -/

@[expose] public section

set_option maxRecDepth 16384

noncomputable section

namespace Cert.Kernel3Ideal.Array

open Idealize.ShloMosaic Idealize.ShloMosaic.TcCoe Idealize.ShloMosaic.Tactic Idealize.SL.Sem
open Cert.Kernel3Ideal.Gen Cert.Kernel3Ideal.Run Cert.Kernel3Ideal.Body Cert.Kernel3Ideal.Ok Cert.Kernel3Ideal.Rows

/-- A point's coordinate is its number. -/
theorem coord (t : Fin grid0.N) : (grid0.coords t 0).val = t.val := (by decide +kernel : ∀ t : Fin grid0.N, (grid0.coords t 0).val = t.val) t

section

variable (m : (ℓ : Loc nD τ sig) → Buf (Elt Ideal) ℓ) (hO : Run.Ok m) (c : Dev nD) (t : Fin (call m hO).N)

/-- The rows of a tile in use. -/
theorem rows_at (he : ((call m hO).win 0).index t = ![t.val, 0, 0]) (r : Fin 256) (k : Fin 8) (l : Fin 128) (p : Fin 40960)
    (hp : p.val = 256 * t.val + r.val) :
    blk m hO c 0 t (ix3 r k l) = V m c main_v5 (ix3 p k l) := by
  blk_simp [blk]
  refine congrArg (V m c main_v5) ?_
  blk_ext [he]

/-- The router's weights. -/
theorem router_at (he : ((call m hO).win 1).index t = ![0, 0]) (d : Fin 1024) (l : Fin 128) :
    blk m hO c 1 t (ix2 d l) = V m c main_v2 (ix2 d l) := by
  blk_simp [blk]
  refine congrArg (V m c main_v2) ?_
  blk_ext [he]

/-- The first expert's gate and up weights. -/
theorem gate_a (e : Fin 16) (he : ((call m hO).win 2).index t = ![e.val, 0, 0]) (d f : Fin 1024) :
    blk m hO c 2 t (ix3 0 d f) = V m c main_v4 (ix3 e d f) := by
  blk_simp [blk]
  refine congrArg (V m c main_v4) ?_
  blk_ext [he]

/-- The second expert's gate and up weights. -/
theorem gate_b (e : Fin 16) (he : ((call m hO).win 3).index t = ![e.val, 0, 0]) (d f : Fin 1024) :
    blk m hO c 3 t (ix3 0 d f) = V m c main_v4 (ix3 e d f) := by
  blk_simp [blk]
  refine congrArg (V m c main_v4) ?_
  blk_ext [he]

/-- The first expert's down weights. -/
theorem down_a (e : Fin 16) (he : ((call m hO).win 4).index t = ![e.val, 0, 0]) (d : Fin 512) (f : Fin 1024) :
    blk m hO c 4 t (ix3 0 d f) = V m c main_v6 (ix3 e d f) := by
  blk_simp [blk]
  refine congrArg (V m c main_v6) ?_
  blk_ext [he]

/-- The second expert's down weights. -/
theorem down_b (e : Fin 16) (he : ((call m hO).win 5).index t = ![e.val, 0, 0]) (d : Fin 512) (f : Fin 1024) :
    blk m hO c 5 t (ix3 0 d f) = V m c main_v6 (ix3 e d f) := by
  blk_simp [blk]
  refine congrArg (V m c main_v6) ?_
  blk_ext [he]

/-- Where a point's output block lies. -/
theorem spot (he : ((call m hO).win 6).index t = ![t.val, 0, 0]) (y : S256x8x128.Idx) (i : S40960x8x128.Idx)
    (hi : i = (((call m hO).win 6).blk t).view.emb y) :
    (i 0).val = 256 * t.val + (y 0).val ∧ (i 1).val = (y 1).val ∧ (i 2).val = (y 2).val := by
  refine ⟨?_, ?_, ?_⟩
  · rw [hi]; blk_simp [he]; omega
  · rw [hi]; blk_simp [he]
  · rw [hi]; blk_simp [he]

end

/-- Column `d` of row `p` of the rows as the host lays them out. -/
abbrev rowK (X : Vec Ideal S40960x8x128 .f32) (p : Fin 40960) (d : Fin 1024) : EReal := X (ix3 p ⟨d.val / 128, by omega⟩ ⟨d.val % 128, by omega⟩)

/-- A row's score for an expert. -/
def scoreK (X : Vec Ideal S40960x8x128 .f32) (R : Vec Ideal S1024x128 .bf16) (p : Fin 40960) (e : Fin 16) : EReal :=
  Ideal.logistic (∑ d : Fin 1024, rowK X p d * R (ix2 d ⟨e.val, by omega⟩))

/-- An expert's activation in a row. -/
def actK (X : Vec Ideal S40960x8x128 .f32) (G : Vec Ideal S16x1024x1024 .bf16) (p : Fin 40960) (e : Fin 16) (f : Fin 512) : EReal :=
  (∑ d : Fin 1024, rowK X p d * G (ix3 e d ⟨f.val, by omega⟩)) * Ideal.logistic (∑ d : Fin 1024, rowK X p d * G (ix3 e d ⟨f.val, by omega⟩))
    * ∑ d : Fin 1024, rowK X p d * G (ix3 e d ⟨512 + f.val, by omega⟩)

/-- The array of the rows' mixes: zero past the last tile in use. -/
def result (X : Vec Ideal S40960x8x128 .f32) (R : Vec Ideal S1024x128 .bf16) (G : Vec Ideal S16x1024x1024 .bf16)
    (W : Vec Ideal S16x512x1024 .bf16) (A B : Fin 160 → Fin 16) (n : Fin 161) : Vec Ideal S40960x8x128 .f32 := fun i =>
  if (i 0).val / 256 < n.val then
    Mix3.chosen (scoreK X R (i 0)) (actK X G (i 0))
      (fun e f => W (ix3 e f ⟨128 * (i 1).val + (i 2).val, by
        have h1 : (i 1).val < 8 := (i 1).isLt
        have h2 : (i 2).val < 128 := (i 2).isLt
        omega⟩))
      (A ⟨(i 0).val / 256, by have h0 : (i 0).val < 40960 := (i 0).isLt; omega⟩) (B ⟨(i 0).val / 256, by have h0 : (i 0).val < 40960 := (i 0).isLt; omega⟩)
  else 0

variable (m : (ℓ : Loc nD τ sig) → Buf (Elt Ideal) ℓ) (hO : Run.Ok m) (A B : Fin 160 → Fin 16) (n : Fin 161)
  (hN : Named (tab m) A B n)

/-- A point as a tile. -/
abbrev tile (t : Fin (call m hO).N) : Fin 160 := ⟨t.val, t.isLt⟩

/-- A point's coordinate as a tile. -/
theorem coord_tile (t : Fin (call m hO).N) : (grid0.coords t 0) = tile m hO t := Fin.ext (coord t)

include hN in
/-- The block of rows of a point. -/
theorem e0 (t : Fin (call m hO).N) : ((call m hO).win 0).index t = ![min t.val (n.val - 1), 0, 0] := by
  have h := map_0 (tab m) A B n hN (grid0.coords t)
  rw [coord t] at h
  exact h

/-- The router's weights are one block. -/
theorem e1 (t : Fin (call m hO).N) : ((call m hO).win 1).index t = ![0, 0] := rfl

include hN in
/-- The first expert's gate and up block. -/
theorem e2 (t : Fin (call m hO).N) : ((call m hO).win 2).index t = ![(A (tile m hO t)).val, 0, 0] := by
  have h := map_2 (tab m) A B n hN (grid0.coords t)
  rw [coord_tile] at h
  exact h

include hN in
/-- The second expert's gate and up block. -/
theorem e3 (t : Fin (call m hO).N) : ((call m hO).win 3).index t = ![(B (tile m hO t)).val, 0, 0] := by
  have h := map_3 (tab m) A B n hN (grid0.coords t)
  rw [coord_tile] at h
  exact h

include hN in
/-- The first expert's down block. -/
theorem e4 (t : Fin (call m hO).N) : ((call m hO).win 4).index t = ![(A (tile m hO t)).val, 0, 0] := by
  have h := map_4 (tab m) A B n hN (grid0.coords t)
  rw [coord_tile] at h
  exact h

include hN in
/-- The second expert's down block. -/
theorem e5 (t : Fin (call m hO).N) : ((call m hO).win 5).index t = ![(B (tile m hO t)).val, 0, 0] := by
  have h := map_5 (tab m) A B n hN (grid0.coords t)
  rw [coord_tile] at h
  exact h

/-- The output block of a point: its rows. -/
theorem e6 (t : Fin (call m hO).N) : ((call m hO).win 6).index t = ![t.val, 0, 0] := by
  have h : ∀ t : Fin grid0.N, cc0_transform_6 (grid0.coords t) = ![t.val, 0, 0] := by decide +kernel
  exact h t

include hN in
/-- The first expert's number, as the body reads it. -/
theorem word_a (c : Dev nD) (t : Fin (call m hO).N) : wordA c (grid0.coords t) (tab m 0) = BitVec.ofNat 32 (A (tile m hO t)).val := by
  have h := read_a (tab m) A B n hN (grid0.coords t)
  exact h.trans (congrArg (fun e => BitVec.ofNat 32 (A e).val) (coord_tile m hO t))

include hN in
/-- The second expert's number, as the body reads it. -/
theorem word_b (c : Dev nD) (t : Fin (call m hO).N) : wordB c (grid0.coords t) (tab m 1) = BitVec.ofNat 32 (B (tile m hO t)).val := by
  have h := read_b (tab m) A B n hN (grid0.coords t)
  exact h.trans (congrArg (fun e => BitVec.ofNat 32 (B e).val) (coord_tile m hO t))

include hN in
/-- Whether the body finds a tile in use. -/
theorem in_use (c : Dev nD) (t : Fin (call m hO).N) : k0_cond1 (grid0.coords t) (used c (tab m 2)) = 1#1 ↔ t.val < n.val := by
  have hu : used c (tab m 2) = BitVec.ofNat 32 n.val := read_n (tab m) A B n hN
  have hb : ∀ b : Bool, Scalar.cmpi .ne (Scalar.extui (BitVec.ofBool b) : BitVec 32) 0#32 = 1#1 ↔ b = true := by decide
  have hk : k0_cond1 (grid0.coords t) (BitVec.ofNat 32 n.val) = 1#1 ↔ (BitVec.ofNat 32 (grid0.coords t 0).val).slt (BitVec.ofNat 32 n.val) = true := hb _
  have ht : t.val < 160 := t.isLt
  rw [hu, hk, coord t, BitVec.slt_eq_decide, BitVec.toInt_eq_toNat_of_lt (by simp; omega), BitVec.toInt_eq_toNat_of_lt (by simp; omega), decide_eq_true_eq]
  simp
  omega

include hN in
/-- A used tile reads its own rows. -/
theorem row_eq (c : Dev nD) (t : Fin (call m hO).N) (hu : t.val < n.val) (r : Fin 256) (p : Fin 40960) (hp : p.val = 256 * t.val + r.val)
    (d : Fin 1024) : rowAt (blk m hO c 0 t) r d = rowK (V m c main_v5) p d := by
  have he : ((call m hO).win 0).index t = ![t.val, 0, 0] := by
    rw [e0 m hO A B n hN t, Nat.min_eq_left (by omega)]
  exact rows_at m hO c t he r _ _ p hp

include hN in
/-- A used tile's scores are its rows'. -/
theorem score_eq (c : Dev nD) (t : Fin (call m hO).N) (hu : t.val < n.val) (r : Fin 256) (p : Fin 40960) (hp : p.val = 256 * t.val + r.val)
    (e : Fin 16) : scoreAt (blk m hO c 0 t) (blk m hO c 1 t) r ⟨e.val, by omega⟩ = scoreK (V m c main_v5) (V m c main_v2) p e := by
  unfold scoreAt scoreK
  refine congrArg Ideal.logistic (Finset.sum_congr rfl fun d _ => ?_)
  rw [row_eq m hO A B n hN c t hu r p hp d, router_at m hO c t (e1 m hO t)]

include hN in
/-- A used tile's activations of its first expert are its rows'. -/
theorem act_a (c : Dev nD) (t : Fin (call m hO).N) (hu : t.val < n.val) (r : Fin 256) (p : Fin 40960) (hp : p.val = 256 * t.val + r.val)
    (f : Fin 512) : actAt (blk m hO c 0 t) (blk m hO c 2 t) r f = actK (V m c main_v5) (V m c main_v4) p (A (tile m hO t)) f := by
  unfold actAt actK
  simp only [row_eq m hO A B n hN c t hu r p hp, gate_a m hO c t _ (e2 m hO A B n hN t)]

include hN in
/-- A used tile's activations of its second expert are its rows'. -/
theorem act_b (c : Dev nD) (t : Fin (call m hO).N) (hu : t.val < n.val) (r : Fin 256) (p : Fin 40960) (hp : p.val = 256 * t.val + r.val)
    (f : Fin 512) : actAt (blk m hO c 0 t) (blk m hO c 3 t) r f = actK (V m c main_v5) (V m c main_v4) p (B (tile m hO t)) f := by
  unfold actAt actK
  simp only [row_eq m hO A B n hN c t hu r p hp, gate_b m hO c t _ (e3 m hO A B n hN t)]

include hN in
/-- What a used tile's products are. -/
theorem used_eq (c : Dev nD) (t : Fin (call m hO).N) (hu : t.val < n.val) (r : Fin 256) (p : Fin 40960) (hp : p.val = 256 * t.val + r.val)
    (j : Fin 1024) :
    k0_pay10
        (partA (blk m hO c 0 t) (blk m hO c 1 t) (blk m hO c 2 t) (blk m hO c 4 t) (wordA c (grid0.coords t) (tab m 0)) (wordB c (grid0.coords t) (tab m 1)))
        (partB (blk m hO c 0 t) (blk m hO c 1 t) (blk m hO c 3 t) (blk m hO c 5 t) (wordA c (grid0.coords t) (tab m 0)) (wordB c (grid0.coords t) (tab m 1)))
        (ix2 r j)
      = Mix3.chosen (scoreK (V m c main_v5) (V m c main_v2) p) (actK (V m c main_v5) (V m c main_v4) p)
          (fun e f => V m c main_v6 (ix3 e f j)) (A (tile m hO t)) (B (tile m hO t)) := by
  refine (tile_apply _ _ _ _ _ _ _ _ ⟨(A (tile m hO t)).val, by omega⟩ ⟨(B (tile m hO t)).val, by omega⟩
    (word_a m hO A B n hN c t) (word_b m hO A B n hN c t) r j).trans ?_
  unfold Mix3.chosen
  rw [score_eq m hO A B n hN c t hu r p hp, score_eq m hO A B n hN c t hu r p hp]
  refine congrArg₂ (· + ·) (Finset.sum_congr rfl fun f _ => ?_) (Finset.sum_congr rfl fun f _ => ?_)
  · rw [act_a m hO A B n hN c t hu r p hp, down_a m hO c t _ (e4 m hO A B n hN t)]
  · rw [act_b m hO A B n hN c t hu r p hp, down_b m hO c t _ (e5 m hO A B n hN t)]

/-- The written blocks cover the result array. -/
theorem covers : ((call m hO).win 6).Covers := by
  refine ⟨(by decide : ∀ a : Fin 3, 0 < S256x8x128.size a), fun β => ?_⟩
  have h0 := (β (0 : Fin 3)).isLt
  have h1 := (β (1 : Fin 3)).isLt
  have h2 := (β (2 : Fin 3)).isLt
  change _ < (40960 + 256 - 1) / 256 at h0
  change _ < (8 + 8 - 1) / 8 at h1
  change _ < (128 + 128 - 1) / 128 at h2
  refine ⟨⟨(β (0 : Fin 3)).val, h0⟩, flush_out m hO _, fun a => ⟨?_, Or.inl rfl⟩⟩
  rw [e6]
  match a with
  | ⟨0, _⟩ => rfl
  | ⟨1, _⟩ => show 0 = (β (1 : Fin 3)).val; omega
  | ⟨2, _⟩ => show 0 = (β (2 : Fin 3)).val; omega

include hN in
/-- The call's result array. -/
theorem arr_result (c : Dev nD) : (dats m hO 0 c).arrAt 6 (call m hO).N
    = result (V m c main_v5) (V m c main_v2) (V m c main_v4) (V m c main_v6) A B n := by
  refine (dats m hO 0 c).arrAt_eq_of_covers 6 _ (covers m hO) fun t hf (y : S256x8x128.Idx) => ?_
  blk_simp
  rw [after_6]
  generalize hi : (((call m hO).win 6).blk t).view.emb y = i
  change S40960x8x128.Idx at i
  have hy0 : (y 0).val < 256 := (y 0).isLt
  have hy1 : (y 1).val < 8 := (y 1).isLt
  have hy2 : (y 2).val < 128 := (y 2).isLt
  have ht : t.val < 160 := t.isLt
  obtain ⟨hi0, hi1, hi2⟩ := spot m hO t (e6 m hO t) y i hi.symm
  have hq : (i 0).val / 256 = t.val := by omega
  have hT : (⟨(i 0).val / 256, by omega⟩ : Fin 160) = tile m hO t := Fin.ext hq
  unfold outBlk out result
  by_cases hu : t.val < n.val
  · rw [dif_pos ((in_use m hO A B n hN c t).mpr hu), if_pos (by rw [hq]; exact hu)]
    refine (outUsed_apply _ _ _ _ _ _ _ _ _ _ _ _ _ _ _ _ _ _ _ _ _ _ _ _ _ _ _ ⟨(y 0).val, hy0⟩ ⟨(y 1).val, hy1⟩ ⟨(y 2).val, hy2⟩ y rfl rfl rfl).trans ?_
    refine (used_eq m hO A B n hN c t hu ⟨(y 0).val, hy0⟩ (i 0) hi0 _).trans ?_
    rw [hT]
    simp only [hi1, hi2]
  · rw [dif_neg (fun h => hu ((in_use m hO A B n hN c t).mp h)), if_neg (by rw [hq]; exact hu)]
    exact (outPast_apply _ _ _ _ _ _ _ _ _ _ _ _ _ _ _ _ _ _ _ _ _ _ _ _ _ _ _ y).trans Ideal.ofBits_zero_f32

end Cert.Kernel3Ideal.Array

end
-- ==== Proof.Host3.lean ====
module

public import proofs.«01_k».proof.Proof.Run3
public import Idealize.ShloMosaic.Lib.Pointwise

/-! The four arrays the host prepares for the experts, read at an index: the rows in chunks, the padded router weights, each
expert's gate beside its up weights, and the down weights. -/

@[expose] public section

set_option maxRecDepth 16384

noncomputable section

namespace Cert.Kernel3Ideal.Host

open Idealize.ShloMosaic Idealize.ShloMosaic.TcCoe Idealize.ShloMosaic.Tactic Idealize.SL.Sem
open Cert.Kernel3Ideal.Gen Cert.Kernel3Ideal.Run

variable (m : (ℓ : Loc nD τ sig) → Buf (Elt Ideal) ℓ)

/-- The rows at an index. -/
theorem rows_of (c : Dev nD) (p : Fin 40960) (k : Fin 8) (l : Fin 128) (d : Fin 1024) (hd : d.val = 128 * k.val + l.val) :
    V m c main_v5 (ix3 p k l) = (m ((c.tc : Thread nD τ).loc main_arg0) : Vec Ideal S40960x1024 .f32) (ix2 p d) := by
  entry_read
  refine shapeCast_apply _ _ _ (ix2 p d) ?_
  show ((⟨2, ![40960, 1024]⟩ : Shape).rowMajor _).val = ((⟨3, ![40960, 8, 128]⟩ : Shape).rowMajor _).val
  rewrite [Shape.rowMajor_val_three, Shape.rowMajor_val_two]
  show p.val * 1024 + d.val = (p.val * 8 + k.val) * 128 + l.val
  omega

/-- The router's weights at an index. -/
theorem router_of (c : Dev nD) (d : Fin 1024) (e : Fin 16) (l : Fin 128) (hl : l.val = e.val) :
    V m c main_v2 (ix2 d l) = (m ((c.tc : Thread nD τ).loc main_arg4) : Vec Ideal S1024x16 .f32) (ix2 d e) := by
  entry_read
  rw [truncf_apply]
  rw [Ideal.truncf_def]
  refine concatenate_pair_apply_left (t := S1024x128) (s₁ := S1024x16) (s₂ := S1024x112) 1 _ _ _ _ rfl (ix2 d e) ?_
  intro b
  match b with
  | ⟨0, _⟩ => rfl
  | ⟨1, _⟩ => exact hl.symm

/-- An expert's gate weights at an index. -/
theorem gate_of (c : Dev nD) (e : Fin 16) (d : Fin 1024) (f : Fin 512) (g : Fin 1024) (hg : g.val = f.val) :
    V m c main_v4 (ix3 e d g) = (m ((c.tc : Thread nD τ).loc main_arg5) : Vec Ideal S16x1024x512 .f32) (ix3 e d f) := by
  entry_read
  rw [truncf_apply]
  rw [Ideal.truncf_def]
  refine concatenate_pair_apply_left (t := S16x1024x1024) (s₁ := S16x1024x512) (s₂ := S16x1024x512) 2 _ _ _ _ rfl (ix3 e d f) ?_
  intro b
  match b with
  | ⟨0, _⟩ => rfl
  | ⟨1, _⟩ => rfl
  | ⟨2, _⟩ => exact hg.symm

/-- An expert's up weights at an index. -/
theorem up_of (c : Dev nD) (e : Fin 16) (d : Fin 1024) (f : Fin 512) (g : Fin 1024) (hg : g.val = 512 + f.val) :
    V m c main_v4 (ix3 e d g) = (m ((c.tc : Thread nD τ).loc main_arg6) : Vec Ideal S16x1024x512 .f32) (ix3 e d f) := by
  entry_read
  rw [truncf_apply]
  rw [Ideal.truncf_def]
  refine concatenate_pair_apply_right (t := S16x1024x1024) (s₁ := S16x1024x512) (s₂ := S16x1024x512) 2 _ _ _ _ rfl rfl (ix3 e d f) ?_ ?_
  · intro b
    match b with
    | ⟨0, _⟩ => exact fun _ => rfl
    | ⟨1, _⟩ => exact fun _ => rfl
    | ⟨2, _⟩ => intro h; exact absurd rfl h
  · exact (Nat.add_comm f.val 512).trans hg.symm

/-- An expert's down weights at an index. -/
theorem down_of (c : Dev nD) (i : S16x512x1024.Idx) :
    V m c main_v6 i = (m ((c.tc : Thread nD τ).loc main_arg7) : Vec Ideal S16x512x1024 .f32) i := by
  entry_read
  rw [truncf_apply]
  rw [Ideal.truncf_def]

end Cert.Kernel3Ideal.Host

end
-- ==== Proof.Ref3.lean ====
module

public import proofs.«01_k».proof.Proof.Gen.Reference3Ideal.Read
public import proofs.«01_k».proof.Proof.Mix3
public import Idealize.ShloMosaic.Lib.Pointwise

/-! The reference of the experts at a row and a column: the two experts of the row's tile looked up, its scores, their shares, each
expert's activation, and the sum over all sixteen experts. -/

@[expose] public section

set_option maxRecDepth 16384

noncomputable section

namespace Cert.Reference3Ideal.Rows

open Idealize.ShloMosaic Idealize.ShloMosaic.TcCoe Idealize.ShloMosaic.Tactic Idealize.SL.Sem
open Cert.Reference3Ideal Cert.Reference3Ideal.Read Cert.Reference3Ideal.Gen

/-- A word below the sign bit, read back as a number. -/
theorem word_nat (n : Nat) (h : n < 2147483648) : (BitVec.ofNat 32 n).toInt.toNat = n := by
  rw [BitVec.toInt_eq_toNat_of_lt (by simp; omega)]
  simp; omega

/-- The word of the number one. -/
theorem one_word : Ideal.ofBits .f32 0x3F800000#32 = 1 := by
  simp [Ideal.ofBits, Ideal.ieee]
  rw [← EReal.coe_mul]
  norm_num

/-- The entry of a table that a column of numbers names. -/
theorem gather_table (x : IVec S160 32) (idx : IVec S40960x1 32) (i : S40960.Idx) (t : Fin 160)
    (h : idx (ix2 (i 0) 0) = BitVec.ofNat 32 t.val) : Host.gather gather_S160_S40960x1_S40960_n_0_n_n_0_1_1 x idx i = x (ix1 t) := by
  unfold Host.gather
  refine congrArg x (funext fun a => Fin.ext ?_)
  obtain rfl : a = 0 := Subsingleton.elim _ _
  have hs : gather_S160_S40960x1_S40960_n_0_n_n_0_1_1.siIdx i ⟨0, by decide⟩ = ix2 (i 0) 0 := by
    funext a
    match a with
    | ⟨0, _⟩ => rfl
    | ⟨1, _⟩ => rfl
  have hw : (BitVec.ofNat 32 t.val).toInt.toNat = t.val := word_nat _ (by omega)
  have h1 : gather_S160_S40960x1_S40960_n_0_n_n_0_1_1.start i idx 0 = t.val := by
    unfold GatherDims.start
    rw [dif_pos (by decide)]
    refine (congrArg (fun q => min (idx q).toInt.toNat _) hs).trans ?_
    show min (idx (ix2 (i 0) 0)).toInt.toNat 159 = t.val
    rw [h, hw]; omega
  have h2 : gather_S160_S40960x1_S40960_n_0_n_n_0_1_1.batchCoord i 0 = 0 := by
    unfold GatherDims.batchCoord
    rw [dif_neg (by decide)]
  have h3 : gather_S160_S40960x1_S40960_n_0_n_n_0_1_1.offCoord i 0 = 0 := by
    unfold GatherDims.offCoord
    rw [dif_neg (by decide)]
  show _ + _ + _ = t.val
  rw [h1, h2, h3]; omega

/-- The entry of a row that a column of numbers names. -/
theorem gather_pair {α : Type} (x : S40960x16.Idx → α) (idx : IVec S40960x2x1 32) (p : Fin 40960) (k : Fin 2) (e : Fin 16)
    (h : idx (ix3 p k 0) = BitVec.ofNat 32 e.val) : Host.gather gather_S40960x16_S40960x2x1_S40960x2_n_1_0_0_1_2_11 x idx (ix2 p k) = x (ix2 p e) := by
  unfold Host.gather
  have hs : gather_S40960x16_S40960x2x1_S40960x2_n_1_0_0_1_2_11.siIdx (ix2 p k) ⟨0, by decide⟩ = ix3 p k 0 := by
    funext a
    match a with
    | ⟨0, _⟩ => rfl
    | ⟨1, _⟩ => rfl
    | ⟨2, _⟩ => rfl
  have hw : (BitVec.ofNat 32 e.val).toInt.toNat = e.val := word_nat _ (by omega)
  refine congrArg x (funext fun a => Fin.ext ?_)
  match a with
  | ⟨0, _⟩ =>
    show GatherDims.start _ _ _ 0 + GatherDims.batchCoord _ _ 0 + GatherDims.offCoord _ _ 0 = p.val
    have h1 : gather_S40960x16_S40960x2x1_S40960x2_n_1_0_0_1_2_11.start (ix2 p k) idx 0 = 0 := by
      unfold GatherDims.start
      rw [dif_neg (by decide)]
    have h2 : gather_S40960x16_S40960x2x1_S40960x2_n_1_0_0_1_2_11.batchCoord (ix2 p k) 0 = p.val := by
      unfold GatherDims.batchCoord
      rw [dif_pos (by decide)]
      rfl
    have h3 : gather_S40960x16_S40960x2x1_S40960x2_n_1_0_0_1_2_11.offCoord (ix2 p k) 0 = 0 := by
      unfold GatherDims.offCoord
      rw [dif_neg (by decide)]
    rw [h1, h2, h3]; omega
  | ⟨1, _⟩ =>
    show GatherDims.start _ _ _ 1 + GatherDims.batchCoord _ _ 1 + GatherDims.offCoord _ _ 1 = e.val
    have h1 : gather_S40960x16_S40960x2x1_S40960x2_n_1_0_0_1_2_11.start (ix2 p k) idx 1 = e.val := by
      unfold GatherDims.start
      rw [dif_pos (by decide)]
      refine (congrArg (fun q => min (idx q).toInt.toNat _) hs).trans ?_
      show min (idx (ix3 p k 0)).toInt.toNat 15 = e.val
      rw [h, hw]; omega
    have h2 : gather_S40960x16_S40960x2x1_S40960x2_n_1_0_0_1_2_11.batchCoord (ix2 p k) 1 = 0 := by
      unfold GatherDims.batchCoord
      rw [dif_neg (by decide)]
    have h3 : gather_S40960x16_S40960x2x1_S40960x2_n_1_0_0_1_2_11.offCoord (ix2 p k) 1 = 0 := by
      unfold GatherDims.offCoord
      rw [dif_neg (by decide)]
    rw [h1, h2, h3]; omega

/-- A row's tile. -/
theorem tile_at (i : S40960.Idx) : val_main_v1 (F := Ideal) i = BitVec.ofNat 32 ((i 0).val / 256) := by
  have hi : (i 0).val < 40960 := (i 0).isLt
  have hm : (BitVec.ofNat 32 (i 0).val).msb = false := by
    rw [BitVec.msb_eq_false_iff_two_mul_lt]; simp; omega
  have hd : val_main_call0_v2 (F := Ideal) i = BitVec.ofNat 32 ((i 0).val / 256) := by
    rw [val_main_call0_v2_apply, val_main_v0_apply, val_main_call0_v1_apply, val_main_call0_v0_apply, val_main_c_apply]
    unfold IntOp.divsi
    rw [if_neg (by rintro (h | ⟨_, h⟩) <;> revert h <;> decide), BitVec.sdiv_eq, hm]
    show BitVec.ofNat 32 (i 0).val / 256#32 = _
    apply BitVec.eq_of_toNat_eq
    simp
    omega
  rw [val_main_v1_apply, val_main_call0_v11_apply, hd]
  refine if_neg ?_
  by_cases h0 : (i 0).val = 0
  · have hz : val_main_call0_v10 (F := Ideal) i = 0#1 := by
      rw [val_main_call0_v10_apply, val_main_call0_v8_apply, val_main_v0_apply, h0, val_main_call0_v7_apply, val_main_call0_v9_apply]
      show IntOp.cmpi .ne (IntOp.remsi _ 0#32 256#32) 0#32 = 0#1
      decide
    rw [hz]
    show ¬ (_ &&& 0#1 = 1#1)
    simp
  · have hz : val_main_call0_v6 (F := Ideal) i = 0#1 := by
      rw [val_main_call0_v6_apply, val_main_call0_v5_apply]
      have h1 : val_main_call0_v3 (F := Ideal) i = 1#32 := by
        show (if BitVec.ofNat 32 (i 0).val = 0 then (0 : BitVec 32) else if (BitVec.ofNat 32 (i 0).val).msb then -1 else 1) = 1#32
        rw [if_neg (fun h => h0 (by have := congrArg BitVec.toNat h; simp at this; omega)), hm]
        rfl
      rw [h1]
      show IntOp.cmpi .ne 1#32 (if (256#32 : BitVec 32) = 0 then (0 : BitVec 32) else if (256#32 : BitVec 32).msb then -1 else 1) = 0#1
      decide
    rw [hz]
    show ¬ (0#1 &&& _ = 1#1)
    simp

/-- The tile's place in a table. -/
theorem place_at (p : Fin 40960) : val_main_v6 (F := Ideal) (ix1 p) = BitVec.ofNat 32 (p.val / 256) := by
  rw [val_main_v6_apply, val_main_v3_apply, tile_at, val_main_v2_apply]
  refine if_neg ?_
  exact (by decide : ∀ t : Fin 160, ¬ BitVec.ofBool ((BitVec.ofNat 32 t.val).slt 0#32) = 1#1) ⟨p.val / 256, by omega⟩

/-- The tile's place in the second table. -/
theorem place_at' (p : Fin 40960) : val_main_v13 (F := Ideal) (ix1 p) = BitVec.ofNat 32 (p.val / 256) := place_at p

section
variable (x0 : (⟨S40960x1024, .f32⟩ : BufTy).Contents (Elt Ideal)) (x1 x2 : (⟨S160, .i32⟩ : BufTy).Contents (Elt Ideal))
  (x3 : (⟨S1, .i32⟩ : BufTy).Contents (Elt Ideal)) (x4 : (⟨S1024x16, .f32⟩ : BufTy).Contents (Elt Ideal))
  (x5 x6 : (⟨S16x1024x512, .f32⟩ : BufTy).Contents (Elt Ideal)) (x7 : (⟨S16x512x1024, .f32⟩ : BufTy).Contents (Elt Ideal))
  (p : Fin 40960)

/-- The tile a row lies in. -/
abbrev tileOf (p : Fin 40960) : Fin 160 := ⟨p.val / 256, by omega⟩

/-- A row's two experts. -/
theorem experts_at (k : Fin 2) : val_main_v18 (F := Ideal) x1 x2 (ix2 p k) = if k = 0 then x1 (ix1 (tileOf p)) else x2 (ix1 (tileOf p)) := by
  have hA : val_main_v8 (F := Ideal) x1 (ix1 p) = x1 (ix1 (tileOf p)) :=
    gather_table x1 _ (ix1 p) (tileOf p) ((val_main_v7_apply _).trans ((congrArg _ (eq_ix1 _)).trans (place_at p)))
  have hB : val_main_v15 (F := Ideal) x2 (ix1 p) = x2 (ix1 (tileOf p)) :=
    gather_table x2 _ (ix1 p) (tileOf p) ((val_main_v14_apply _).trans ((congrArg _ (eq_ix1 _)).trans (place_at' p)))
  unfold val_main_v18
  match k with
  | ⟨0, _⟩ =>
    refine Eq.trans (concatenate_pair_apply_left (t := S40960x2) (s₁ := S40960x1) (s₂ := S40960x1) 1 _ _ _ (ix2 p (0 : Fin 2)) rfl (ix2 p 0) (fun b => ?_)) ?_
    · match b with
      | ⟨0, _⟩ => rfl
      | ⟨1, _⟩ => rfl
    · exact (val_main_v16_apply _ _).trans ((congrArg _ (eq_ix1 _)).trans hA)
  | ⟨1, _⟩ =>
    refine Eq.trans (concatenate_pair_apply_right (t := S40960x2) (s₁ := S40960x1) (s₂ := S40960x1) 1 _ _ _ (ix2 p (1 : Fin 2)) rfl rfl (ix2 p 0) (fun b hb => ?_) rfl) ?_
    · match b with
      | ⟨0, _⟩ => rfl
      | ⟨1, _⟩ => exact absurd rfl hb
    · exact (val_main_v17_apply _ _).trans ((congrArg _ (eq_ix1 _)).trans hB)

/-- A row's score for an expert. -/
def score (e : Fin 16) : EReal := Ideal.logistic (∑ d : Fin 1024, x0 (ix2 p d) * x4 (ix2 d e))

/-- An expert's activation: the gate's product through the smooth step, times the up product. -/
def act (e : Fin 16) (f : Fin 512) : EReal :=
  (∑ d : Fin 1024, x0 (ix2 p d) * x5 (ix3 e d f)) * Ideal.logistic (∑ d : Fin 1024, x0 (ix2 p d) * x5 (ix3 e d f))
    * ∑ d : Fin 1024, x0 (ix2 p d) * x6 (ix3 e d f)

/-- A score of a row. -/
theorem score_at (e : Fin 16) : val_main_v25 (F := Ideal) x0 x4 (ix2 p e) = score x0 x4 p e := by
  rw [val_main_v25_apply, val_main_v24_apply, val_main_v23_apply, val_main_v22_apply, val_main_v21_apply, val_main_v20_apply, val_main_v19_apply]
  show Ideal.div (Ideal.ofBits .f32 0x3F800000#32) (Ideal.ofBits .f32 0x3F800000#32 + Ideal.exp (-_)) = _
  rw [one_word]
  unfold score Ideal.logistic
  refine congrArg (fun z => Ideal.div 1 (1 + Ideal.exp (-z))) (Finset.sum_congr rfl fun d _ => ?_)
  exact congrArg₂ (fun u v => x0 u * x4 v) (eq_ix2 _) (eq_ix2 _)

variable (a b : Fin 16) (h1 : x1 (ix1 (tileOf p)) = BitVec.ofNat 32 a.val) (h2 : x2 (ix1 (tileOf p)) = BitVec.ofNat 32 b.val)

include h1 h2 in
/-- A row's two experts as numbers. -/
theorem expert_at (k : Fin 2) : val_main_v18 (F := Ideal) x1 x2 (ix2 p k) = BitVec.ofNat 32 (if k = 0 then a else b : Fin 16).val := by
  rw [experts_at, h1, h2]
  split <;> rfl

include h1 h2 in
/-- A row's two experts, as the scores are looked up by them. -/
theorem lookup_at (k : Fin 2) : val_main_call1_v5 (F := Ideal) x1 x2 (ix3 p k 0) = BitVec.ofNat 32 (if k = 0 then a else b : Fin 16).val := by
  have hi : idx_main_call1_v5 (ix3 p k 0) = ix2 p k := by
    funext c
    have hk := k.isLt
    match c with
    | ⟨0, _⟩ => exact Fin.ext (by show ((p.val * 2 + k.val) * 1 + 0) / 2 = p.val; omega)
    | ⟨1, _⟩ => exact Fin.ext (by show ((p.val * 2 + k.val) * 1 + 0) % 2 = k.val; omega)
  rw [val_main_call1_v5_apply, hi, val_main_call1_v4_apply, val_main_call1_v1_apply, expert_at x1 x2 p a b h1 h2, val_main_call1_v0_apply]
  refine if_neg ?_
  show ¬ BitVec.ofBool ((BitVec.ofNat 32 (if k = 0 then a else b : Fin 16).val).slt 0#32) = 1#1
  generalize (if k = 0 then a else b : Fin 16) = e
  revert e
  decide

include h1 h2 in
/-- Each of the two numbers names an expert. -/
theorem inside_at (k : Fin 2) : val_main_call1_v12 (F := Ideal) x1 x2 (ix2 p k) = 1#1 := by
  have hin : ∀ q : S40960x2x1.Idx, q 0 = p → q 1 = k → val_main_call1_v11 (F := Ideal) x1 x2 q = 1#1 := by
    intro q hq0 hq1
    obtain rfl : q = ix3 p k 0 := by rw [eq_ix3 q, hq0, hq1]; exact congrArg _ (Subsingleton.elim (α := Fin 1) _ _)
    rw [val_main_call1_v11_apply, val_main_call1_v7_apply, val_main_call1_v10_apply, lookup_at x1 x2 p a b h1 h2, val_main_call1_v6_apply, val_main_call1_v9_apply, val_main_call1_v8_apply]
    show IntOp.andi (IntOp.cmpi .sge (BitVec.ofNat 32 (if k = 0 then a else b : Fin 16).val) 0#32) (IntOp.cmpi .sle (BitVec.ofNat 32 (if k = 0 then a else b : Fin 16).val) 15#32) = 1#1
    generalize (if k = 0 then a else b : Fin 16) = e
    revert e
    decide
  unfold val_main_call1_v12
  refine (Host.reduce_eq_fold_single (f := (IntOp.andi : BitVec 1 → BitVec 1 → BitVec 1)) _ _ _ (by decide) _ _).trans ?_
  refine (Finset.fold_congr (g := fun _ => 1#1) fun n _ => hin _ rfl rfl).trans ?_
  rfl

include h1 h2 in
/-- The score of a row's expert. -/
theorem pick_at (k : Fin 2) : val_main_v26 (F := Ideal) x0 x1 x2 x4 (ix2 p k) = score x0 x4 p (if k = 0 then a else b) := by
  rw [val_main_v26_apply, inside_at x1 x2 p a b h1 h2]
  refine (if_pos rfl).trans ?_
  exact (gather_pair _ _ p k _ (lookup_at x1 x2 p a b h1 h2 k)).trans (score_at x0 x4 p _)

include h1 h2 in
/-- The sum of a row's two scores. -/
theorem total_at (k : Fin 2) : val_main_v29 (F := Ideal) x0 x1 x2 x4 (ix2 p k) = score x0 x4 p a + score x0 x4 p b := by
  rw [val_main_v29_apply, val_main_v28_apply, val_main_v27_apply]
  show Ideal.ofBits .f32 0x00000000#32 + _ = _
  rw [Ideal.ofBits_zero_f32, zero_add, Fin.sum_univ_two]
  exact congrArg₂ (· + ·) ((congrArg _ (eq_ix2 _)).trans (pick_at x0 x1 x2 x4 p a b h1 h2 0))
    ((congrArg _ (eq_ix2 _)).trans (pick_at x0 x1 x2 x4 p a b h1 h2 1))

include h1 h2 in
/-- A score's share in the two. -/
theorem share_at (k : Fin 2) : val_main_v30 (F := Ideal) x0 x1 x2 x4 (ix2 p k)
    = Ideal.div (score x0 x4 p (if k = 0 then a else b)) (score x0 x4 p a + score x0 x4 p b) := by
  rw [val_main_v30_apply, pick_at x0 x1 x2 x4 p a b h1 h2, total_at x0 x1 x2 x4 p a b h1 h2]
  rfl

include h1 h2 in
/-- Whether an expert is a row's first or second. -/
theorem hot_at (k : Fin 2) (e : Fin 16) : val_main_v31 (F := Ideal) x1 x2 (ix3 p k e) = Mix3.hot (if k = 0 then a else b) e := by
  rw [val_main_v31_apply, val_main_call2_v4_apply, val_main_call2_v2_apply, val_main_call2_v0_apply, val_main_call2_v3_apply, val_main_call2_v1_apply]
  have hw := (congrArg (val_main_v18 (F := Ideal) x1 x2) (eq_ix2 (idx_main_call2_v0 (idx_main_call2_v2 (ix3 p k e))))).trans (expert_at x1 x2 p a b h1 h2 k)
  rw [hw]
  show (((IntOp.cmpi .eq (BitVec.ofNat 32 (if k = 0 then a else b : Fin 16).val) (BitVec.ofNat 32 e.val)).toNat : ℝ) : EReal) = _
  unfold Mix3.hot
  generalize (if k = 0 then a else b : Fin 16) = g
  by_cases hg : g = e
  · subst hg
    rw [if_pos rfl]
    have hc : IntOp.cmpi .eq (BitVec.ofNat 32 g.val) (BitVec.ofNat 32 g.val) = 1#1 :=
      (by decide : ∀ g : Fin 16, IntOp.cmpi .eq (BitVec.ofNat 32 g.val) (BitVec.ofNat 32 g.val) = 1#1) g
    rw [hc]
    simp
  · rw [if_neg hg]
    have hc : IntOp.cmpi .eq (BitVec.ofNat 32 g.val) (BitVec.ofNat 32 e.val) = 0#1 :=
      (by decide : ∀ g e : Fin 16, g ≠ e → IntOp.cmpi .eq (BitVec.ofNat 32 g.val) (BitVec.ofNat 32 e.val) = 0#1) g e hg
    rw [hc]
    simp

include h1 h2 in
/-- An expert's weight in a row. -/
theorem weight_at (e : Fin 16) : val_main_v35 (F := Ideal) x0 x1 x2 x4 (ix2 p e)
    = Mix3.hot a e * Ideal.div (score x0 x4 p a) (score x0 x4 p a + score x0 x4 p b)
      + Mix3.hot b e * Ideal.div (score x0 x4 p b) (score x0 x4 p a + score x0 x4 p b) := by
  have hk : ∀ k : Fin 2, val_main_v34 (F := Ideal) x0 x1 x2 x4 (ix3 p k e) = Mix3.hot (if k = 0 then a else b) e
      * Ideal.div (score x0 x4 p (if k = 0 then a else b)) (score x0 x4 p a + score x0 x4 p b) := by
    intro k
    rw [val_main_v34_apply, hot_at x1 x2 p a b h1 h2, val_main_v33_apply, val_main_v32_apply]
    exact congrArg (fun z : EReal => Mix3.hot (if k = 0 then a else b) e * z) ((congrArg (val_main_v30 (F := Ideal) x0 x1 x2 x4) (eq_ix2 (idx_main_v32 (idx_main_v33 (ix3 p k e))))).trans (share_at x0 x1 x2 x4 p a b h1 h2 k))
  rw [val_main_v35_apply]
  show Ideal.ofBits .f32 0x00000000#32 + _ = _
  rw [Ideal.ofBits_zero_f32, zero_add, Fin.sum_univ_two]
  exact congrArg₂ (· + ·) ((congrArg _ (eq_ix3 _)).trans (hk 0)) ((congrArg _ (eq_ix3 _)).trans (hk 1))

/-- A gate's product with a row. -/
theorem gate_at (e : Fin 16) (f : Fin 512) : val_main_v37 (F := Ideal) x0 x5 (ix3 e p f) = ∑ d : Fin 1024, x0 (ix2 p d) * x5 (ix3 e d f) := by
  rw [val_main_v37_apply, val_main_v36_apply]
  refine Finset.sum_congr rfl fun d _ => (mul_comm _ _).trans ?_
  exact congrArg₂ (fun u v => x0 u * x5 v) (eq_ix2 _) (eq_ix3 _)

/-- An expert's activation in a row. -/
theorem act_at (e : Fin 16) (f : Fin 512) : val_main_v41 (F := Ideal) x0 x5 x6 (ix3 e p f) = act x0 x5 x6 p e f := by
  rw [val_main_v41_apply, val_main_v38_apply, val_main_call3_v5_apply, val_main_call3_v4_apply, val_main_call3_v3_apply, val_main_call3_v2_apply,
    val_main_call3_v1_apply, val_main_call3_v0_apply, gate_at, val_main_v40_apply, val_main_v39_apply]
  show _ * Ideal.div (Ideal.ofBits .f32 0x3F800000#32) (Ideal.ofBits .f32 0x3F800000#32 + Ideal.exp (-_)) * _ = _
  rw [one_word]
  unfold act Ideal.logistic
  refine congrArg (_ * ·) (Finset.sum_congr rfl fun d _ => (mul_comm _ _).trans ?_)
  exact congrArg₂ (fun u v => x0 u * x6 v) (eq_ix2 _) (eq_ix3 _)

include h1 h2 in
/-- A row's mix of the experts. -/
theorem mix_at (j : Fin 1024) : val_main_v47 (F := Ideal) x0 x1 x2 x4 x5 x6 x7 (ix2 p j)
    = Mix3.dense (score x0 x4 p) (act x0 x5 x6 p) (fun e f => x7 (ix3 e f j)) a b := by
  rw [val_main_v47_apply]
  show Ideal.ofBits .f32 0x00000000#32 + _ = _
  rw [Ideal.ofBits_zero_f32, zero_add]
  unfold Mix3.dense
  refine Finset.sum_congr rfl fun e _ => ?_
  rw [val_main_v46_apply, val_main_v45_apply, val_main_v43_apply, val_main_v42_apply, val_main_v44_apply]
  refine congrArg₂ (· * ·) ((congrArg _ (eq_ix2 _)).trans (weight_at x0 x1 x2 x4 p a b h1 h2 e)) (Finset.sum_congr rfl fun f _ => ?_)
  exact congrArg₂ (· * ·) ((congrArg _ (eq_ix3 _)).trans (act_at x0 x5 x6 p e f)) (congrArg x7 (eq_ix3 _))

variable (n : Fin 161) (h3 : x3 (ix1 0) = BitVec.ofNat 32 n.val)

include h1 h2 h3 in
/-- The reference's result at a row and a column: the mix where the row's tile is in use, and zero elsewhere. -/
theorem result_at (j : Fin 1024) : val_main_v52 (F := Ideal) x0 x1 x2 x3 x4 x5 x6 x7 (ix2 p j)
    = if p.val / 256 < n.val then Mix3.dense (score x0 x4 p) (act x0 x5 x6 p) (fun e f => x7 (ix3 e f j)) a b else 0 := by
  have hw : val_main_v48 (F := Ideal) x3 (idx_main_v49 (idx_main_v51 (idx_main_call4_v1 (ix2 p j)))) = BitVec.ofNat 32 n.val := by
    unfold val_main_v48
    exact (shapeCast_apply x3 shapeCasts_S1_S_ _ (ix1 0) rfl).trans h3
  have hc : ∀ (t : Fin 160) (n : Fin 161), IntOp.cmpi .slt (BitVec.ofNat 32 t.val) (BitVec.ofNat 32 n.val) = if t.val < n.val then 1#1 else 0#1 := by
    intro t n
    show BitVec.ofBool ((BitVec.ofNat 32 t.val).slt (BitVec.ofNat 32 n.val)) = _
    rw [BitVec.slt_eq_decide, BitVec.toInt_eq_toNat_of_lt (by simp; omega), BitVec.toInt_eq_toNat_of_lt (by simp; omega)]
    by_cases h : t.val < n.val
    · rw [if_pos h, decide_eq_true (by simp; omega)]; rfl
    · rw [if_neg h, decide_eq_false (by simp; omega)]; rfl
  rw [val_main_v52_apply, val_main_call4_v1_apply, val_main_v51_apply, val_main_v50_apply, val_main_v49_apply, hw, tile_at, mix_at x0 x1 x2 x4 x5 x6 x7 p a b h1 h2, val_main_call4_v2_apply]
  have hr := hc (tileOf p) n
  refine (congrArg (fun u => Scalar.select u _ _) hr).trans ?_
  by_cases h : p.val / 256 < n.val
  · rw [if_pos h, if_pos h]; rfl
  · rw [if_neg h, if_neg h]
    show Ideal.ofBits .f32 0x00000000#32 = 0
    exact Ideal.ofBits_zero_f32

end

end Cert.Reference3Ideal.Rows
-- ==== Proof.Equal3.lean ====
module

public import proofs.«01_k».proof.Proof.Array3
public import proofs.«01_k».proof.Proof.Host3
public import proofs.«01_k».proof.Proof.Ref3
public import proofs.«01_k».proof.Proof.Tokens

/-! The experts' array is the reference's when the tables name experts and the rows and the router's weights are finite. -/

@[expose] public section

set_option maxRecDepth 16384

noncomputable section

namespace Cert.Equal3

open Idealize.ShloMosaic Idealize.ShloMosaic.TcCoe Idealize.ShloMosaic.Tactic Idealize.SL.Sem
open Cert.Kernel3Ideal.Array Cert.Reference3Ideal.Rows Cert.Tokens Cert.Kernel3Ideal.Ok

variable (x0 : Vec Ideal ⟨2, ![40960, 1024]⟩ .f32) (x1 x2 : IVec ⟨1, ![160]⟩ 32) (x3 : IVec ⟨1, ![1]⟩ 32)
  (x4 : Vec Ideal ⟨2, ![1024, 16]⟩ .f32) (x5 x6 : Vec Ideal ⟨3, ![16, 1024, 512]⟩ .f32) (x7 : Vec Ideal ⟨3, ![16, 512, 1024]⟩ .f32)

/-- Finite rows and router weights make every score a positive real. -/
theorem score_real (h0 : AllReal x0) (h4 : AllReal x4) (p : Fin 40960) (e : Fin 16) :
    ∃ s : ℝ, 0 < s ∧ score x0 x4 p e = s := by
  unfold score
  exact Mix3.logistic_real _ (Mix3.dot_real _ _ (fun d => h0 _) fun d => h4 _)

variable (X : Vec Ideal Cert.Kernel3Ideal.S40960x8x128 .f32) (R : Vec Ideal Cert.Kernel3Ideal.S1024x128 .bf16)
  (G : Vec Ideal Cert.Kernel3Ideal.S16x1024x1024 .bf16) (W : Vec Ideal Cert.Kernel3Ideal.S16x512x1024 .bf16)
  (hX : ∀ (p : Fin 40960) (k : Fin 8) (l : Fin 128) (d : Fin 1024), d.val = 128 * k.val + l.val → X (ix3 p k l) = x0 (ix2 p d))
  (hR : ∀ (d : Fin 1024) (e : Fin 16) (l : Fin 128), l.val = e.val → R (ix2 d l) = x4 (ix2 d e))
  (hG : ∀ (e : Fin 16) (d : Fin 1024) (f : Fin 512) (g : Fin 1024), g.val = f.val → G (ix3 e d g) = x5 (ix3 e d f))
  (hU : ∀ (e : Fin 16) (d : Fin 1024) (f : Fin 512) (g : Fin 1024), g.val = 512 + f.val → G (ix3 e d g) = x6 (ix3 e d f))
  (hW : ∀ i, W i = x7 i)

include hX in
/-- The rows in chunks are the rows. -/
theorem row_eq (p : Fin 40960) (d : Fin 1024) : rowK X p d = x0 (ix2 p d) :=
  hX p _ _ d (by show d.val = 128 * (d.val / 128) + d.val % 128; omega)

include hX hR in
/-- The kernel's scores are the reference's. -/
theorem scores_eq (p : Fin 40960) : scoreK X R p = score x0 x4 p := by
  funext e
  unfold scoreK score
  exact congrArg Ideal.logistic (Finset.sum_congr rfl fun d _ => by rw [row_eq x0 X hX, hR d e _ rfl])

include hX hG hU in
/-- The kernel's activations are the reference's. -/
theorem acts_eq (p : Fin 40960) : actK X G p = act x0 x5 x6 p := by
  funext e f
  have hg : ∀ d : Fin 1024, rowK X p d * G (ix3 e d ⟨f.val, by omega⟩) = x0 (ix2 p d) * x5 (ix3 e d f) := fun d => by
    rw [row_eq x0 X hX, hG e d f _ rfl]
  have hu : ∀ d : Fin 1024, rowK X p d * G (ix3 e d ⟨512 + f.val, by omega⟩) = x0 (ix2 p d) * x6 (ix3 e d f) := fun d => by
    rw [row_eq x0 X hX, hU e d f _ rfl]
  unfold actK act
  simp only [hg, hu]

include hX hR hG hU hW in
/-- The kernel's mix of a row's two experts is the reference's mix of all of them. -/
theorem mix_eq (p : Fin 40960) (j : Fin 1024) (a b : Fin 16) (h0 : AllReal x0) (h4 : AllReal x4) :
    Mix3.chosen (scoreK X R p) (actK X G p) (fun e f => W (ix3 e f j)) a b
      = Mix3.dense (score x0 x4 p) (act x0 x5 x6 p) (fun e f => x7 (ix3 e f j)) a b := by
  rw [scores_eq x0 x4 X R hX hR, acts_eq x0 x5 x6 X G hX hG hU,
    Mix3.chosen_eq_dense _ _ _ _ _ (score_real x0 x4 h0 h4 p _) (score_real x0 x4 h0 h4 p _)]
  simp only [hW]

include hX hR hG hU hW in
/-- The experts' array is the reference's result. -/
theorem result_eq (A B : Fin 160 → Fin 16) (n : Fin 161) (hN : Names x1 x2 x3 A B n) (h0 : AllReal x0) (h4 : AllReal x4) :
    result X R G W A B n = Cert.Reference3Ideal.Read.val_main_v53 (F := Ideal) x0 x1 x2 x3 x4 x5 x6 x7 := by
  funext i
  have b0 : (i 0).val < 40960 := (i 0).isLt
  have b1 : (i 1).val < 8 := (i 1).isLt
  have b2 : (i 2).val < 128 := (i 2).isLt
  have hi : Cert.Reference3Ideal.Read.idx_main_v53 i = ix2 (i 0) ⟨128 * (i 1).val + (i 2).val, by omega⟩ := by
    funext a
    match a with
    | ⟨0, _⟩ => exact Fin.ext (by show (((i 0).val * 8 + (i 1).val) * 128 + (i 2).val) / 1024 = (i 0).val; omega)
    | ⟨1, _⟩ => exact Fin.ext (by show (((i 0).val * 8 + (i 1).val) * 128 + (i 2).val) % 1024 = 128 * (i 1).val + (i 2).val; omega)
  refine Eq.trans ?_ (Cert.Reference3Ideal.Read.val_main_v53_apply (F := Ideal) x0 x1 x2 x3 x4 x5 x6 x7 i).symm
  refine Eq.trans ?_ (congrArg _ hi).symm
  refine Eq.trans ?_ (result_at x0 x1 x2 x3 x4 x5 x6 x7 (i 0) (A (tileOf (i 0))) (B (tileOf (i 0))) (hN.1 _) (hN.2.1 _) n hN.2.2.2 _).symm
  unfold result
  exact if_congr Iff.rfl (mix_eq x0 x4 x5 x6 x7 X R G W hX hR hG hU hW (i 0) ⟨128 * (i 1).val + (i 2).val, by omega⟩ _ _ h0 h4) rfl

end Cert.Equal3

end
-- ==== Proof.Same3.lean ====
module

public import proofs.«01_k».proof.Proof.Gen.Kernel3
public import proofs.«01_k».proof.Proof.Gen.Kernel3Ideal

/-! The experts' kernel and its idealized copy are the same program, part by part, at any float values. -/

@[expose] public section

set_option maxRecDepth 16384

noncomputable section

namespace Cert.Same3

open Idealize.ShloMosaic

variable {F : FTy → Type} [FloatOps F] [Cert.Kernel3.Facts] [Cert.Kernel3Ideal.Facts]

set_option maxHeartbeats 1600000 in
/-- Their bodies are the same. -/
theorem body_same : Cert.Kernel3.cc0_moe_experts (F := F) = Cert.Kernel3Ideal.cc0_moe_experts (F := F) := by
  unfold Cert.Kernel3.cc0_moe_experts Cert.Kernel3Ideal.cc0_moe_experts
  rfl

open Cert.Kernel3Ideal Cert.Kernel3Ideal.Facts₀ in
/-- Their body tables are the same. -/
theorem table_same : Cert.Kernel3.defs₀ (F := F) = Cert.Kernel3Ideal.defs₀ (F := F) := by
  unfold Cert.Kernel3.defs₀ Cert.Kernel3Ideal.defs₀
  refine congrArg Defs.onTc (funext fun l => funext fun a => ?_)
  match l, a with
  | 0, (t, s) =>
    exact congrArg (a₁ := Cert.Kernel3.cc0_moe_experts (F := F)) (a₂ := Cert.Kernel3Ideal.cc0_moe_experts (F := F)) (fun g => g (grid0.coords t) (Memref.whole main_arg1) (Memref.isWhole_whole _) (Memref.whole main_arg2) (Memref.isWhole_whole _) (Memref.whole main_arg3) (Memref.isWhole_whole _)
      (spec0_0.stage (s 0)) (hstage0_0 ((s 0).cast nbuf0_0))
      (spec0_1.stage (s 1)) (hstage0_1 ((s 1).cast nbuf0_1))
      (spec0_2.stage (s 2)) (hstage0_2 ((s 2).cast nbuf0_2))
      (spec0_3.stage (s 3)) (hstage0_3 ((s 3).cast nbuf0_3))
      (spec0_4.stage (s 4)) (hstage0_4 ((s 4).cast nbuf0_4))
      (spec0_5.stage (s 5)) (hstage0_5 ((s 5).cast nbuf0_5))
      (spec0_6.stage (s 6)) (hstage0_6 ((s 6).cast nbuf0_6)))
      (body_same (F := F))

/-- So are the tables with the call's own entries. -/
theorem defs_same : Cert.Kernel3.defs (F := F) = Cert.Kernel3Ideal.defs (F := F) := by
  unfold Cert.Kernel3.defs Cert.Kernel3Ideal.defs
  exact congrArg (Pipeline.defs (Cert.Kernel3Ideal.pcfgs (F := F))) (table_same (F := F))

set_option maxHeartbeats 1600000 in
/-- So is the code around the call. -/
theorem main_same : Cert.Kernel3.main (F := F) = Cert.Kernel3Ideal.main (F := F) := by
  unfold Cert.Kernel3.main Cert.Kernel3Ideal.main
  rfl

end Cert.Same3

end
-- ==== Proof.lean ====
/- The proof of the claim: for either attention and for the experts the frames of the three programs, what preserves
   the kernel's text, and the equation of the kernel's and the reference's results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Reference2Ideal
public import proofs.«01_k».proof.Proof.Gen.Reference2Ideal.Run
public import proofs.«01_k».proof.Proof.Gen.Reference2Ideal.Read
public import proofs.«01_k».proof.Proof.Gen.Reference3Ideal
public import proofs.«01_k».proof.Proof.Gen.Reference3Ideal.Run
public import proofs.«01_k».proof.Proof.Gen.Reference3Ideal.Read
public import proofs.«01_k».proof.Proof.Equal
public import proofs.«01_k».proof.Proof.Equal2
public import proofs.«01_k».proof.Proof.Equal3
public import proofs.«01_k».proof.Proof.Same3
public import Idealize.ShloMosaic.Lib.Claim
public import Idealize.ShloMosaic.Adequacy
public import Idealize.ShloMosaic.Init

@[expose] public section

noncomputable section

namespace Cert.Proof

open Idealize.ShloMosaic Idealize.ShloMosaic.Tactic Idealize.SL.Sem

/-- The side conditions of the precondition's operations. -/
theorem finiteFacts : Cert.Pre_finite.Facts := ⟨by decide, by decide⟩

/-- The precondition says that the queries and the keys are real numbers. -/
theorem real_of_finite [Cert.Pre_finite.Facts]
    (m : (ℓ : Loc Cert.KernelIdeal.nD Cert.KernelIdeal.τ Cert.KernelIdeal.sig) → Buf (Elt Ideal) ℓ)
    (h : Cert.Pre_KernelIdeal_finite m) (c : Dev Cert.KernelIdeal.nD) :
    Tokens.AllReal (s := ⟨4, ![8, 4096, 8, 96]⟩) (m ((c.tc : Thread Cert.KernelIdeal.nD Cert.KernelIdeal.τ).loc Cert.KernelIdeal.main_arg0))
    ∧ Tokens.AllReal (s := ⟨4, ![8, 256, 8, 96]⟩) (m ((c.tc : Thread Cert.KernelIdeal.nD Cert.KernelIdeal.τ).loc Cert.KernelIdeal.main_arg1))
    ∧ Tokens.AllReal (s := ⟨4, ![8, 4096, 8, 96]⟩) (m ((c.tc : Thread Cert.KernelIdeal.nD Cert.KernelIdeal.τ).loc Cert.KernelIdeal.main_arg2))
    ∧ Tokens.AllReal (s := ⟨4, ![8, 256, 8, 96]⟩) (m ((c.tc : Thread Cert.KernelIdeal.nD Cert.KernelIdeal.τ).loc Cert.KernelIdeal.main_arg3)) :=
  ⟨fun i => Tokens.real_of_abs _ (congrFun (h c).1 i), fun i => Tokens.real_of_abs _ (congrFun (h c).2.1 i),
    fun i => Tokens.real_of_abs _ (congrFun (h c).2.2.1 i), fun i => Tokens.real_of_abs _ (congrFun (h c).2.2.2 i)⟩

/-- The kernel's result array is the reference's, from equal arguments with finite queries and keys. -/
theorem arrays_eq [Cert.Pre_finite.Facts]
    (m : (ℓ : Loc Cert.KernelIdeal.nD Cert.KernelIdeal.τ Cert.KernelIdeal.sig) → Buf (Elt Ideal) ℓ)
    (h : Cert.Pre_KernelIdeal_finite m) (c : Dev Cert.KernelIdeal.nD) :
    (Cert.KernelIdeal.Gen.dats m 0 c).arrAt 5 Cert.KernelIdeal.cfg0.N
      = Cert.ReferenceIdeal.Read.val_main_v42 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)) := by
  obtain ⟨h0, h1, h2, h3⟩ := real_of_finite m h c
  exact (Cert.KernelIdeal.Gen.arr_result m c).trans
    (Equal.result_eq _ _ _ _ _ _ _ _ _ (Cert.KernelIdeal.Gen.queries_at m c) (Cert.KernelIdeal.Gen.keys_at m c)
      (Cert.KernelIdeal.Gen.values_at m c) h0 h1 h2 h3)

/-- The value claim. -/
theorem algebraic :
    algebraic_KernelIdeal_ReferenceIdeal_pre_finite (hKernelIdeal := Cert.KernelIdeal.Gen.facts)
      (hReferenceIdeal := Cert.ReferenceIdeal.Gen.facts) (hPre_finite := finiteFacts) := by
  intro m g m' g' hpre hagree
  haveI := finiteFacts
  refine ⟨fun c => (Cert.KernelIdeal.Gen.dats m 0 c).arrAt 5 Cert.KernelIdeal.cfg0.N,
    Cert.KernelIdeal.Value.run_blocks m g, ?_⟩
  refine (θ_run _ _ _).mono (fun r h c => ?_) (Cert.ReferenceIdeal.Value.run m' g')
  refine ⟨?_, (h c).2⟩
  obtain ⟨a0, a1, a2, a3, a4, a5⟩ := hagree c
  rw [(h c).1, Cert.ReferenceIdeal.Read.val_main_v42_eq, a0, a1, a2, a3, a4, a5]
  exact (arrays_eq m hpre c).symm

/-- The reference runs, keeps its arguments and leaves every counter at zero. -/
theorem reference_frame : quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The side conditions of the second precondition's operations. -/
theorem finiteFacts2 : Cert.Pre_finite2.Facts := ⟨by decide, by decide, by decide, by decide⟩

/-- The second precondition says that the queries and the keys are real numbers. -/
theorem real_of_finite2 [Cert.Pre_finite2.Facts]
    (m : (ℓ : Loc Cert.Kernel2Ideal.nD Cert.Kernel2Ideal.τ Cert.Kernel2Ideal.sig) → Buf (Elt Ideal) ℓ)
    (h : Cert.Pre_Kernel2Ideal_finite2 m) (c : Dev Cert.Kernel2Ideal.nD) :
    Tokens.AllReal (s := ⟨4, ![8, 4096, 16, 64]⟩) (m ((c.tc : Thread Cert.Kernel2Ideal.nD Cert.Kernel2Ideal.τ).loc Cert.Kernel2Ideal.main_arg0))
    ∧ Tokens.AllReal (s := ⟨4, ![8, 256, 16, 64]⟩) (m ((c.tc : Thread Cert.Kernel2Ideal.nD Cert.Kernel2Ideal.τ).loc Cert.Kernel2Ideal.main_arg1))
    ∧ Tokens.AllReal (s := ⟨4, ![8, 4096, 4, 64]⟩) (m ((c.tc : Thread Cert.Kernel2Ideal.nD Cert.Kernel2Ideal.τ).loc Cert.Kernel2Ideal.main_arg2))
    ∧ Tokens.AllReal (s := ⟨4, ![8, 256, 4, 64]⟩) (m ((c.tc : Thread Cert.Kernel2Ideal.nD Cert.Kernel2Ideal.τ).loc Cert.Kernel2Ideal.main_arg3)) :=
  ⟨fun i => Tokens.real_of_abs _ (congrFun (h c).1 i), fun i => Tokens.real_of_abs _ (congrFun (h c).2.1 i),
    fun i => Tokens.real_of_abs _ (congrFun (h c).2.2.1 i), fun i => Tokens.real_of_abs _ (congrFun (h c).2.2.2 i)⟩

/-- The grouped-query attention's result array is the reference's, from equal arguments with finite queries and keys. -/
theorem arrays_eq2 [Cert.Pre_finite2.Facts]
    (m : (ℓ : Loc Cert.Kernel2Ideal.nD Cert.Kernel2Ideal.τ Cert.Kernel2Ideal.sig) → Buf (Elt Ideal) ℓ)
    (h : Cert.Pre_Kernel2Ideal_finite2 m) (c : Dev Cert.Kernel2Ideal.nD) :
    (Cert.Kernel2Ideal.Gen.dats m 0 c).arrAt 5 Cert.Kernel2Ideal.cfg0.N
      = Cert.Reference2Ideal.Read.val_main_v42 (F := Ideal)
        (m ((c.tc : Thread Cert.Kernel2Ideal.nD Cert.Kernel2Ideal.τ).loc Cert.Kernel2Ideal.main_arg0))
        (m ((c.tc : Thread Cert.Kernel2Ideal.nD Cert.Kernel2Ideal.τ).loc Cert.Kernel2Ideal.main_arg1))
        (m ((c.tc : Thread Cert.Kernel2Ideal.nD Cert.Kernel2Ideal.τ).loc Cert.Kernel2Ideal.main_arg2))
        (m ((c.tc : Thread Cert.Kernel2Ideal.nD Cert.Kernel2Ideal.τ).loc Cert.Kernel2Ideal.main_arg3))
        (m ((c.tc : Thread Cert.Kernel2Ideal.nD Cert.Kernel2Ideal.τ).loc Cert.Kernel2Ideal.main_arg4))
        (m ((c.tc : Thread Cert.Kernel2Ideal.nD Cert.Kernel2Ideal.τ).loc Cert.Kernel2Ideal.main_arg5)) := by
  obtain ⟨h0, h1, h2, h3⟩ := real_of_finite2 m h c
  exact (Cert.Kernel2Ideal.Gen.arr_result m c).trans
    (Equal2.result_eq _ _ _ _ _ _ _ _ _ (Cert.Kernel2Ideal.Gen.queries_at m c) (Cert.Kernel2Ideal.Gen.keys_at m c)
      (Cert.Kernel2Ideal.Gen.values_at m c) h0 h1 h2 h3)

/-- The value claim of the grouped-query attention. -/
theorem algebraic2 :
    algebraic_Kernel2Ideal_Reference2Ideal_pre_finite2 (hKernel2Ideal := Cert.Kernel2Ideal.Gen.facts)
      (hReference2Ideal := Cert.Reference2Ideal.Gen.facts) (hPre_finite2 := finiteFacts2) := by
  intro m g m' g' hpre hagree
  haveI := finiteFacts2
  refine ⟨fun c => (Cert.Kernel2Ideal.Gen.dats m 0 c).arrAt 5 Cert.Kernel2Ideal.cfg0.N,
    Cert.Kernel2Ideal.Value.run_blocks m g, ?_⟩
  refine (θ_run _ _ _).mono (fun r h c => ?_) (Cert.Reference2Ideal.Value.run m' g')
  refine ⟨?_, (h c).2⟩
  obtain ⟨a0, a1, a2, a3, a4, a5⟩ := hagree c
  rw [(h c).1, Cert.Reference2Ideal.Read.val_main_v42_eq, a0, a1, a2, a3, a4, a5]
  exact (arrays_eq2 m hpre c).symm

/-- The grouped-query reference runs, keeps its arguments and leaves every counter at zero. -/
theorem reference2_frame : quiescent_Reference2Ideal (hReference2Ideal := Cert.Reference2Ideal.Gen.facts) := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The side conditions of the tables' precondition. -/
theorem tilesFacts : Cert.Pre_tiles.Facts := ⟨by decide, by decide⟩

/-- The side conditions of the experts' precondition. -/
theorem routedFacts : Cert.Pre_routed.Facts := ⟨by decide, by decide, by decide, by decide⟩

section

variable {F : FTy → Type} [FloatOps F] (m : (ℓ : Loc Cert.Kernel3Ideal.nD Cert.Kernel3Ideal.τ Cert.Kernel3Ideal.sig) → Buf (Elt F) ℓ)

/-- The tables in memory name experts. -/
def Routed : Prop := ∀ c : Dev Cert.Kernel3Ideal.nD, ∃ A B n, Cert.Kernel3Ideal.Ok.Names
  (m ((c.tc : Thread Cert.Kernel3Ideal.nD Cert.Kernel3Ideal.τ).loc Cert.Kernel3Ideal.main_arg1))
  (m ((c.tc : Thread Cert.Kernel3Ideal.nD Cert.Kernel3Ideal.τ).loc Cert.Kernel3Ideal.main_arg2))
  (m ((c.tc : Thread Cert.Kernel3Ideal.nD Cert.Kernel3Ideal.τ).loc Cert.Kernel3Ideal.main_arg3)) A B n

/-- Then the call's tables name experts. -/
theorem named_of (h : Routed m) : ∃ A B n, Cert.Kernel3Ideal.Ok.Named (Cert.Kernel3Ideal.Run.tab m) A B n := by
  obtain ⟨A, B, n, hN⟩ := h 0
  refine ⟨A, B, n, ?_⟩
  have e1 := Cert.Kernel3Ideal.Run.V_arg m 0 Cert.Kernel3Ideal.main_arg1 (by simp)
  have e2 := Cert.Kernel3Ideal.Run.V_arg m 0 Cert.Kernel3Ideal.main_arg2 (by simp)
  have e3 := Cert.Kernel3Ideal.Run.V_arg m 0 Cert.Kernel3Ideal.main_arg3 (by simp)
  rw [← e1, ← e2, ← e3] at hN
  exact hN

/-- And its blocks lie inside their arrays. -/
theorem ok_of (h : Routed m) : Cert.Kernel3Ideal.Run.Ok m := by
  obtain ⟨A, B, n, hN⟩ := named_of m h
  exact Cert.Kernel3Ideal.Ok.ok _ A B n hN

/-- With tables that name experts every run ends, keeps the arguments and leaves every counter at zero. -/
theorem experts_frame (ρ : Dev Cert.Kernel3Ideal.nD → PrngReg) (h : Routed m) :
    θ_run (Cert.Kernel3Ideal.defs (F := F)) (onTc (τ := Cert.Kernel3Ideal.τ) (Cert.Kernel3Ideal.main (F := F))) ⟨m, fun _ => 0, ρ⟩ (fun r =>
      (∀ c : Dev Cert.Kernel3Ideal.nD,
        r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
        ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
        ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
        ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
        ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
        ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
        ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
        ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0) :=
  (θ_run Cert.Kernel3Ideal.defs _ _).mono
    (fun r h => ⟨fun c => ⟨h.1.2 c _ (by simp), h.1.2 c _ (by simp), h.1.2 c _ (by simp), h.1.2 c _ (by simp), h.1.2 c _ (by simp),
      h.1.2 c _ (by simp), h.1.2 c _ (by simp), h.1.2 c _ (by simp)⟩, h.2⟩)
    (Cert.Kernel3Ideal.Run.run_main m ρ (ok_of m h))

end

/-- The tables' precondition says that the tables name experts, at the machine's words. -/
theorem routed_bits [Cert.Pre_tiles.Facts] (m : (ℓ : Loc Cert.Kernel3.nD Cert.Kernel3.τ Cert.Kernel3.sig) → Buf (Elt Bits) ℓ)
    (h : Cert.Pre_Kernel3 m) : Routed (F := Bits) m := fun c =>
  Cert.Kernel3Ideal.Ok.names_of _ _ _ (fun t => congrFun (h c).1 (ix1 t)) (fun t => congrFun (h c).2.1 (ix1 t))
    (fun t => congrFun (h c).2.2.1 (ix1 t)) (fun t => congrFun (h c).2.2.2.1 (ix1 t))
    (congrFun (h c).2.2.2.2.1 (ix1 0)) (congrFun (h c).2.2.2.2.2 (ix1 0))

/-- The same at the exact numbers. -/
theorem routed_ideal [Cert.Pre_tiles.Facts]
    (m : (ℓ : Loc Cert.Kernel3Ideal.nD Cert.Kernel3Ideal.τ Cert.Kernel3Ideal.sig) → Buf (Elt Ideal) ℓ)
    (h : Cert.Pre_Kernel3Ideal m) : Routed m := fun c =>
  Cert.Kernel3Ideal.Ok.names_of _ _ _ (fun t => congrFun (h c).1 (ix1 t)) (fun t => congrFun (h c).2.1 (ix1 t))
    (fun t => congrFun (h c).2.2.1 (ix1 t)) (fun t => congrFun (h c).2.2.2.1 (ix1 t))
    (congrFun (h c).2.2.2.2.1 (ix1 0)) (congrFun (h c).2.2.2.2.2 (ix1 0))

/-- The experts' precondition says so too. -/
theorem routed_real [Cert.Pre_routed.Facts]
    (m : (ℓ : Loc Cert.Kernel3Ideal.nD Cert.Kernel3Ideal.τ Cert.Kernel3Ideal.sig) → Buf (Elt Ideal) ℓ)
    (h : Cert.Pre_Kernel3Ideal_routed m) : Routed m := fun c =>
  Cert.Kernel3Ideal.Ok.names_of _ _ _ (fun t => congrFun (h c).1 (ix1 t)) (fun t => congrFun (h c).2.1 (ix1 t))
    (fun t => congrFun (h c).2.2.1 (ix1 t)) (fun t => congrFun (h c).2.2.2.1 (ix1 t))
    (congrFun (h c).2.2.2.2.1 (ix1 0)) (congrFun (h c).2.2.2.2.2.1 (ix1 0))

/-- It also says that the rows and the router's weights are real numbers. -/
theorem real_of_routed [Cert.Pre_routed.Facts]
    (m : (ℓ : Loc Cert.Kernel3Ideal.nD Cert.Kernel3Ideal.τ Cert.Kernel3Ideal.sig) → Buf (Elt Ideal) ℓ)
    (h : Cert.Pre_Kernel3Ideal_routed m) (c : Dev Cert.Kernel3Ideal.nD) :
    Tokens.AllReal (s := ⟨2, ![40960, 1024]⟩) (m ((c.tc : Thread Cert.Kernel3Ideal.nD Cert.Kernel3Ideal.τ).loc Cert.Kernel3Ideal.main_arg0))
    ∧ Tokens.AllReal (s := ⟨2, ![1024, 16]⟩) (m ((c.tc : Thread Cert.Kernel3Ideal.nD Cert.Kernel3Ideal.τ).loc Cert.Kernel3Ideal.main_arg4)) :=
  ⟨fun i => Tokens.real_of_abs _ (congrFun (h c).2.2.2.2.2.2.1 i), fun i => Tokens.real_of_abs _ (congrFun (h c).2.2.2.2.2.2.2 i)⟩

/-- The experts' result array is the reference's, from equal arguments. -/
theorem arrays_eq3 [Cert.Pre_routed.Facts]
    (m : (ℓ : Loc Cert.Kernel3Ideal.nD Cert.Kernel3Ideal.τ Cert.Kernel3Ideal.sig) → Buf (Elt Ideal) ℓ)
    (h : Cert.Pre_Kernel3Ideal_routed m) (c : Dev Cert.Kernel3Ideal.nD) :
    (Cert.Kernel3Ideal.Run.dats m (ok_of m (routed_real m h)) 0 c).arrAt 6 (Cert.Kernel3Ideal.Run.call m (ok_of m (routed_real m h))).N
      = Cert.Reference3Ideal.Read.val_main_v53 (F := Ideal)
        (m ((c.tc : Thread Cert.Kernel3Ideal.nD Cert.Kernel3Ideal.τ).loc Cert.Kernel3Ideal.main_arg0))
        (m ((c.tc : Thread Cert.Kernel3Ideal.nD Cert.Kernel3Ideal.τ).loc Cert.Kernel3Ideal.main_arg1))
        (m ((c.tc : Thread Cert.Kernel3Ideal.nD Cert.Kernel3Ideal.τ).loc Cert.Kernel3Ideal.main_arg2))
        (m ((c.tc : Thread Cert.Kernel3Ideal.nD Cert.Kernel3Ideal.τ).loc Cert.Kernel3Ideal.main_arg3))
        (m ((c.tc : Thread Cert.Kernel3Ideal.nD Cert.Kernel3Ideal.τ).loc Cert.Kernel3Ideal.main_arg4))
        (m ((c.tc : Thread Cert.Kernel3Ideal.nD Cert.Kernel3Ideal.τ).loc Cert.Kernel3Ideal.main_arg5))
        (m ((c.tc : Thread Cert.Kernel3Ideal.nD Cert.Kernel3Ideal.τ).loc Cert.Kernel3Ideal.main_arg6))
        (m ((c.tc : Thread Cert.Kernel3Ideal.nD Cert.Kernel3Ideal.τ).loc Cert.Kernel3Ideal.main_arg7)) := by
  obtain ⟨h0, h4⟩ := real_of_routed m h c
  obtain rfl : c = 0 := Subsingleton.elim _ _
  obtain ⟨A, B, n, hN⟩ := named_of m (routed_real m h)
  refine (Cert.Kernel3Ideal.Array.arr_result m _ A B n hN 0).trans ?_
  have e1 := Cert.Kernel3Ideal.Run.V_arg m 0 Cert.Kernel3Ideal.main_arg1 (by simp)
  have e2 := Cert.Kernel3Ideal.Run.V_arg m 0 Cert.Kernel3Ideal.main_arg2 (by simp)
  have e3 := Cert.Kernel3Ideal.Run.V_arg m 0 Cert.Kernel3Ideal.main_arg3 (by simp)
  refine Equal3.result_eq _ _ _ _ _ _ _ _ _ _ _ _ (Cert.Kernel3Ideal.Host.rows_of m 0) (Cert.Kernel3Ideal.Host.router_of m 0)
    (Cert.Kernel3Ideal.Host.gate_of m 0) (Cert.Kernel3Ideal.Host.up_of m 0) (Cert.Kernel3Ideal.Host.down_of m 0) A B n ?_ h0 h4
  rw [← e1, ← e2, ← e3]
  exact hN

/-- The value claim of the experts. -/
theorem algebraic3 :
    algebraic_Kernel3Ideal_Reference3Ideal_pre_routed (hKernel3Ideal := Cert.Kernel3Ideal.Gen.facts)
      (hReference3Ideal := Cert.Reference3Ideal.Gen.facts) (hPre_routed := routedFacts) := by
  intro m g m' g' hpre hagree
  haveI := routedFacts
  have hO := ok_of m (routed_real m hpre)
  refine ⟨fun c => (Cert.Kernel3Ideal.Run.dats m hO 0 c).arrAt 6 (Cert.Kernel3Ideal.Run.call m hO).N,
    (θ_run _ _ _).mono (fun r h c => ⟨h.1.1 c, h.1.2 c _ (by simp), h.1.2 c _ (by simp), h.1.2 c _ (by simp), h.1.2 c _ (by simp),
      h.1.2 c _ (by simp), h.1.2 c _ (by simp), h.1.2 c _ (by simp), h.1.2 c _ (by simp)⟩) (Cert.Kernel3Ideal.Run.run_main m g hO), ?_⟩
  refine (θ_run _ _ _).mono (fun r h c => ?_) (Cert.Reference3Ideal.Value.run m' g')
  refine ⟨?_, (h c).2⟩
  obtain ⟨a0, a1, a2, a3, a4, a5, a6, a7⟩ := hagree c
  rw [(h c).1, Cert.Reference3Ideal.Read.val_main_v53_eq, a0, a1, a2, a3, a4, a5, a6, a7]
  exact (arrays_eq3 m hpre c).symm

/-- The experts' reference runs, keeps its arguments and leaves every counter at zero. -/
theorem reference3_frame : quiescent_Reference3Ideal (hReference3Ideal := Cert.Reference3Ideal.Gen.facts) := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- The experts' kernel at the machine's words runs as its idealized copy does, being the same program. -/
theorem experts_bits : quiescent_Kernel3 (hKernel3 := Cert.Kernel3.Gen.facts) (hPre_tiles := tilesFacts) := fun m ρ h => by
  haveI := tilesFacts
  haveI := Cert.Kernel3.Gen.facts
  refine Eq.mpr (congrArg₂ (fun D M => θ_run D (onTc M) _ _) (Same3.defs_same (F := Bits)) (Same3.main_same (F := Bits))) ?_
  exact experts_frame (F := Bits) m ρ (routed_bits m h)

/-- Everything that is claimed. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    finiteFacts, finiteFacts2, tilesFacts, routedFacts,
    fun m ρ _ => Cert.Kernel.Gen.frame m ρ,
    fun m ρ _ => Cert.KernelIdeal.Gen.frame m ρ,
    fun m ρ _ => Cert.KernelIdeal.Gen.frame m ρ,
    fun m ρ _ => reference_frame m ρ trivial,
    fun m ρ _ => reference_frame m ρ trivial,
    fun m ρ _ => Cert.Kernel2.Gen.frame m ρ,
    fun m ρ _ => Cert.Kernel2Ideal.Gen.frame m ρ,
    fun m ρ _ => Cert.Kernel2Ideal.Gen.frame m ρ,
    fun m ρ _ => reference2_frame m ρ trivial,
    fun m ρ _ => reference2_frame m ρ trivial,
    experts_bits,
    fun m ρ h => haveI := tilesFacts; experts_frame m ρ (routed_ideal m h),
    fun m ρ h => haveI := routedFacts; experts_frame m ρ (routed_real m h),
    fun m ρ _ => reference3_frame m ρ trivial,
    fun m ρ _ => reference3_frame m ρ trivial,
    IdealRules.named_const.statement Cert.KernelIdeal.κ "qscale" .f32 0x3E16C740#32
      (((3424635 / 33554432) * (Real.log 2)⁻¹ : ℝ) : EReal) rfl,
    algebraic,
    IdealRules.named_const.statement Cert.Kernel2Ideal.κ "qscale" .f32 0x3E38AA3B#32
      (((1 / 8) * (Real.log 2)⁻¹ : ℝ) : EReal) rfl,
    algebraic2,
    trivial,
    algebraic3⟩

end Cert.Proof

end
